-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S1x1024x1024 : Shape := ⟨3, ![1, 1024, 1024]⟩
abbrev S1x2048x1024 : Shape := ⟨3, ![1, 2048, 1024]⟩
abbrev S1x2048 : Shape := ⟨2, ![1, 2048]⟩
abbrev S1024 : Shape := ⟨1, ![1024]⟩
abbrev S1024x4384 : Shape := ⟨2, ![1024, 4384]⟩
abbrev S2304x4 : Shape := ⟨2, ![2304, 4]⟩
abbrev S2304 : Shape := ⟨1, ![2304]⟩
abbrev S32 : Shape := ⟨1, ![32]⟩
abbrev S2048 : Shape := ⟨1, ![2048]⟩
abbrev S2048x1024 : Shape := ⟨2, ![2048, 1024]⟩
abbrev S1024x1024 : Shape := ⟨2, ![1024, 1024]⟩
abbrev S_ : Shape := ⟨0, ![]⟩

class Facts : Prop where
  reducesTo_S1x2048_S_d0_1 : S1x2048.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1024 : S_.BroadcastsInDim S1024 (![] : Fin 0 → Fin S1024.rank)
  reducesTo_S1024_S_d0 : S1024.ReducesTo [0] S_
  bcast_S_S1024x4384 : S_.BroadcastsInDim S1024x4384 (![] : Fin 0 → Fin S1024x4384.rank)
  reducesTo_S1024x4384_S_d0_1 : S1024x4384.ReducesTo [0, 1] S_
  bcast_S_S2304x4 : S_.BroadcastsInDim S2304x4 (![] : Fin 0 → Fin S2304x4.rank)
  reducesTo_S2304x4_S_d0_1 : S2304x4.ReducesTo [0, 1] S_
  bcast_S_S2304 : S_.BroadcastsInDim S2304 (![] : Fin 0 → Fin S2304.rank)
  reducesTo_S2304_S_d0 : S2304.ReducesTo [0] S_
  bcast_S_S32 : S_.BroadcastsInDim S32 (![] : Fin 0 → Fin S32.rank)
  reducesTo_S32_S_d0 : S32.ReducesTo [0] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part5 {F : FTy → Type} [FloatOps F] (main_v81 : IVec S_ 1) (main_v84 : IVec S1024x1024 1) (main_c_32 : IVec S_ 1) : IVec S_ 1 :=
  let main_v85 : IVec S_ 1 := (fun x v => Host.reduce IntOp.andi x v reducesTo_S1024x1024_S_d0_1 h_S_) main_v84 main_c_32
  let main_v86 : IVec S_ 1 := andi main_v81 main_v85
  main_v86

def fn_part4 {F : FTy → Type} [FloatOps F] (main_arg15 : FVec F S1024x1024 .f32) (main_arg16 : FVec F S1024x1024 .f32) (main_arg17 : FVec F S1024x1024 .f32) (main_v66 : IVec S_ 1) (main_v67 : FVec F S1024x1024 .f32) (main_cst_25 : FVec F S_ .f32) : IVec S_ 1 :=
  let main_v68 : FVec F S1024x1024 .f32 := broadcastInDim S1024x1024 ![] bcast_S_S1024x1024 main_cst_25
  let main_v69 : IVec S1024x1024 1 := cmpf .olt main_v67 main_v68
  let main_c_26 : IVec S_ 1 := constantI S_ 1 1#1
  let main_v70 : IVec S_ 1 := (fun x v => Host.reduce IntOp.andi x v reducesTo_S1024x1024_S_d0_1 h_S_) main_v69 main_c_26
  let main_v71 : IVec S_ 1 := andi main_v66 main_v70
  let main_v72 : FVec F S1024x1024 .f32 := Host.absf main_arg15
  let main_cst_27 : FVec F S_ .f32 := constant S_ .f32 0x7F800000#32
  let main_v73 : FVec F S1024x1024 .f32 := broadcastInDim S1024x1024 ![] bcast_S_S1024x1024 main_cst_27
  let main_v74 : IVec S1024x1024 1 := cmpf .olt main_v72 main_v73
  let main_c_28 : IVec S_ 1 := constantI S_ 1 1#1
  let main_v75 : IVec S_ 1 := (fun x v => Host.reduce IntOp.andi x v reducesTo_S1024x1024_S_d0_1 h_S_) main_v74 main_c_28
  let main_v76 : IVec S_ 1 := andi main_v71 main_v75
  let main_v77 : FVec F S1024x1024 .f32 := Host.absf main_arg16
  let main_cst_29 : FVec F S_ .f32 := constant S_ .f32 0x7F800000#32
  let main_v78 : FVec F S1024x1024 .f32 := broadcastInDim S1024x1024 ![] bcast_S_S1024x1024 main_cst_29
  let main_v79 : IVec S1024x1024 1 := cmpf .olt main_v77 main_v78
  let main_c_30 : IVec S_ 1 := constantI S_ 1 1#1
  let main_v80 : IVec S_ 1 := (fun x v => Host.reduce IntOp.andi x v reducesTo_S1024x1024_S_d0_1 h_S_) main_v79 main_c_30
  let main_v81 : IVec S_ 1 := andi main_v76 main_v80
  let main_v82 : FVec F S1024x1024 .f32 := Host.absf main_arg17
  let main_cst_31 : FVec F S_ .f32 := constant S_ .f32 0x7F800000#32
  let main_v83 : FVec F S1024x1024 .f32 := broadcastInDim S1024x1024 ![] bcast_S_S1024x1024 main_cst_31
  let main_v84 : IVec S1024x1024 1 := cmpf .olt main_v82 main_v83
  let main_c_32 : IVec S_ 1 := constantI S_ 1 1#1
  fn_part5 (F := F) main_v81 main_v84 main_c_32

def fn_part3 {F : FTy → Type} [FloatOps F] (main_arg11 : FVec F S2048x1024 .f32) (main_arg12 : FVec F S1024 .f32) (main_arg13 : FVec F S1024 .f32) (main_arg14 : FVec F S1024x1024 .f32) (main_arg15 : FVec F S1024x1024 .f32) (main_arg16 : FVec F S1024x1024 .f32) (main_arg17 : FVec F S1024x1024 .f32) (main_v46 : IVec S_ 1) (main_v50 : IVec S_ 1) : IVec S_ 1 :=
  let main_v51 : IVec S_ 1 := andi main_v46 main_v50
  let main_v52 : FVec F S2048x1024 .f32 := Host.absf main_arg11
  let main_cst_19 : FVec F S_ .f32 := constant S_ .f32 0x7F800000#32
  let main_v53 : FVec F S2048x1024 .f32 := broadcastInDim S2048x1024 ![] bcast_S_S2048x1024 main_cst_19
  let main_v54 : IVec S2048x1024 1 := cmpf .olt main_v52 main_v53
  let main_c_20 : IVec S_ 1 := constantI S_ 1 1#1
  let main_v55 : IVec S_ 1 := (fun x v => Host.reduce IntOp.andi x v reducesTo_S2048x1024_S_d0_1 h_S_) main_v54 main_c_20
  let main_v56 : IVec S_ 1 := andi main_v51 main_v55
  let main_v57 : FVec F S1024 .f32 := Host.absf main_arg12
  let main_cst_21 : FVec F S_ .f32 := constant S_ .f32 0x7F800000#32
  let main_v58 : FVec F S1024 .f32 := broadcastInDim S1024 ![] bcast_S_S1024 main_cst_21
  let main_v59 : IVec S1024 1 := cmpf .olt main_v57 main_v58
  let main_c_22 : IVec S_ 1 := constantI S_ 1 1#1
  let main_v60 : IVec S_ 1 := (fun x v => Host.reduce IntOp.andi x v reducesTo_S1024_S_d0 h_S_) main_v59 main_c_22
  let main_v61 : IVec S_ 1 := andi main_v56 main_v60
  let main_v62 : FVec F S1024 .f32 := Host.absf main_arg13
  let main_cst_23 : FVec F S_ .f32 := constant S_ .f32 0x7F800000#32
  let main_v63 : FVec F S1024 .f32 := broadcastInDim S1024 ![] bcast_S_S1024 main_cst_23
  let main_v64 : IVec S1024 1 := cmpf .olt main_v62 main_v63
  let main_c_24 : IVec S_ 1 := constantI S_ 1 1#1
  let main_v65 : IVec S_ 1 := (fun x v => Host.reduce IntOp.andi x v reducesTo_S1024_S_d0 h_S_) main_v64 main_c_24
  let main_v66 : IVec S_ 1 := andi main_v61 main_v65
  let main_v67 : FVec F S1024x1024 .f32 := Host.absf main_arg14
  let main_cst_25 : FVec F S_ .f32 := constant S_ .f32 0x7F800000#32
  fn_part4 (F := F) main_arg15 main_arg16 main_arg17 main_v66 main_v67 main_cst_25

def fn_part2 {F : FTy → Type} [FloatOps F] (main_arg8 : FVec F S32 .f32) (main_arg9 : FVec F S32 .f32) (main_arg10 : FVec F S2048 .f32) (main_arg11 : FVec F S2048x1024 .f32) (main_arg12 : FVec F S1024 .f32) (main_arg13 : FVec F S1024 .f32) (main_arg14 : FVec F S1024x1024 .f32) (main_arg15 : FVec F S1024x1024 .f32) (main_arg16 : FVec F S1024x1024 .f32) (main_arg17 : FVec F S1024x1024 .f32) (main_v31 : IVec S_ 1) (main_v32 : FVec F S32 .f32) (main_v33 : FVec F S32 .f32) : IVec S_ 1 :=
  let main_v34 : IVec S32 1 := cmpf .olt main_v32 main_v33
  let main_c_12 : IVec S_ 1 := constantI S_ 1 1#1
  let main_v35 : IVec S_ 1 := (fun x v => Host.reduce IntOp.andi x v reducesTo_S32_S_d0 h_S_) main_v34 main_c_12
  let main_v36 : IVec S_ 1 := andi main_v31 main_v35
  let main_v37 : FVec F S32 .f32 := Host.absf main_arg8
  let main_cst_13 : FVec F S_ .f32 := constant S_ .f32 0x7F800000#32
  let main_v38 : FVec F S32 .f32 := broadcastInDim S32 ![] bcast_S_S32 main_cst_13
  let main_v39 : IVec S32 1 := cmpf .olt main_v37 main_v38
  let main_c_14 : IVec S_ 1 := constantI S_ 1 1#1
  let main_v40 : IVec S_ 1 := (fun x v => Host.reduce IntOp.andi x v reducesTo_S32_S_d0 h_S_) main_v39 main_c_14
  let main_v41 : IVec S_ 1 := andi main_v36 main_v40
  let main_v42 : FVec F S32 .f32 := Host.absf main_arg9
  let main_cst_15 : FVec F S_ .f32 := constant S_ .f32 0x7F800000#32
  let main_v43 : FVec F S32 .f32 := broadcastInDim S32 ![] bcast_S_S32 main_cst_15
  let main_v44 : IVec S32 1 := cmpf .olt main_v42 main_v43
  let main_c_16 : IVec S_ 1 := constantI S_ 1 1#1
  let main_v45 : IVec S_ 1 := (fun x v => Host.reduce IntOp.andi x v reducesTo_S32_S_d0 h_S_) main_v44 main_c_16
  let main_v46 : IVec S_ 1 := andi main_v41 main_v45
  let main_v47 : FVec F S2048 .f32 := Host.absf main_arg10
  let main_cst_17 : FVec F S_ .f32 := constant S_ .f32 0x7F800000#32
  let main_v48 : FVec F S2048 .f32 := broadcastInDim S2048 ![] bcast_S_S2048 main_cst_17
  let main_v49 : IVec S2048 1 := cmpf .olt main_v47 main_v48
  let main_c_18 : IVec S_ 1 := constantI S_ 1 1#1
  let main_v50 : IVec S_ 1 := (fun x v => Host.reduce IntOp.andi x v reducesTo_S2048_S_d0 h_S_) main_v49 main_c_18
  fn_part3 (F := F) main_arg11 main_arg12 main_arg13 main_arg14 main_arg15 main_arg16 main_arg17 main_v46 main_v50

def fn_part1 {F : FTy → Type} [FloatOps F] (main_arg4 : FVec F S1024x4384 .f32) (main_arg5 : FVec F S2304x4 .f32) (main_arg6 : FVec F S2304 .f32) (main_arg7 : FVec F S32 .f32) (main_arg8 : FVec F S32 .f32) (main_arg9 : FVec F S32 .f32) (main_arg10 : FVec F S2048 .f32) (main_arg11 : FVec F S2048x1024 .f32) (main_arg12 : FVec F S1024 .f32) (main_arg13 : FVec F S1024 .f32) (main_arg14 : FVec F S1024x1024 .f32) (main_arg15 : FVec F S1024x1024 .f32) (main_arg16 : FVec F S1024x1024 .f32) (main_arg17 : FVec F S1024x1024 .f32) (main_v16 : IVec S_ 1) : IVec S_ 1 :=
  let main_v17 : FVec F S1024x4384 .f32 := Host.absf main_arg4
  let main_cst_5 : FVec F S_ .f32 := constant S_ .f32 0x7F800000#32
  let main_v18 : FVec F S1024x4384 .f32 := broadcastInDim S1024x4384 ![] bcast_S_S1024x4384 main_cst_5
  let main_v19 : IVec S1024x4384 1 := cmpf .olt main_v17 main_v18
  let main_c_6 : IVec S_ 1 := constantI S_ 1 1#1
  let main_v20 : IVec S_ 1 := (fun x v => Host.reduce IntOp.andi x v reducesTo_S1024x4384_S_d0_1 h_S_) main_v19 main_c_6
  let main_v21 : IVec S_ 1 := andi main_v16 main_v20
  let main_v22 : FVec F S2304x4 .f32 := Host.absf main_arg5
  let main_cst_7 : FVec F S_ .f32 := constant S_ .f32 0x7F800000#32
  let main_v23 : FVec F S2304x4 .f32 := broadcastInDim S2304x4 ![] bcast_S_S2304x4 main_cst_7
  let main_v24 : IVec S2304x4 1 := cmpf .olt main_v22 main_v23
  let main_c_8 : IVec S_ 1 := constantI S_ 1 1#1
  let main_v25 : IVec S_ 1 := (fun x v => Host.reduce IntOp.andi x v reducesTo_S2304x4_S_d0_1 h_S_) main_v24 main_c_8
  let main_v26 : IVec S_ 1 := andi main_v21 main_v25
  let main_v27 : FVec F S2304 .f32 := Host.absf main_arg6
  let main_cst_9 : FVec F S_ .f32 := constant S_ .f32 0x7F800000#32
  let main_v28 : FVec F S2304 .f32 := broadcastInDim S2304 ![] bcast_S_S2304 main_cst_9
  let main_v29 : IVec S2304 1 := cmpf .olt main_v27 main_v28
  let main_c_10 : IVec S_ 1 := constantI S_ 1 1#1
  let main_v30 : IVec S_ 1 := (fun x v => Host.reduce IntOp.andi x v reducesTo_S2304_S_d0 h_S_) main_v29 main_c_10
  let main_v31 : IVec S_ 1 := andi main_v26 main_v30
  let main_v32 : FVec F S32 .f32 := Host.absf main_arg7
  let main_cst_11 : FVec F S_ .f32 := constant S_ .f32 0x7F800000#32
  let main_v33 : FVec F S32 .f32 := broadcastInDim S32 ![] bcast_S_S32 main_cst_11
  fn_part2 (F := F) main_arg8 main_arg9 main_arg10 main_arg11 main_arg12 main_arg13 main_arg14 main_arg15 main_arg16 main_arg17 main_v31 main_v32 main_v33

def fn {F : FTy → Type} [FloatOps F] (main_arg0 : FVec F S1x1024x1024 .f32) (main_arg1 : FVec F S1x2048x1024 .f32) (main_arg2 : IVec S1x2048 1) (main_arg3 : FVec F S1024 .f32) (main_arg4 : FVec F S1024x4384 .f32) (main_arg5 : FVec F S2304x4 .f32) (main_arg6 : FVec F S2304 .f32) (main_arg7 : FVec F S32 .f32) (main_arg8 : FVec F S32 .f32) (main_arg9 : FVec F S32 .f32) (main_arg10 : FVec F S2048 .f32) (main_arg11 : FVec F S2048x1024 .f32) (main_arg12 : FVec F S1024 .f32) (main_arg13 : FVec F S1024 .f32) (main_arg14 : FVec F S1024x1024 .f32) (main_arg15 : FVec F S1024x1024 .f32) (main_arg16 : FVec F S1024x1024 .f32) (main_arg17 : FVec F S1024x1024 .f32) : IVec S_ 1 :=
  let main_c : IVec S_ 1 := constantI S_ 1 0#1
  let main_v0 : IVec S_ 1 := (fun x v => Host.reduce IntOp.ori x v reducesTo_S1x2048_S_d0_1 h_S_) main_arg2 main_c
  let main_v1 : IVec S_ 1 := noti main_v0
  let main_v2 : FVec F S1x1024x1024 .f32 := Host.absf main_arg0
  let main_cst : FVec F S_ .f32 := constant S_ .f32 0x7F800000#32
  let main_v3 : FVec F S1x1024x1024 .f32 := broadcastInDim S1x1024x1024 ![] bcast_S_S1x1024x1024 main_cst
  let main_v4 : IVec S1x1024x1024 1 := cmpf .olt main_v2 main_v3
  let main_c_0 : IVec S_ 1 := constantI S_ 1 1#1
  let main_v5 : IVec S_ 1 := (fun x v => Host.reduce IntOp.andi x v reducesTo_S1x1024x1024_S_d0_1_2 h_S_) main_v4 main_c_0
  let main_v6 : IVec S_ 1 := andi main_v1 main_v5
  let main_v7 : FVec F S1x2048x1024 .f32 := Host.absf main_arg1
  let main_cst_1 : FVec F S_ .f32 := constant S_ .f32 0x7F800000#32
  let main_v8 : FVec F S1x2048x1024 .f32 := broadcastInDim S1x2048x1024 ![] bcast_S_S1x2048x1024 main_cst_1
  let main_v9 : IVec S1x2048x1024 1 := cmpf .olt main_v7 main_v8
  let main_c_2 : IVec S_ 1 := constantI S_ 1 1#1
  let main_v10 : IVec S_ 1 := (fun x v => Host.reduce IntOp.andi x v reducesTo_S1x2048x1024_S_d0_1_2 h_S_) main_v9 main_c_2
  let main_v11 : IVec S_ 1 := andi main_v6 main_v10
  let main_v12 : FVec F S1024 .f32 := Host.absf main_arg3
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_c_4 : IVec S_ 1 := constantI S_ 1 1#1
  let main_v15 : IVec S_ 1 := (fun x v => Host.reduce IntOp.andi x v reducesTo_S1024_S_d0 h_S_) main_v14 main_c_4
  let main_v16 : IVec S_ 1 := andi main_v11 main_v15
  fn_part1 (F := F) main_arg4 main_arg5 main_arg6 main_arg7 main_arg8 main_arg9 main_arg10 main_arg11 main_arg12 main_arg13 main_arg14 main_arg15 main_arg16 main_arg17 main_v16
-- ==== Kernel.lean ====
abbrev S1x1024x1024 : Shape := ⟨3, ![1, 1024, 1024]⟩
abbrev S1x2048x1024 : Shape := ⟨3, ![1, 2048, 1024]⟩
abbrev S1x2048 : Shape := ⟨2, ![1, 2048]⟩
abbrev S1024 : Shape := ⟨1, ![1024]⟩
abbrev S1024x4384 : Shape := ⟨2, ![1024, 4384]⟩
abbrev S2304x4 : Shape := ⟨2, ![2304, 4]⟩
abbrev S2304 : Shape := ⟨1, ![2304]⟩
abbrev S32 : Shape := ⟨1, ![32]⟩
abbrev S2048 : Shape := ⟨1, ![2048]⟩
abbrev S2048x1024 : Shape := ⟨2, ![2048, 1024]⟩
abbrev S1024x1024 : Shape := ⟨2, ![1024, 1024]⟩
abbrev S4384x1024 : Shape := ⟨2, ![4384, 1024]⟩
abbrev S1x1024 : Shape := ⟨2, ![1, 1024]⟩
abbrev S1024x2048 : Shape := ⟨2, ![1024, 2048]⟩
abbrev S1024x256 : Shape := ⟨2, ![1024, 256]⟩
abbrev S1024x32 : Shape := ⟨2, ![1024, 32]⟩
abbrev S4x2304 : Shape := ⟨2, ![4, 2304]⟩
abbrev S1x2304 : Shape := ⟨2, ![1, 2304]⟩
abbrev S1x32 : Shape := ⟨2, ![1, 32]⟩
abbrev S256x1024 : Shape := ⟨2, ![256, 1024]⟩
abbrev S256x2048 : Shape := ⟨2, ![256, 2048]⟩
abbrev S256x256 : Shape := ⟨2, ![256, 256]⟩
abbrev S256x32 : Shape := ⟨2, ![256, 32]⟩
abbrev S256 : Shape := ⟨1, ![256]⟩
abbrev S256x1 : Shape := ⟨2, ![256, 1]⟩
abbrev S256x4384 : Shape := ⟨2, ![256, 4384]⟩
abbrev S4x2048 : Shape := ⟨2, ![4, 2048]⟩
abbrev S1023x2048 : Shape := ⟨2, ![1023, 2048]⟩
abbrev S2x2048 : Shape := ⟨2, ![2, 2048]⟩
abbrev S1022x2048 : Shape := ⟨2, ![1022, 2048]⟩
abbrev S3x2048 : Shape := ⟨2, ![3, 2048]⟩
abbrev S1021x2048 : Shape := ⟨2, ![1021, 2048]⟩
abbrev S4x256 : Shape := ⟨2, ![4, 256]⟩
abbrev S1x256 : Shape := ⟨2, ![1, 256]⟩
abbrev S1023x256 : Shape := ⟨2, ![1023, 256]⟩
abbrev S2x256 : Shape := ⟨2, ![2, 256]⟩
abbrev S1022x256 : Shape := ⟨2, ![1022, 256]⟩
abbrev S3x256 : Shape := ⟨2, ![3, 256]⟩
abbrev S1021x256 : Shape := ⟨2, ![1021, 256]⟩
abbrev S32x2048 : Shape := ⟨2, ![32, 2048]⟩
abbrev S128x2048 : Shape := ⟨2, ![128, 2048]⟩
abbrev S32x256 : Shape := ⟨2, ![32, 256]⟩
abbrev S256x128 : Shape := ⟨2, ![256, 128]⟩
abbrev S256x64 : Shape := ⟨2, ![256, 64]⟩
abbrev S2048x128 : Shape := ⟨2, ![2048, 128]⟩

abbrev nBuf : Space → Nat
  | .hbm => 39
  | .vmem => 45
  | .smem => 0
  | _ => 0

abbrev bufTy : (tb : Table) → Fin (tcTables nBuf tb) → BufTy
  | .hbm, ⟨0, _⟩ => ⟨S1x1024x1024, .f32⟩
  | .hbm, ⟨1, _⟩ => ⟨S1x2048x1024, .f32⟩
  | .hbm, ⟨2, _⟩ => ⟨S1x2048, .i1⟩
  | .hbm, ⟨3, _⟩ => ⟨S1024, .f32⟩
  | .hbm, ⟨4, _⟩ => ⟨S1024x4384, .f32⟩
  | .hbm, ⟨5, _⟩ => ⟨S2304x4, .f32⟩
  | .hbm, ⟨6, _⟩ => ⟨S2304, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S2048x1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S2048x1024, .f32⟩
  | .hbm, ⟨20, _⟩ => ⟨S4384x1024, .f32⟩
  | .hbm, ⟨21, _⟩ => ⟨S1x1024, .f32⟩
  | .hbm, ⟨22, _⟩ => ⟨S1024x2048, .f32⟩
  | .hbm, ⟨23, _⟩ => ⟨S1024x2048, .f32⟩
  | .hbm, ⟨24, _⟩ => ⟨S1024x256, .f32⟩
  | .hbm, ⟨25, _⟩ => ⟨S1024x32, .f32⟩
  | .hbm, ⟨26, _⟩ => ⟨S4x2304, .f32⟩
  | .hbm, ⟨27, _⟩ => ⟨S1x2304, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S1024x2048, .f32⟩
  | .hbm, ⟨32, _⟩ => ⟨S2048x1024, .f32⟩
  | .hbm, ⟨33, _⟩ => ⟨S2048x1024, .f32⟩
  | .hbm, ⟨34, _⟩ => ⟨S1x2048, .f32⟩
  | .hbm, ⟨35, _⟩ => ⟨S1x1024, .f32⟩
  | .hbm, ⟨36, _⟩ => ⟨S1x1024, .f32⟩
  | .hbm, ⟨37, _⟩ => ⟨S1024x1024, .f32⟩
  | .hbm, ⟨38, _⟩ => ⟨S1x1024x1024, .f32⟩
  | .local _ .vmem, ⟨0, _⟩ => ⟨S256x1024, .f32⟩
  | .local _ .vmem, ⟨1, _⟩ => ⟨S256x1024, .f32⟩
  | .local _ .vmem, ⟨2, _⟩ => ⟨S4384x1024, .f32⟩
  | .local _ .vmem, ⟨3, _⟩ => ⟨S1x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x256, .f32⟩
  | .local _ .vmem, ⟨9, _⟩ => ⟨S256x256, .f32⟩
  | .local _ .vmem, ⟨10, _⟩ => ⟨S256x32, .f32⟩
  | .local _ .vmem, ⟨11, _⟩ => ⟨S256x32, .f32⟩
  | .local _ .vmem, ⟨12, _⟩ => ⟨S1024x2048, .f32⟩
  | .local _ .vmem, ⟨13, _⟩ => ⟨S1024x256, .f32⟩
  | .local _ .vmem, ⟨14, _⟩ => ⟨S1024x32, .f32⟩
  | .local _ .vmem, ⟨15, _⟩ => ⟨S4x2304, .f32⟩
  | .local _ .vmem, ⟨16, _⟩ => ⟨S1x2304, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S1024x2048, .f32⟩
  | .local _ .vmem, ⟨21, _⟩ => ⟨S256x1024, .f32⟩
  | .local _ .vmem, ⟨22, _⟩ => ⟨S256x1024, .f32⟩
  | .local _ .vmem, ⟨23, _⟩ => ⟨S1024x1024, .f32⟩
  | .local _ .vmem, ⟨24, _⟩ => ⟨S1024x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | .local _ .vmem, ⟨33, _⟩ => ⟨S256x1024, .f32⟩
  | .local _ .vmem, ⟨34, _⟩ => ⟨S256x1024, .f32⟩
  | .local _ .vmem, ⟨35, _⟩ => ⟨S1x2048, .f32⟩
  | .local _ .vmem, ⟨36, _⟩ => ⟨S2048x1024, .f32⟩
  | .local _ .vmem, ⟨37, _⟩ => ⟨S2048x1024, .f32⟩
  | .local _ .vmem, ⟨38, _⟩ => ⟨S2048x1024, .f32⟩
  | .local _ .vmem, ⟨39, _⟩ => ⟨S1024x1024, .f32⟩
  | .local _ .vmem, ⟨40, _⟩ => ⟨S1024x1024, .f32⟩
  | .local _ .vmem, ⟨41, _⟩ => ⟨S1x1024, .f32⟩
  | .local _ .vmem, ⟨42, _⟩ => ⟨S1x1024, .f32⟩
  | .local _ .vmem, ⟨43, _⟩ => ⟨S256x1024, .f32⟩
  | .local _ .vmem, ⟨44, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4_0 : Ref sig .tc := ⟨.hbm, 22, rfl⟩
abbrev main_call0_v4_1 : Ref sig .tc := ⟨.hbm, 23, rfl⟩
abbrev main_call0_v4_2 : Ref sig .tc := ⟨.hbm, 24, rfl⟩
abbrev main_call0_v4_3 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11_0 : Ref sig .tc := ⟨.hbm, 32, rfl⟩
abbrev main_call0_v11_1 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_v0 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg11_0 : Ref sig .tc := ⟨.vmem, 43, rfl⟩
abbrev cc3_stg11_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem11_0 : DmaSem sig := 43
abbrev cc3_sem11_1 : DmaSem sig := 44

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4384x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x2304 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2304 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2048x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2048x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2048x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S256x1024 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]
-- ==== ReferenceIdeal.lean ====
abbrev S1x1024x1024 : Shape := ⟨3, ![1, 1024, 1024]⟩
abbrev S1x2048x1024 : Shape := ⟨3, ![1, 2048, 1024]⟩
abbrev S1x2048 : Shape := ⟨2, ![1, 2048]⟩
abbrev S1024 : Shape := ⟨1, ![1024]⟩
abbrev S1024x4384 : Shape := ⟨2, ![1024, 4384]⟩
abbrev S2304x4 : Shape := ⟨2, ![2304, 4]⟩
abbrev S2304 : Shape := ⟨1, ![2304]⟩
abbrev S32 : Shape := ⟨1, ![32]⟩
abbrev S2048 : Shape := ⟨1, ![2048]⟩
abbrev S2048x1024 : Shape := ⟨2, ![2048, 1024]⟩
abbrev S1024x1024 : Shape := ⟨2, ![1024, 1024]⟩
abbrev S_ : Shape := ⟨0, ![]⟩
abbrev S1x1024 : Shape := ⟨2, ![1, 1024]⟩
abbrev S1x1024x1 : Shape := ⟨3, ![1, 1024, 1]⟩
abbrev S1x1x1024 : Shape := ⟨3, ![1, 1, 1024]⟩
abbrev S1x1024x4384 : Shape := ⟨3, ![1, 1024, 4384]⟩
abbrev S1x1024x2048 : Shape := ⟨3, ![1, 1024, 2048]⟩
abbrev S1x1024x2304 : Shape := ⟨3, ![1, 1024, 2304]⟩
abbrev S1x1024x32 : Shape := ⟨3, ![1, 1024, 32]⟩
abbrev S1x1x32 : Shape := ⟨3, ![1, 1, 32]⟩
abbrev S1x1027x2304 : Shape := ⟨3, ![1, 1027, 2304]⟩
abbrev S2304x1 : Shape := ⟨2, ![2304, 1]⟩
abbrev S1x1x2304 : Shape := ⟨3, ![1, 1, 2304]⟩
abbrev S1x1024x32x64 : Shape := ⟨4, ![1, 1024, 32, 64]⟩
abbrev S1x1024x128 : Shape := ⟨3, ![1, 1024, 128]⟩
abbrev S1x1024x32x1 : Shape := ⟨4, ![1, 1024, 32, 1]⟩
abbrev S1x32x64x128 : Shape := ⟨4, ![1, 32, 64, 128]⟩
abbrev S1024x1x32 : Shape := ⟨3, ![1024, 1, 32]⟩
abbrev S1024x1x32x64 : Shape := ⟨4, ![1024, 1, 32, 64]⟩
abbrev S1024x1x128 : Shape := ⟨3, ![1024, 1, 128]⟩
abbrev S1x32 : Shape := ⟨2, ![1, 32]⟩
abbrev S1x1x32x64 : Shape := ⟨4, ![1, 1, 32, 64]⟩
abbrev S1x32x64 : Shape := ⟨3, ![1, 32, 64]⟩
abbrev S1x1x128 : Shape := ⟨3, ![1, 1, 128]⟩
abbrev S1x128 : Shape := ⟨2, ![1, 128]⟩
abbrev S1x32x1x1 : Shape := ⟨4, ![1, 32, 1, 1]⟩
abbrev S1x32x64x1 : Shape := ⟨4, ![1, 32, 64, 1]⟩
abbrev S1x1x1x128 : Shape := ⟨4, ![1, 1, 1, 128]⟩
abbrev S1x1x32x1 : Shape := ⟨4, ![1, 1, 32, 1]⟩
abbrev S1x1x2048 : Shape := ⟨3, ![1, 1, 2048]⟩
abbrev S1x1024x8x128 : Shape := ⟨4, ![1, 1024, 8, 128]⟩
abbrev S1x2048x8x128 : Shape := ⟨4, ![1, 2048, 8, 128]⟩
abbrev S1x8x1024x2048 : Shape := ⟨4, ![1, 8, 1024, 2048]⟩
abbrev S1x1x1x2048 : Shape := ⟨4, ![1, 1, 1, 2048]⟩
abbrev S1x8x1024 : Shape := ⟨3, ![1, 8, 1024]⟩
abbrev S1x8x1024x1 : Shape := ⟨4, ![1, 8, 1024, 1]⟩
abbrev S1x8x128x1024 : Shape := ⟨4, ![1, 8, 128, 1024]⟩

abbrev nBuf : Space → Nat
  | .hbm => 262
  | .vmem => 0
  | .smem => 0
  | _ => 0

abbrev hbmTy0_0 (i : Nat) : BufTy := match i % 128 with
  | 0 => ⟨S1x1024x1024, .f32⟩
  | 1 => ⟨S1x2048x1024, .f32⟩
  | 2 => ⟨S1x2048, .i1⟩
  | 3 => ⟨S1024, .f32⟩
  | 4 => ⟨S1024x4384, .f32⟩
  | 5 => ⟨S2304x4, .f32⟩
  | 6 => ⟨S2304, .f32⟩
  | 7 => ⟨S32, .f32⟩
  | 8 => ⟨S32, .f32⟩
  | 9 => ⟨S32, .f32⟩
  | 10 => ⟨S2048, .f32⟩
  | 11 => ⟨S2048x1024, .f32⟩
  | 12 => ⟨S1024, .f32⟩
  | 13 => ⟨S1024, .f32⟩
  | 14 => ⟨S1024x1024, .f32⟩
  | 15 => ⟨S1024x1024, .f32⟩
  | 16 => ⟨S1024x1024, .f32⟩
  | 17 => ⟨S1024x1024, .f32⟩
  | 18 => ⟨S1x1024x1024, .f32⟩
  | 19 => ⟨S_, .f32⟩
  | 20 => ⟨S1x1024, .f32⟩
  | 21 => ⟨S1x1024x1, .f32⟩
  | 22 => ⟨S_, .f32⟩
  | 23 => ⟨S1x1024x1, .f32⟩
  | 24 => ⟨S1x1024x1, .f32⟩
  | 25 => ⟨S_, .f32⟩
  | 26 => ⟨S1x1024x1, .f32⟩
  | 27 => ⟨S1x1024x1, .f32⟩
  | 28 => ⟨S1x1024x1, .f32⟩
  | 29 => ⟨S1x1024x1024, .f32⟩
  | 30 => ⟨S1x1024x1024, .f32⟩
  | 31 => ⟨S1x1x1024, .f32⟩
  | 32 => ⟨S1x1024x1024, .f32⟩
  | 33 => ⟨S1x1024x1024, .f32⟩
  | 34 => ⟨S1x1024x4384, .f32⟩
  | 35 => ⟨S1x1024x2048, .f32⟩
  | 36 => ⟨S1x1024x2304, .f32⟩
  | 37 => ⟨S1x1024x32, .f32⟩
  | 38 => ⟨S1x1x32, .f32⟩
  | 39 => ⟨S1x1024x32, .f32⟩
  | 40 => ⟨S1x1024x32, .f32⟩
  | 41 => ⟨S_, .f32⟩
  | 42 => ⟨S1x1024x32, .f32⟩
  | 43 => ⟨S1x1024x32, .f32⟩
  | 44 => ⟨S1x1024x32, .f32⟩
  | 45 => ⟨S1x1024x32, .f32⟩
  | 46 => ⟨S1x1024x32, .i1⟩
  | 47 => ⟨S1x1024x32, .f32⟩
  | 48 => ⟨S1x1024x32, .f32⟩
  | 49 => ⟨S1x1024x32, .f32⟩
  | 50 => ⟨S1x1024x32, .f32⟩
  | 51 => ⟨S1x1024x32, .f32⟩
  | 52 => ⟨S1x1024x32, .f32⟩
  | 53 => ⟨S1x1024x32, .f32⟩
  | 54 => ⟨S1x1024x32, .f32⟩
  | 55 => ⟨S_, .i32⟩
  | 56 => ⟨S_, .f32⟩
  | 57 => ⟨S1x1027x2304, .f32⟩
  | 58 => ⟨S1x1024x2304, .f32⟩
  | 59 => ⟨S2304x1, .f32⟩
  | 60 => ⟨S2304, .f32⟩
  | 61 => ⟨S1x1x2304, .f32⟩
  | 62 => ⟨S1x1024x2304, .f32⟩
  | 63 => ⟨S1x1024x2304, .f32⟩
  | 64 => ⟨S_, .f32⟩
  | 65 => ⟨S1x1024x2304, .f32⟩
  | 66 => ⟨S1x1024x2304, .f32⟩
  | 67 => ⟨S1x1024x2304, .f32⟩
  | 68 => ⟨S2304x1, .f32⟩
  | 69 => ⟨S2304, .f32⟩
  | 70 => ⟨S1x1x2304, .f32⟩
  | 71 => ⟨S1x1024x2304, .f32⟩
  | 72 => ⟨S1x1024x2304, .f32⟩
  | 73 => ⟨S1x1024x2304, .f32⟩
  | 74 => ⟨S1x1024x2304, .f32⟩
  | 75 => ⟨S2304x1, .f32⟩
  | 76 => ⟨S2304, .f32⟩
  | 77 => ⟨S1x1x2304, .f32⟩
  | 78 => ⟨S1x1024x2304, .f32⟩
  | 79 => ⟨S1x1024x2304, .f32⟩
  | 80 => ⟨S1x1024x2304, .f32⟩
  | 81 => ⟨S1x1024x2304, .f32⟩
  | 82 => ⟨S2304x1, .f32⟩
  | 83 => ⟨S2304, .f32⟩
  | 84 => ⟨S1x1x2304, .f32⟩
  | 85 => ⟨S1x1024x2304, .f32⟩
  | 86 => ⟨S1x1024x2304, .f32⟩
  | 87 => ⟨S1x1024x2304, .f32⟩
  | 88 => ⟨S1x1x2304, .f32⟩
  | 89 => ⟨S1x1024x2304, .f32⟩
  | 90 => ⟨S1x1024x2304, .f32⟩
  | 91 => ⟨S1x1024x2304, .f32⟩
  | 92 => ⟨S1x1024x2304, .f32⟩
  | 93 => ⟨S_, .f32⟩
  | 94 => ⟨S1x1024x2304, .f32⟩
  | 95 => ⟨S1x1024x2304, .f32⟩
  | 96 => ⟨S_, .f32⟩
  | 97 => ⟨S1x1024x2304, .f32⟩
  | 98 => ⟨S1x1024x2304, .f32⟩
  | 99 => ⟨S1x1024x2304, .f32⟩
  | 100 => ⟨S1x1024x2048, .f32⟩
  | 101 => ⟨S1x1024x32x64, .f32⟩
  | 102 => ⟨S1x1024x128, .f32⟩
  | 103 => ⟨S1x1024x128, .f32⟩
  | 104 => ⟨S32, .f32⟩
  | 105 => ⟨S32, .f32⟩
  | 106 => ⟨S1x1x32, .f32⟩
  | 107 => ⟨S1x1024x32, .f32⟩
  | 108 => ⟨S1x1024x32, .f32⟩
  | 109 => ⟨S1x1024x32, .f32⟩
  | 110 => ⟨S1x1024x32x1, .f32⟩
  | 111 => ⟨S1x1024x32x64, .f32⟩
  | 112 => ⟨S1x1024x32x64, .f32⟩
  | 113 => ⟨S_, .f32⟩
  | 114 => ⟨S1x32x64x128, .f32⟩
  | 115 => ⟨S1024x1x32, .f32⟩
  | 116 => ⟨S1024x1x32x64, .f32⟩
  | 117 => ⟨S1024x1x128, .f32⟩
  | 118 => ⟨S1024x1x128, .f32⟩
  | 119 => ⟨S_, .f32⟩
  | 120 => ⟨S1024x1x32x64, .f32⟩
  | 121 => ⟨S_, .i32⟩
  | 122 => ⟨S1024x1x32, .f32⟩
  | 123 => ⟨S1024x1x32x64, .f32⟩
  | 124 => ⟨S1024x1x128, .f32⟩
  | 125 => ⟨S1024x1x128, .f32⟩
  | 126 => ⟨S_, .i32⟩
  | 127 => ⟨S1x32x64x128, .f32⟩
  | _ => ⟨S1x1024x1024, .f32⟩

abbrev hbmTy0_1 (i : Nat) : BufTy := match i % 128 with
  | 0 => ⟨S1024x1x32x64, .f32⟩
  | 1 => ⟨S_, .i32⟩
  | 2 => ⟨S_, .i1⟩
  | 3 => ⟨S_, .i32⟩
  | 4 => ⟨S_, .i32⟩
  | 5 => ⟨S1x1x32, .f32⟩
  | 6 => ⟨S1x32, .f32⟩
  | 7 => ⟨S_, .i32⟩
  | 8 => ⟨S_, .i32⟩
  | 9 => ⟨S_, .i32⟩
  | 10 => ⟨S1x1x32x64, .f32⟩
  | 11 => ⟨S1x32x64, .f32⟩
  | 12 => ⟨S_, .i32⟩
  | 13 => ⟨S_, .i32⟩
  | 14 => ⟨S1x1x128, .f32⟩
  | 15 => ⟨S1x128, .f32⟩
  | 16 => ⟨S_, .i32⟩
  | 17 => ⟨S_, .i32⟩
  | 18 => ⟨S1x1x128, .f32⟩
  | 19 => ⟨S1x128, .f32⟩
  | 20 => ⟨S1x32x1x1, .f32⟩
  | 21 => ⟨S1x32x64x128, .f32⟩
  | 22 => ⟨S1x32x64x128, .f32⟩
  | 23 => ⟨S1x32x64x1, .f32⟩
  | 24 => ⟨S1x1x1x128, .f32⟩
  | 25 => ⟨S1x32x64x128, .f32⟩
  | 26 => ⟨S1x32x64x128, .f32⟩
  | 27 => ⟨S1x32x64x128, .f32⟩
  | 28 => ⟨S1x32x64x128, .f32⟩
  | 29 => ⟨S1x32x64, .f32⟩
  | 30 => ⟨S1x1x32x64, .f32⟩
  | 31 => ⟨S_, .i32⟩
  | 32 => ⟨S_, .i32⟩
  | 33 => ⟨S_, .i32⟩
  | 34 => ⟨S1024x1x32x64, .f32⟩
  | 35 => ⟨S_, .i32⟩
  | 36 => ⟨S_, .i32⟩
  | 37 => ⟨S1x1024x32x64, .f32⟩
  | 38 => ⟨S1x1x32x1, .f32⟩
  | 39 => ⟨S1x1024x32x64, .f32⟩
  | 40 => ⟨S1x1024x32x64, .f32⟩
  | 41 => ⟨S1x1024x32x64, .f32⟩
  | 42 => ⟨S1x1024x2048, .f32⟩
  | 43 => ⟨S1x1024x2048, .f32⟩
  | 44 => ⟨S1x1024x2048, .f32⟩
  | 45 => ⟨S_, .f32⟩
  | 46 => ⟨S1x1024x2048, .f32⟩
  | 47 => ⟨S1x1024x2048, .f32⟩
  | 48 => ⟨S_, .f32⟩
  | 49 => ⟨S1x1024x2048, .f32⟩
  | 50 => ⟨S1x1024x2048, .f32⟩
  | 51 => ⟨S1x1024x2048, .f32⟩
  | 52 => ⟨S1x1024x2048, .f32⟩
  | 53 => ⟨S1x1024x2048, .f32⟩
  | 54 => ⟨S_, .f32⟩
  | 55 => ⟨S1x1024, .f32⟩
  | 56 => ⟨S1x1024x1, .f32⟩
  | 57 => ⟨S_, .f32⟩
  | 58 => ⟨S1x1024x1, .f32⟩
  | 59 => ⟨S1x1024x1, .f32⟩
  | 60 => ⟨S_, .f32⟩
  | 61 => ⟨S1x1024x1, .f32⟩
  | 62 => ⟨S1x1024x1, .f32⟩
  | 63 => ⟨S1x1024x1, .f32⟩
  | 64 => ⟨S1x1024x2048, .f32⟩
  | 65 => ⟨S1x1024x2048, .f32⟩
  | 66 => ⟨S1x1x2048, .f32⟩
  | 67 => ⟨S1x1024x2048, .f32⟩
  | 68 => ⟨S1x1024x2048, .f32⟩
  | 69 => ⟨S1x1024x1024, .f32⟩
  | 70 => ⟨S1x1024x1024, .f32⟩
  | 71 => ⟨S_, .f32⟩
  | 72 => ⟨S1x1024, .f32⟩
  | 73 => ⟨S1x1024x1, .f32⟩
  | 74 => ⟨S_, .f32⟩
  | 75 => ⟨S1x1024x1, .f32⟩
  | 76 => ⟨S1x1024x1, .f32⟩
  | 77 => ⟨S1x1024x1024, .f32⟩
  | 78 => ⟨S1x1024x1024, .f32⟩
  | 79 => ⟨S1x1024x1024, .f32⟩
  | 80 => ⟨S_, .f32⟩
  | 81 => ⟨S1x1024, .f32⟩
  | 82 => ⟨S1x1024x1, .f32⟩
  | 83 => ⟨S_, .f32⟩
  | 84 => ⟨S1x1024x1, .f32⟩
  | 85 => ⟨S1x1024x1, .f32⟩
  | 86 => ⟨S1x1024x1024, .f32⟩
  | 87 => ⟨S1x1024x1024, .f32⟩
  | 88 => ⟨S_, .f32⟩
  | 89 => ⟨S1x1024x1, .f32⟩
  | 90 => ⟨S1x1024x1, .f32⟩
  | 91 => ⟨S1x1024x1, .f32⟩
  | 92 => ⟨S1x1024x1024, .f32⟩
  | 93 => ⟨S1x1024x1024, .f32⟩
  | 94 => ⟨S1x1x1024, .f32⟩
  | 95 => ⟨S1x1024x1024, .f32⟩
  | 96 => ⟨S1x1024x1024, .f32⟩
  | 97 => ⟨S1x1x1024, .f32⟩
  | 98 => ⟨S1x1024x1024, .f32⟩
  | 99 => ⟨S1x1024x1024, .f32⟩
  | 100 => ⟨S1x1024x1024, .f32⟩
  | 101 => ⟨S1x1024x8x128, .f32⟩
  | 102 => ⟨S1x2048x1024, .f32⟩
  | 103 => ⟨S1x2048x8x128, .f32⟩
  | 104 => ⟨S1x2048x1024, .f32⟩
  | 105 => ⟨S1x2048x8x128, .f32⟩
  | 106 => ⟨S1x8x1024x2048, .f32⟩
  | 107 => ⟨S_, .f32⟩
  | 108 => ⟨S1x8x1024x2048, .f32⟩
  | 109 => ⟨S1x8x1024x2048, .f32⟩
  | 110 => ⟨S1x1x1x2048, .i1⟩
  | 111 => ⟨S_, .f32⟩
  | 112 => ⟨S1x8x1024x2048, .i1⟩
  | 113 => ⟨S1x8x1024x2048, .f32⟩
  | 114 => ⟨S1x8x1024x2048, .f32⟩
  | 115 => ⟨S_, .f32⟩
  | 116 => ⟨S1x8x1024, .f32⟩
  | 117 => ⟨S_, .f32⟩
  | 118 => ⟨S1x8x1024, .f32⟩
  | 119 => ⟨S1x8x1024, .f32⟩
  | 120 => ⟨S1x8x1024x1, .f32⟩
  | 121 => ⟨S1x8x1024x2048, .f32⟩
  | 122 => ⟨S1x8x1024x2048, .f32⟩
  | 123 => ⟨S1x8x1024x2048, .f32⟩
  | 124 => ⟨S_, .f32⟩
  | 125 => ⟨S1x8x1024, .f32⟩
  | 126 => ⟨S1x8x1024x1, .f32⟩
  | 127 => ⟨S1x8x1024x2048, .f32⟩
  | _ => ⟨S1x1024x1024, .f32⟩

abbrev hbmTy0_2 (i : Nat) : BufTy := match i % 128 with
  | 0 => ⟨S1x8x1024x2048, .f32⟩
  | 1 => ⟨S1x8x128x1024, .f32⟩
  | 2 => ⟨S1x1024x8x128, .f32⟩
  | 3 => ⟨S1x1024x1024, .f32⟩
  | 4 => ⟨S1x1024x1024, .f32⟩
  | 5 => ⟨S1x1024x1024, .f32⟩
  | _ => ⟨S1x1024x1024, .f32⟩

abbrev hbmTy (i : Nat) : BufTy := match i / 128 with
  | 0 => hbmTy0_0 i
  | 1 => hbmTy0_1 i
  | 2 => hbmTy0_2 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_v20 : Ref sig .tc := ⟨.hbm, 54, rfl⟩
abbrev main_c : Ref sig .tc := ⟨.hbm, 55, rfl⟩
abbrev main_call1_v0 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_2 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_3 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_4 : Ref sig .tc := ⟨.hbm, 119, rfl⟩
abbrev main_v73 : Ref sig .tc := ⟨.hbm, 120, rfl⟩
abbrev main_c_5 : Ref sig .tc := ⟨.hbm, 121, rfl⟩
abbrev main_v74_0 : Ref sig .tc := ⟨.hbm, 122, rfl⟩
abbrev main_v74_1 : Ref sig .tc := ⟨.hbm, 123, rfl⟩
abbrev main_v74_2 : Ref sig .tc := ⟨.hbm, 124, rfl⟩
abbrev main_v74_3 : Ref sig .tc := ⟨.hbm, 125, rfl⟩
abbrev main_v74_4 : Ref sig .tc := ⟨.hbm, 126, rfl⟩
abbrev main_v74_5 : Ref sig .tc := ⟨.hbm, 127, rfl⟩
abbrev main_v74_6 : Ref sig .tc := ⟨.hbm, 128, rfl⟩
abbrev main_while0c_c_25 : Ref sig .tc := ⟨.hbm, 129, rfl⟩
abbrev main_while0c_v149 : Ref sig .tc := ⟨.hbm, 130, rfl⟩
abbrev main_while0b_call3_c : Ref sig .tc := ⟨.hbm, 131, rfl⟩
abbrev main_while0b_call3_c_0 : Ref sig .tc := ⟨.hbm, 132, rfl⟩
abbrev main_while0b_call3_v0 : Ref sig .tc := ⟨.hbm, 133, rfl⟩
abbrev main_while0b_v149 : Ref sig .tc := ⟨.hbm, 134, rfl⟩
abbrev main_while0b_call4_c : Ref sig .tc := ⟨.hbm, 135, rfl⟩
abbrev main_while0b_call4_c_0 : Ref sig .tc := ⟨.hbm, 136, rfl⟩
abbrev main_while0b_call4_c_1 : Ref sig .tc := ⟨.hbm, 137, rfl⟩
abbrev main_while0b_call4_v0 : Ref sig .tc := ⟨.hbm, 138, rfl⟩
abbrev main_while0b_v150 : Ref sig .tc := ⟨.hbm, 139, rfl⟩
abbrev main_while0b_call5_c : Ref sig .tc := ⟨.hbm, 140, rfl⟩
abbrev main_while0b_call5_c_0 : Ref sig .tc := ⟨.hbm, 141, rfl⟩
abbrev main_while0b_call5_v0 : Ref sig .tc := ⟨.hbm, 142, rfl⟩
abbrev main_while0b_v151 : Ref sig .tc := ⟨.hbm, 143, rfl⟩
abbrev main_while0b_call6_c : Ref sig .tc := ⟨.hbm, 144, rfl⟩
abbrev main_while0b_call6_c_0 : Ref sig .tc := ⟨.hbm, 145, rfl⟩
abbrev main_while0b_call6_v0 : Ref sig .tc := ⟨.hbm, 146, rfl⟩
abbrev main_while0b_v152 : Ref sig .tc := ⟨.hbm, 147, rfl⟩
abbrev main_while0b_v153 : Ref sig .tc := ⟨.hbm, 148, rfl⟩
abbrev main_while0b_v154 : Ref sig .tc := ⟨.hbm, 149, rfl⟩
abbrev main_while0b_v155 : Ref sig .tc := ⟨.hbm, 150, rfl⟩
abbrev main_while0b_v156 : Ref sig .tc := ⟨.hbm, 151, rfl⟩
abbrev main_while0b_v157 : Ref sig .tc := ⟨.hbm, 152, rfl⟩
abbrev main_while0b_v158 : Ref sig .tc := ⟨.hbm, 153, rfl⟩
abbrev main_while0b_v159 : Ref sig .tc := ⟨.hbm, 154, rfl⟩
abbrev main_while0b_v160 : Ref sig .tc := ⟨.hbm, 155, rfl⟩
abbrev main_while0b_v161 : Ref sig .tc := ⟨.hbm, 156, rfl⟩
abbrev main_while0b_v162 : Ref sig .tc := ⟨.hbm, 157, rfl⟩
abbrev main_while0b_call7_v0 : Ref sig .tc := ⟨.hbm, 158, rfl⟩
abbrev main_while0b_call7_c : Ref sig .tc := ⟨.hbm, 159, rfl⟩
abbrev main_while0b_call7_c_0 : Ref sig .tc := ⟨.hbm, 160, rfl⟩
abbrev main_while0b_call7_c_1 : Ref sig .tc := ⟨.hbm, 161, rfl⟩
abbrev main_while0b_v163 : Ref sig .tc := ⟨.hbm, 162, rfl⟩
abbrev main_while0b_c_25 : Ref sig .tc := ⟨.hbm, 163, rfl⟩
abbrev main_while0b_v164 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_call8_v0 : Ref sig .tc := ⟨.hbm, 171, rfl⟩
abbrev main_call8_v1 : Ref sig .tc := ⟨.hbm, 172, rfl⟩
abbrev main_call8_cst : Ref sig .tc := ⟨.hbm, 173, rfl⟩
abbrev main_call8_v2 : Ref sig .tc := ⟨.hbm, 174, rfl⟩
abbrev main_call8_v3 : Ref sig .tc := ⟨.hbm, 175, rfl⟩
abbrev main_call8_cst_0 : Ref sig .tc := ⟨.hbm, 176, rfl⟩
abbrev main_call8_v4 : Ref sig .tc := ⟨.hbm, 177, rfl⟩
abbrev main_call8_v5 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_cst_6 : Ref sig .tc := ⟨.hbm, 182, rfl⟩
abbrev main_v84 : Ref sig .tc := ⟨.hbm, 183, rfl⟩
abbrev main_v85 : Ref sig .tc := ⟨.hbm, 184, rfl⟩
abbrev main_cst_7 : Ref sig .tc := ⟨.hbm, 185, rfl⟩
abbrev main_v86 : Ref sig .tc := ⟨.hbm, 186, rfl⟩
abbrev main_v87 : Ref sig .tc := ⟨.hbm, 187, rfl⟩
abbrev main_cst_8 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_cst_9 : Ref sig .tc := ⟨.hbm, 199, rfl⟩
abbrev main_v98 : Ref sig .tc := ⟨.hbm, 200, rfl⟩
abbrev main_v99 : Ref sig .tc := ⟨.hbm, 201, rfl⟩
abbrev main_cst_10 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_cst_11 : Ref sig .tc := ⟨.hbm, 208, rfl⟩
abbrev main_v105 : Ref sig .tc := ⟨.hbm, 209, rfl⟩
abbrev main_v106 : Ref sig .tc := ⟨.hbm, 210, rfl⟩
abbrev main_cst_12 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_cst_13 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_v114 : Ref sig .tc := ⟨.hbm, 220, rfl⟩
abbrev main_v115 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_cst_14 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_cst_15 : Ref sig .tc := ⟨.hbm, 239, rfl⟩
abbrev main_call9_v0 : Ref sig .tc := ⟨.hbm, 240, rfl⟩
abbrev main_call9_v1 : Ref sig .tc := ⟨.hbm, 241, rfl⟩
abbrev main_v132 : Ref sig .tc := ⟨.hbm, 242, rfl⟩
abbrev main_cst_16 : Ref sig .tc := ⟨.hbm, 243, rfl⟩
abbrev main_v133 : Ref sig .tc := ⟨.hbm, 244, rfl⟩
abbrev main_cst_17 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_cst_18 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩

abbrev nD : Nat := 1
abbrev τ : Topo := Topo.v7x

variable {F : FTy → Type} [FloatOps F]

abbrev main_while0_count : Scf.Loop 32 := ⟨0#32, 1024#32, 1#32⟩
-- ==== Proof.KRun.lean ====
/-
  The kernel's run: every unscoped buffer ends at the last boundary's contents.
-/
module

public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch of the segments, with every unscoped buffer read at the end. -/
theorem kernel_run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Cert.Proof

end
-- ==== Proof.Casts.lean ====
/-
  The operations of the ideal instance on real numbers: every operation the two programs use, applied to (coercions of)
  reals, is the coercion of the real operation. The rest of the proof works in ℝ.
-/
module

public import Idealize.ShloMosaic.Lib.Pointwise

@[expose] public section

noncomputable section

namespace Cert.Proof

open Idealize.ShloMosaic
open scoped BigOperators

/-- The logistic function on ℝ. -/
def sigm (r : ℝ) : ℝ := 1 / (1 + Real.exp (-r))

/-- `x · σ(x)`. -/
def silu (r : ℝ) : ℝ := r * sigm r

/-- `log (1 + eˣ)`, in the form both programs compute. -/
def softplus (r : ℝ) : ℝ := max r 0 + Real.log (1 + Real.exp (-|r|))

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max).symm

theorem exp_coe (r : ℝ) : Ideal.exp (r : EReal) = ((Real.exp r : ℝ) : EReal) := rfl

theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

theorem rsqrt_coe (r : ℝ) (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.2 h.le), if_neg h.ne']

theorem logistic_coe (r : ℝ) : Ideal.logistic (r : EReal) = ((sigm r : ℝ) : EReal) := by
  unfold Ideal.logistic sigm
  rw [← EReal.coe_neg, exp_coe, ← EReal.coe_one, ← EReal.coe_add, div_coe]
  have := Real.exp_pos (-r)
  positivity

theorem log1p_exp_coe (r : ℝ) : Ideal.log1p ((Real.exp r : ℝ) : EReal) = ((Real.log (1 + Real.exp r) : ℝ) : EReal) := by
  unfold Ideal.log1p
  rw [← EReal.coe_one, ← EReal.coe_add]
  show (if (1 + Real.exp r) ≤ 0 then (⊥ : EReal) else ((Real.log (1 + Real.exp r) : ℝ) : EReal)) = _
  rw [if_neg (not_le.2 (by have := Real.exp_pos r; positivity))]

/-- The constant `1e-5` of the normalisations, as the real its f32 word denotes. -/
def eps : ℝ := 2748779 * (2 : ℝ) ^ (-38 : ℤ)

theorem eps_pos : 0 < eps := by unfold eps; positivity

/-- The attention scale `1/√128`, as the real its f32 word denotes. -/
def scale : ℝ := 11863283 * (2 : ℝ) ^ (-27 : ℤ)

theorem ofBits_eps : Ideal.ofBits .f32 0x3727C5AC#32 = ((eps : ℝ) : EReal) := by
  show Ideal.ieee 8 23 (0x3727C5AC#32) = _
  have h1 : ((0x3727C5AC#32).extractLsb' 23 8).toNat = 110 := by decide
  have h2 : ((0x3727C5AC#32).extractLsb' 0 23).toNat = 2606508 := by decide
  have h3 : ((0x3727C5AC#32).extractLsb' (8 + 23) 1 == 1#1) = false := by decide
  unfold Ideal.ieee eps
  simp only [h1, h2, h3]
  norm_num

theorem ofBits_scale : Ideal.ofBits .f32 0x3DB504F3#32 = ((scale : ℝ) : EReal) := by
  show Ideal.ieee 8 23 (0x3DB504F3#32) = _
  have h1 : ((0x3DB504F3#32).extractLsb' 23 8).toNat = 123 := by decide
  have h2 : ((0x3DB504F3#32).extractLsb' 0 23).toNat = 3474675 := by decide
  have h3 : ((0x3DB504F3#32).extractLsb' (8 + 23) 1 == 1#1) = false := by decide
  unfold Ideal.ieee scale
  simp only [h1, h2, h3]
  norm_num

theorem ofBits_1024 : Ideal.ofBits .f32 0x44800000#32 = ((1024 : ℝ) : EReal) := by
  show Ideal.ieee 8 23 (0x44800000#32) = _
  have h1 : ((0x44800000#32).extractLsb' 23 8).toNat = 137 := by decide
  have h2 : ((0x44800000#32).extractLsb' 0 23).toNat = 0 := by decide
  have h3 : ((0x44800000#32).extractLsb' (8 + 23) 1 == 1#1) = false := by decide
  unfold Ideal.ieee
  simp only [h1, h2, h3]
  norm_num

theorem ofBits_2048 : Ideal.ofBits .f32 0x45000000#32 = ((2048 : ℝ) : EReal) := by
  show Ideal.ieee 8 23 (0x45000000#32) = _
  have h1 : ((0x45000000#32).extractLsb' 23 8).toNat = 138 := by decide
  have h2 : ((0x45000000#32).extractLsb' 0 23).toNat = 0 := by decide
  have h3 : ((0x45000000#32).extractLsb' (8 + 23) 1 == 1#1) = false := by decide
  unfold Ideal.ieee
  simp only [h1, h2, h3]
  norm_num

theorem ofBits_one : Ideal.ofBits .f32 0x3F800000#32 = ((1 : ℝ) : EReal) := by
  show Ideal.ieee 8 23 (0x3F800000#32) = _
  have h1 : ((0x3F800000#32).extractLsb' 23 8).toNat = 127 := by decide
  have h2 : ((0x3F800000#32).extractLsb' 0 23).toNat = 0 := by decide
  have h3 : ((0x3F800000#32).extractLsb' (8 + 23) 1 == 1#1) = false := by decide
  unfold Ideal.ieee
  simp only [h1, h2, h3]
  norm_num

theorem ofBits_top : Ideal.ofBits .f32 0x7F800000#32 = (⊤ : EReal) := by
  show Ideal.ieee 8 23 (0x7F800000#32) = _
  have h1 : ((0x7F800000#32).extractLsb' 23 8).toNat = 255 := by decide
  have h2 : ((0x7F800000#32).extractLsb' 0 23).toNat = 0 := by decide
  have h3 : ((0x7F800000#32).extractLsb' (8 + 23) 1 == 1#1) = false := by decide
  unfold Ideal.ieee
  simp only [h1, h2, h3]
  norm_num

theorem ofBits_bot : Ideal.ofBits .f32 0xFF800000#32 = (⊥ : EReal) := by
  show Ideal.ieee 8 23 (0xFF800000#32) = _
  have h1 : ((0xFF800000#32).extractLsb' 23 8).toNat = 255 := by decide
  have h2 : ((0xFF800000#32).extractLsb' 0 23).toNat = 0 := by decide
  have h3 : ((0xFF800000#32).extractLsb' (8 + 23) 1 == 1#1) = true := by decide
  unfold Ideal.ieee
  simp only [h1, h2, h3]
  norm_num

/-- The maximum of finitely many reals, starting from `⊥`, is a real: the supremum. -/
theorem fold_max_coe {n : ℕ} [NeZero n] (f : Fin n → ℝ) :
    Finset.univ.fold max (⊥ : EReal) (fun k => (f k : EReal))
      = ((Finset.univ.sup' Finset.univ_nonempty f : ℝ) : EReal) := by
  apply le_antisymm
  · rw [Finset.fold_max_le]
    exact ⟨bot_le, fun k _ => EReal.coe_le_coe_iff.2 (Finset.le_sup' f (Finset.mem_univ k))⟩
  · obtain ⟨k, _, hk⟩ := Finset.exists_mem_eq_sup' (Finset.univ_nonempty (α := Fin n)) f
    rw [hk, Finset.le_fold_max]
    exact Or.inr ⟨k, Finset.mem_univ k, le_rfl⟩

end Cert.Proof

end
-- ==== Proof.Model.lean ====
/-
  What the block computes, over ℝ: the row functions both programs are proved to compute.
-/
module

public import proofs.«01_k».proof.Proof.Casts

@[expose] public section

noncomputable section

namespace Cert.Proof

open Idealize.ShloMosaic
open scoped BigOperators

/-- The reciprocal root-mean-square of a row (`c` its length). -/
def rmsS (c : ℝ) {n : ℕ} (v : Fin n → ℝ) : ℝ := (Real.sqrt ((∑ k, v k * v k) / c + eps))⁻¹

/-- A row of the normalised input times row `e` of the (transposed) input projection. -/
def inproj (x nw : Fin 1024 → ℝ) (w : Fin 4384 → Fin 1024 → ℝ) (e : Fin 4384) : ℝ :=
  ∑ k, x k * rmsS 1024 x * nw k * w e k

/-- A row times a matrix. -/
def rowMul {n p : ℕ} (a : Fin n → ℝ) (w : Fin n → Fin p → ℝ) (j : Fin p) : ℝ := ∑ k, a k * w k j

/-- The gated row `y · silu z`. -/
def gated {n : ℕ} (y z : Fin n → ℝ) (e : Fin n) : ℝ := y e * silu (z e)

/-- The gated row, normalised and weighted. -/
def gnorm (y z gw : Fin 2048 → ℝ) (e : Fin 2048) : ℝ := gated y z e * rmsS 2048 (gated y z) * gw e

/-- The residual row after the first half of the block. -/
def hrow (y z gw : Fin 2048 → ℝ) (x : Fin 1024 → ℝ) (ow : Fin 2048 → Fin 1024 → ℝ) (j : Fin 1024) : ℝ :=
  x j + rowMul (gnorm y z gw) ow j

/-- A row minus its mean. -/
def centred (h : Fin 1024 → ℝ) (j : Fin 1024) : ℝ := h j - (∑ k, h k) / 1024

/-- Layer normalisation of a row. -/
def lnorm (h lw lb : Fin 1024 → ℝ) (j : Fin 1024) : ℝ := centred h j * rmsS 1024 (centred h) * lw j + lb j

/-- Column `d` of head `h`. -/
def hcol (h : Fin 8) (d : Fin 128) : Fin 1024 := ⟨128 * h.val + d.val, by have := h.isLt; have := d.isLt; omega⟩

/-- The scores of a query row against the keys, in one head. -/
def score (q : Fin 1024 → ℝ) (k : Fin 2048 → Fin 1024 → ℝ) (h : Fin 8) (s : Fin 2048) : ℝ :=
  ∑ d, q (hcol h d) * scale * k s (hcol h d)

/-- A row of scores shifted by its maximum and exponentiated. -/
def sexp (f : Fin 2048 → ℝ) (s : Fin 2048) : ℝ := Real.exp (f s - Finset.univ.sup' Finset.univ_nonempty f)

/-- Attention of a query row in one head. -/
def attH (q : Fin 1024 → ℝ) (k v : Fin 2048 → Fin 1024 → ℝ) (h : Fin 8) (d : Fin 128) : ℝ :=
  (∑ s, sexp (score q k h) s * v s (hcol h d)) / ∑ s, sexp (score q k h) s

/-- Attention of a query row, the heads side by side. -/
def att (q : Fin 1024 → ℝ) (k v : Fin 2048 → Fin 1024 → ℝ) (e : Fin 1024) : ℝ :=
  attH q k v ⟨e.val / 128, by have := e.isLt; omega⟩ ⟨e.val % 128, Nat.mod_lt _ (by norm_num)⟩

/-- The second half of the block. -/
def finalRow (h lw lb : Fin 1024 → ℝ) (k v : Fin 2048 → Fin 1024 → ℝ) (wq wo : Fin 1024 → Fin 1024 → ℝ)
    (j : Fin 1024) : ℝ :=
  h j + rowMul (att (rowMul (lnorm h lw lb) wq) k v) wo j

/-! ## The convolution and the scan -/

/-- The array `s` rows back, zeros before the first row. -/
def back {n : ℕ} (p : Fin 1024 → Fin n → ℝ) (s : ℕ) (t : Fin 1024) (e : Fin n) : ℝ :=
  if h : t.val < s then 0 else p ⟨t.val - s, by have := t.isLt; omega⟩ e

/-- The causal convolution of width 4 along the rows, column by column. -/
def conv {n : ℕ} (p : Fin 1024 → Fin n → ℝ) (w : Fin 4 → Fin n → ℝ) (b : Fin n → ℝ) (t : Fin 1024) (e : Fin n) : ℝ :=
  b e + p t e * w 3 e + back p 1 t e * w 2 e + back p 2 t e * w 1 e + back p 3 t e * w 0 e

/-- The step of a head at a row: `softplus` of the projected column plus the bias. -/
def dtm (p : Fin 1024 → Fin 32 → ℝ) (b : Fin 32 → ℝ) (t : Fin 1024) (h : Fin 32) : ℝ := softplus (p t h + b h)

/-- The head a column of the inner width belongs to. -/
def hd (e : Fin 2048) : Fin 32 := ⟨e.val / 64, by have := e.isLt; omega⟩

/-- A number of rows, as a row. -/
def tm (t : ℕ) : Fin 1024 := ⟨t % 1024, Nat.mod_lt _ (by norm_num)⟩

theorem tm_val (t : Fin 1024) : tm t.val = t := Fin.ext (Nat.mod_eq_of_lt t.isLt)

/-- The linear recurrence `s ↦ s · exp a + w`, from 0. -/
def rst (a w : ℕ → ℝ) : ℕ → ℝ
  | 0 => 0
  | t + 1 => rst a w t * Real.exp (a t) + w t

/-- A component of the state after `t` rows: column `e` of the inner width, component `n`. -/
def state (xc : Fin 1024 → Fin 2048 → ℝ) (bc : Fin 1024 → Fin 256 → ℝ) (dt da : Fin 1024 → Fin 32 → ℝ)
    (n : Fin 128) (e : Fin 2048) : ℕ → ℝ :=
  rst (fun t => da (tm t) (hd e)) (fun t => dt (tm t) (hd e) * xc (tm t) e * bc (tm t) ⟨n.val, by have := n.isLt; omega⟩)

/-- The scan's output: the state read by `C`, plus the skip. -/
def scanOut (xc : Fin 1024 → Fin 2048 → ℝ) (bc : Fin 1024 → Fin 256 → ℝ) (dt da : Fin 1024 → Fin 32 → ℝ)
    (d : Fin 32 → ℝ) (t : Fin 1024) (e : Fin 2048) : ℝ :=
  (∑ n, state xc bc dt da n e (t.val + 1) * bc t ⟨128 + n.val, by have := n.isLt; omega⟩) + d (hd e) * xc t e

theorem ssq_nonneg {n : ℕ} (v : Fin n → ℝ) : 0 ≤ ∑ k, v k * v k := Finset.sum_nonneg fun k _ => mul_self_nonneg _

theorem rms_arg_pos {n : ℕ} (v : Fin n → ℝ) (c : ℝ) (hc : 0 < c) : 0 < (∑ k, v k * v k) / c + eps :=
  add_pos_of_nonneg_of_pos (div_nonneg (ssq_nonneg v) hc.le) eps_pos

theorem sexp_pos (f : Fin 2048 → ℝ) (s : Fin 2048) : 0 < sexp f s := Real.exp_pos _

theorem sum_sexp_pos (f : Fin 2048 → ℝ) : 0 < ∑ s, sexp f s :=
  Finset.sum_pos (fun s _ => sexp_pos f s) Finset.univ_nonempty

/-- The normaliser of a row of reals, as both programs compute it. -/
theorem rms_coe {n : ℕ} (v : Fin n → ℝ) (c : ℝ) (hc : 0 < c) :
    Ideal.rsqrt (Ideal.div (∑ k, ((v k : ℝ) : EReal) * (v k : EReal)) (c : EReal) + ((eps : ℝ) : EReal))
      = ((rmsS c v : ℝ) : EReal) := by
  simp only [← EReal.coe_mul, ← coe_sum]
  rw [div_coe _ _ hc.ne', ← EReal.coe_add, rsqrt_coe _ (rms_arg_pos v c hc)]
  rfl

end Cert.Proof

end
-- ==== Proof.Block.lean ====
/-
  The whole block over ℝ, as a function of the seventeen float arguments.
-/
module

public import proofs.«01_k».proof.Proof.Model
public import Idealize.ShloMosaic.Lib.ValueIdx

@[expose] public section

noncomputable section

namespace Cert.Proof

open Idealize.ShloMosaic
open scoped BigOperators

/-- The float arguments, as real arrays: the names of the reference. -/
structure Inp where
  x : Fin 1024 → Fin 1024 → ℝ
  enc : Fin 2048 → Fin 1024 → ℝ
  nw : Fin 1024 → ℝ
  wi : Fin 1024 → Fin 4384 → ℝ
  cw : Fin 2304 → Fin 4 → ℝ
  cb : Fin 2304 → ℝ
  db : Fin 32 → ℝ
  al : Fin 32 → ℝ
  dd : Fin 32 → ℝ
  gw : Fin 2048 → ℝ
  ow : Fin 2048 → Fin 1024 → ℝ
  lw : Fin 1024 → ℝ
  lb : Fin 1024 → ℝ
  wq : Fin 1024 → Fin 1024 → ℝ
  wk : Fin 1024 → Fin 1024 → ℝ
  wv : Fin 1024 → Fin 1024 → ℝ
  wo : Fin 1024 → Fin 1024 → ℝ

/-- The argument arrays hold these reals. -/
structure IsReal (I : Inp)
    (a0 : (⟨3, ![1, 1024, 1024]⟩ : Shape).Idx → EReal)
    (a1 : (⟨3, ![1, 2048, 1024]⟩ : Shape).Idx → EReal)
    (a3 : (⟨1, ![1024]⟩ : Shape).Idx → EReal)
    (a4 : (⟨2, ![1024, 4384]⟩ : Shape).Idx → EReal)
    (a5 : (⟨2, ![2304, 4]⟩ : Shape).Idx → EReal)
    (a6 : (⟨1, ![2304]⟩ : Shape).Idx → EReal)
    (a7 : (⟨1, ![32]⟩ : Shape).Idx → EReal)
    (a8 : (⟨1, ![32]⟩ : Shape).Idx → EReal)
    (a9 : (⟨1, ![32]⟩ : Shape).Idx → EReal)
    (a10 : (⟨1, ![2048]⟩ : Shape).Idx → EReal)
    (a11 : (⟨2, ![2048, 1024]⟩ : Shape).Idx → EReal)
    (a12 : (⟨1, ![1024]⟩ : Shape).Idx → EReal)
    (a13 : (⟨1, ![1024]⟩ : Shape).Idx → EReal)
    (a14 : (⟨2, ![1024, 1024]⟩ : Shape).Idx → EReal)
    (a15 : (⟨2, ![1024, 1024]⟩ : Shape).Idx → EReal)
    (a16 : (⟨2, ![1024, 1024]⟩ : Shape).Idx → EReal)
    (a17 : (⟨2, ![1024, 1024]⟩ : Shape).Idx → EReal) : Prop where
  x : ∀ i k, a0 (ix3 0 i k) = ((I.x i k : ℝ) : EReal)
  enc : ∀ i k, a1 (ix3 0 i k) = ((I.enc i k : ℝ) : EReal)
  nw : ∀ k, a3 (ix1 k) = ((I.nw k : ℝ) : EReal)
  wi : ∀ i k, a4 (ix2 i k) = ((I.wi i k : ℝ) : EReal)
  cw : ∀ i k, a5 (ix2 i k) = ((I.cw i k : ℝ) : EReal)
  cb : ∀ k, a6 (ix1 k) = ((I.cb k : ℝ) : EReal)
  db : ∀ k, a7 (ix1 k) = ((I.db k : ℝ) : EReal)
  al : ∀ k, a8 (ix1 k) = ((I.al k : ℝ) : EReal)
  dd : ∀ k, a9 (ix1 k) = ((I.dd k : ℝ) : EReal)
  gw : ∀ k, a10 (ix1 k) = ((I.gw k : ℝ) : EReal)
  ow : ∀ i k, a11 (ix2 i k) = ((I.ow i k : ℝ) : EReal)
  lw : ∀ k, a12 (ix1 k) = ((I.lw k : ℝ) : EReal)
  lb : ∀ k, a13 (ix1 k) = ((I.lb k : ℝ) : EReal)
  wq : ∀ i k, a14 (ix2 i k) = ((I.wq i k : ℝ) : EReal)
  wk : ∀ i k, a15 (ix2 i k) = ((I.wk i k : ℝ) : EReal)
  wv : ∀ i k, a16 (ix2 i k) = ((I.wv i k : ℝ) : EReal)
  wo : ∀ i k, a17 (ix2 i k) = ((I.wo i k : ℝ) : EReal)

/-- The convolved columns of the inner width. -/
def xcM (XP : Fin 1024 → Fin 2048 → ℝ) (CW : Fin 4 → Fin 2304 → ℝ) (CB : Fin 2304 → ℝ) (t : Fin 1024) (e : Fin 2048) : ℝ :=
  silu (conv XP (fun j e => CW j ⟨e.val, by have := e.isLt; omega⟩) (fun e => CB ⟨e.val, by have := e.isLt; omega⟩) t e)

/-- The convolved `B` and `C`. -/
def bcM (BP : Fin 1024 → Fin 256 → ℝ) (CW : Fin 4 → Fin 2304 → ℝ) (CB : Fin 2304 → ℝ) (t : Fin 1024) (e : Fin 256) : ℝ :=
  silu (conv BP (fun j e => CW j ⟨2048 + e.val, by have := e.isLt; omega⟩)
    (fun e => CB ⟨2048 + e.val, by have := e.isLt; omega⟩) t e)

/-- The decay rates. -/
def daM (DP : Fin 1024 → Fin 32 → ℝ) (DB AL : Fin 32 → ℝ) (t : Fin 1024) (h : Fin 32) : ℝ :=
  dtm DP DB t h * -Real.exp (AL h)

namespace Inp
variable (I : Inp)

/-- The input projection. -/
def proj (i : Fin 1024) (e : Fin 4384) : ℝ := inproj (I.x i) I.nw (fun e k => I.wi k e) e

/-- Its column ranges: the gate, the columns to convolve (inner width, then `B` and `C`), the steps. -/
def z (i : Fin 1024) (e : Fin 2048) : ℝ := I.proj i ⟨e.val, by omega⟩
def xp (i : Fin 1024) (e : Fin 2048) : ℝ := I.proj i ⟨2048 + e.val, by omega⟩
def bp (i : Fin 1024) (e : Fin 256) : ℝ := I.proj i ⟨4096 + e.val, by omega⟩
def dp (i : Fin 1024) (e : Fin 32) : ℝ := I.proj i ⟨4352 + e.val, by omega⟩

/-- The convolved columns, the steps and the decay rates. -/
def xc : Fin 1024 → Fin 2048 → ℝ := xcM I.xp (fun j e => I.cw e j) I.cb
def bc : Fin 1024 → Fin 256 → ℝ := bcM I.bp (fun j e => I.cw e j) I.cb
def dt : Fin 1024 → Fin 32 → ℝ := dtm I.dp I.db
def da : Fin 1024 → Fin 32 → ℝ := daM I.dp I.db I.al

/-- The scan's output. -/
def y (i : Fin 1024) (e : Fin 2048) : ℝ := scanOut I.xc I.bc I.dt I.da I.dd i e

/-- The residual after the first half. -/
def h (i : Fin 1024) : Fin 1024 → ℝ := hrow (I.y i) (I.z i) I.gw (I.x i) I.ow

/-- Keys and values. -/
def k (s : Fin 2048) : Fin 1024 → ℝ := rowMul (I.enc s) I.wk
def v (s : Fin 2048) : Fin 1024 → ℝ := rowMul (I.enc s) I.wv

/-- The block's result. -/
def out (i : Fin 1024) (j : Fin 1024) : ℝ := finalRow (I.h i) I.lw I.lb I.k I.v I.wq I.wo j
end Inp

end Cert.Proof

end
-- ==== Proof.KIn.lean ====
/-
  What the first call leaves: the four column ranges of the input projection, on real input arrays.
-/
module

public import proofs.«01_k».proof.Proof.Model
public import proofs.«01_k».proof.Proof.Gen.KernelIdeal.Frame
public import Idealize.ShloMosaic.Lib.Pipeline.ValueKit

@[expose] public section

set_option maxRecDepth 16384

noncomputable section

namespace Cert.Proof

open Idealize.ShloMosaic Cert.KernelIdeal Cert.KernelIdeal.Gen
open Idealize.ShloMosaic.TcCoe
open scoped BigOperators

set_option maxHeartbeats 1000000 in
theorem k0_pay1_real (x : Vec Ideal S256x1024 .f32) (nw : Vec Ideal S1x1024 .f32) (w : Vec Ideal S4384x1024 .f32)
    (X : Fin 256 → Fin 1024 → ℝ) (NW : Fin 1024 → ℝ) (W : Fin 4384 → Fin 1024 → ℝ)
    (hx : ∀ i k, x (ix2 i k) = ((X i k : ℝ) : EReal)) (hn : ∀ k, nw (ix2 0 k) = ((NW k : ℝ) : EReal))
    (hw : ∀ e k, w (ix2 e k) = ((W e k : ℝ) : EReal)) (i : Fin 256) (e : Fin 4384) :
    k0_pay1 (F := Ideal) x nw w (ix2 i e) = ((inproj (X i) NW W e : ℝ) : EReal) := by
  pointwise [k0_pay1]
  simp only [hx, hn, hw]
  rw [show Ideal.ofBits .f32 1149239296#32 = _ from ofBits_1024,
    show Ideal.ofBits .f32 925353388#32 = _ from ofBits_eps, rms_coe _ _ (by norm_num)]
  simp only [← EReal.coe_mul, ← coe_sum]
  rfl

section
variable (x0 : Vec Ideal S256x1024 .f32) (x1 : Vec Ideal S4384x1024 .f32) (x2 : Vec Ideal S1x1024 .f32)

theorem out0_3_eq : out0_3 (F := Ideal) x0 x1 x2 = k0_pay2 x0 x2 x1 := by
  unfold out0_3
  rw [View.canon_unit_zero (by decide), View.ld_unit_zero (by decide), View.ld_unit_zero (by decide), View.ld_unit_zero (by decide)]
theorem out0_4_eq : out0_4 (F := Ideal) x0 x1 x2 = k0_pay3 x0 x2 x1 := by
  unfold out0_4
  rw [View.canon_unit_zero (by decide), View.ld_unit_zero (by decide), View.ld_unit_zero (by decide), View.ld_unit_zero (by decide)]
theorem out0_5_eq : out0_5 (F := Ideal) x0 x1 x2 = k0_pay4 x0 x2 x1 := by
  unfold out0_5
  rw [View.canon_unit_zero (by decide), View.ld_unit_zero (by decide), View.ld_unit_zero (by decide), View.ld_unit_zero (by decide)]
theorem out0_6_eq : out0_6 (F := Ideal) x0 x1 x2 = k0_pay5 x0 x2 x1 := by
  unfold out0_6
  rw [View.canon_unit_zero (by decide), View.ld_unit_zero (by decide), View.ld_unit_zero (by decide), View.ld_unit_zero (by decide)]
end

variable (V : (c : Dev nD) → (b : Ref sig .tc) → Buf (Elt Ideal) ((c : Thread nD τ).loc b)) (c : Dev nD)

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![t.val, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![t.val, 0] := (by decide +kernel : ∀ t : Fin grid0.N, _)
theorem index0_6 : ∀ t : Fin cfg0.N, win0_6.index t = ![t.val, 0] := (by decide +kernel : ∀ t : Fin grid0.N, _)

/-- Row `i` of block `t`, as a row of the array. -/
def row256 (t : Fin cfg0.N) (i : Fin 256) : Fin 1024 :=
  ⟨t.val * 256 + i.val, by have h : t.val < 4 := t.isLt; have := i.isLt; omega⟩

theorem blk0_0 (t : Fin cfg0.N) (i : Fin 256) (k : Fin 1024) :
    iblk0 V c 0 t (ix2 i k) = V c (Pipeline.arrRef spec0 0) (ix2 (row256 t i) k) := by
  blk_ext [iblk0, index0_0, row256]

theorem blk0_1 (t : Fin cfg0.N) (i : Fin 4384) (k : Fin 1024) :
    iblk0 V c 1 t (ix2 i k) = V c (Pipeline.arrRef spec0 1) (ix2 i k) := by
  blk_ext [iblk0, index0_1]

theorem blk0_2 (t : Fin cfg0.N) (k : Fin 1024) :
    iblk0 V c 2 t (ix2 0 k) = V c (Pipeline.arrRef spec0 2) (ix2 0 k) := by
  blk_ext [iblk0, index0_2]

section
variable (X : Fin 1024 → Fin 1024 → ℝ) (NW : Fin 1024 → ℝ) (W : Fin 4384 → Fin 1024 → ℝ)
    (hx : ∀ i k, V c (Pipeline.arrRef spec0 0) (ix2 i k) = ((X i k : ℝ) : EReal))
    (hw : ∀ e k, V c (Pipeline.arrRef spec0 1) (ix2 e k) = ((W e k : ℝ) : EReal))
    (hn : ∀ k, V c (Pipeline.arrRef spec0 2) (ix2 0 k) = ((NW k : ℝ) : EReal))
include hx hw hn

theorem blk_pay1 (t : Fin cfg0.N) (i : Fin 256) (e : Fin 4384) :
    k0_pay1 (F := Ideal) (iblk0 V c 0 t) (iblk0 V c 2 t) (iblk0 V c 1 t) (ix2 i e)
      = ((inproj (X (row256 t i)) NW W e : ℝ) : EReal) :=
  k0_pay1_real _ _ _ (fun i => X (row256 t i)) NW W (fun i k => (blk0_0 V c t i k).trans (hx _ _))
    (fun k => (blk0_2 V c t k).trans (hn _)) (fun e k => (blk0_1 V c t e k).trans (hw _ _)) i e

set_option maxHeartbeats 1000000 in
theorem r0_z (i : Fin 1024) (e : Fin 2048) :
    (dat0 V c).arrAt 3 cfg0.N (ix2 i e) = ((inproj (X i) NW W ⟨e.val, by omega⟩ : ℝ) : EReal) := by
  refine (dat0 V c).arrAt_forall_of_covers 3 (fun j v => ∀ (i : Fin 1024) (e : Fin 2048), j = ix2 i e →
    v = ((inproj (X i) NW W ⟨e.val, by omega⟩ : ℝ) : EReal)) (by decide +kernel) (fun t hf y => ?_) (ix2 i e)
    (Memref.isWhole_whole _) i e rfl
  intro i e hj
  have h0 := congrArg Fin.val (congrFun hj 0)
  have h1 := congrArg Fin.val (congrFun hj 1)
  blk_simp at h0
  blk_simp at h1
  blk_simp
  rw [after0_3, out0_3_eq]
  obtain ⟨i', e', rfl⟩ : ∃ (i' : Fin 256) (e' : Fin 2048), y = ix2 i' e' := ⟨y 0, y 1, eq_ix2 y⟩
  rw [index0_3] at h0 h1
  have e0 : row256 t i' = i := Fin.ext h0
  have e1 : e' = e := Fin.ext (by simpa using h1)
  subst e0 e1
  pointwise [k0_pay2]
  exact blk_pay1 V c X NW W hx hw hn t i' _

set_option maxHeartbeats 1000000 in
theorem r0_x (i : Fin 1024) (e : Fin 2048) :
    (dat0 V c).arrAt 4 cfg0.N (ix2 i e) = ((inproj (X i) NW W ⟨2048 + e.val, by omega⟩ : ℝ) : EReal) := by
  refine (dat0 V c).arrAt_forall_of_covers 4 (fun j v => ∀ (i : Fin 1024) (e : Fin 2048), j = ix2 i e →
    v = ((inproj (X i) NW W ⟨2048 + e.val, by omega⟩ : ℝ) : EReal)) (by decide +kernel) (fun t hf y => ?_) (ix2 i e)
    (Memref.isWhole_whole _) i e rfl
  intro i e hj
  have h0 := congrArg Fin.val (congrFun hj 0)
  have h1 := congrArg Fin.val (congrFun hj 1)
  blk_simp at h0
  blk_simp at h1
  blk_simp
  rw [after0_4, out0_4_eq]
  obtain ⟨i', e', rfl⟩ : ∃ (i' : Fin 256) (e' : Fin 2048), y = ix2 i' e' := ⟨y 0, y 1, eq_ix2 y⟩
  rw [index0_4] at h0 h1
  have e0 : row256 t i' = i := Fin.ext h0
  have e1 : e' = e := Fin.ext (by simpa using h1)
  subst e0 e1
  pointwise [k0_pay3]
  exact blk_pay1 V c X NW W hx hw hn t i' _

set_option maxHeartbeats 1000000 in
theorem r0_bc (i : Fin 1024) (e : Fin 256) :
    (dat0 V c).arrAt 5 cfg0.N (ix2 i e) = ((inproj (X i) NW W ⟨4096 + e.val, by omega⟩ : ℝ) : EReal) := by
  refine (dat0 V c).arrAt_forall_of_covers 5 (fun j v => ∀ (i : Fin 1024) (e : Fin 256), j = ix2 i e →
    v = ((inproj (X i) NW W ⟨4096 + e.val, by omega⟩ : ℝ) : EReal)) (by decide +kernel) (fun t hf y => ?_) (ix2 i e)
    (Memref.isWhole_whole _) i e rfl
  intro i e hj
  have h0 := congrArg Fin.val (congrFun hj 0)
  have h1 := congrArg Fin.val (congrFun hj 1)
  blk_simp at h0
  blk_simp at h1
  blk_simp
  rw [after0_5, out0_5_eq]
  obtain ⟨i', e', rfl⟩ : ∃ (i' : Fin 256) (e' : Fin 256), y = ix2 i' e' := ⟨y 0, y 1, eq_ix2 y⟩
  rw [index0_5] at h0 h1
  have e0 : row256 t i' = i := Fin.ext h0
  have e1 : e' = e := Fin.ext (by simpa using h1)
  subst e0 e1
  pointwise [k0_pay4]
  exact blk_pay1 V c X NW W hx hw hn t i' _

set_option maxHeartbeats 1000000 in
theorem r0_dt (i : Fin 1024) (e : Fin 32) :
    (dat0 V c).arrAt 6 cfg0.N (ix2 i e) = ((inproj (X i) NW W ⟨4352 + e.val, by omega⟩ : ℝ) : EReal) := by
  refine (dat0 V c).arrAt_forall_of_covers 6 (fun j v => ∀ (i : Fin 1024) (e : Fin 32), j = ix2 i e →
    v = ((inproj (X i) NW W ⟨4352 + e.val, by omega⟩ : ℝ) : EReal)) (by decide +kernel) (fun t hf y => ?_) (ix2 i e)
    (Memref.isWhole_whole _) i e rfl
  intro i e hj
  have h0 := congrArg Fin.val (congrFun hj 0)
  have h1 := congrArg Fin.val (congrFun hj 1)
  blk_simp at h0
  blk_simp at h1
  blk_simp
  rw [after0_6, out0_6_eq]
  obtain ⟨i', e', rfl⟩ : ∃ (i' : Fin 256) (e' : Fin 32), y = ix2 i' e' := ⟨y 0, y 1, eq_ix2 y⟩
  rw [index0_6] at h0 h1
  have e0 : row256 t i' = i := Fin.ext h0
  have e1 : e' = e := Fin.ext (by simpa using h1)
  subst e0 e1
  pointwise [k0_pay5]
  exact blk_pay1 V c X NW W hx hw hn t i' _

end

end Cert.Proof

end
-- ==== Proof.KKv.lean ====
/-
  What the third call leaves: the keys and the values, on real input arrays.
-/
module

public import proofs.«01_k».proof.Proof.Model
public import proofs.«01_k».proof.Proof.Gen.KernelIdeal.Frame
public import Idealize.ShloMosaic.Lib.Pipeline.ValueKit

@[expose] public section

set_option maxRecDepth 16384

noncomputable section

namespace Cert.Proof

open Idealize.ShloMosaic Cert.KernelIdeal Cert.KernelIdeal.Gen
open Idealize.ShloMosaic.TcCoe
open scoped BigOperators

set_option maxHeartbeats 1000000 in
theorem k2_pay2_real (x : Vec Ideal S256x1024 .f32) (w : Vec Ideal S1024x1024 .f32)
    (X : Fin 256 → Fin 1024 → ℝ) (W : Fin 1024 → Fin 1024 → ℝ)
    (hx : ∀ i k, x (ix2 i k) = ((X i k : ℝ) : EReal)) (hw : ∀ e k, w (ix2 e k) = ((W e k : ℝ) : EReal))
    (i : Fin 256) (e : Fin 1024) :
    k2_pay2 (F := Ideal) x w (ix2 i e) = ((rowMul (X i) W e : ℝ) : EReal) := by
  pointwise [k2_pay2, k2_pay1]
  simp only [hx, hw, ← EReal.coe_mul, ← coe_sum]
  rfl

theorem k2_pay3_eq (x : Vec Ideal S256x1024 .f32) (w : Vec Ideal S1024x1024 .f32) :
    k2_pay3 (F := Ideal) x w = k2_pay2 x w := rfl

section
variable (x0 : Vec Ideal S256x1024 .f32) (x1 x2 : Vec Ideal S1024x1024 .f32)

theorem out2_3_eq : out2_3 (F := Ideal) x0 x1 x2 = k2_pay2 x0 x1 := by
  unfold out2_3
  rw [View.canon_unit_zero (by decide), View.ld_unit_zero (by decide), View.ld_unit_zero (by decide)]
theorem out2_4_eq : out2_4 (F := Ideal) x0 x1 x2 = k2_pay2 x0 x2 := by
  unfold out2_4
  rw [View.canon_unit_zero (by decide), View.ld_unit_zero (by decide), View.ld_unit_zero (by decide), k2_pay3_eq]
end

variable (V : (c : Dev nD) → (b : Ref sig .tc) → Buf (Elt Ideal) ((c : Thread nD τ).loc b)) (c : Dev nD)

theorem index2_0 : ∀ t : Fin cfg2.N, win2_0.index t = ![t.val, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![0, 0] := (by decide +kernel : ∀ t : Fin grid2.N, _)
theorem index2_3 : ∀ t : Fin cfg2.N, win2_3.index t = ![t.val, 0] := (by decide +kernel : ∀ t : Fin grid2.N, _)
theorem index2_4 : ∀ t : Fin cfg2.N, win2_4.index t = ![t.val, 0] := (by decide +kernel : ∀ t : Fin grid2.N, _)

/-- Row `i` of block `t`, as a row of the array. -/
def erow (t : Fin cfg2.N) (i : Fin 256) : Fin 2048 :=
  ⟨t.val * 256 + i.val, by have h : t.val < 8 := t.isLt; have := i.isLt; omega⟩

theorem blk2_0 (t : Fin cfg2.N) (i : Fin 256) (k : Fin 1024) :
    iblk2 V c 0 t (ix2 i k) = V c (Pipeline.arrRef spec2 0) (ix2 (erow t i) k) := by
  blk_ext [iblk2, index2_0, erow]

theorem blk2_1 (t : Fin cfg2.N) (i : Fin 1024) (k : Fin 1024) :
    iblk2 V c 1 t (ix2 i k) = V c (Pipeline.arrRef spec2 1) (ix2 i k) := by
  blk_ext [iblk2, index2_1]

theorem blk2_2 (t : Fin cfg2.N) (i : Fin 1024) (k : Fin 1024) :
    iblk2 V c 2 t (ix2 i k) = V c (Pipeline.arrRef spec2 2) (ix2 i k) := by
  blk_ext [iblk2, index2_2]

set_option maxHeartbeats 1000000 in
theorem r2_k (X : Fin 2048 → Fin 1024 → ℝ) (W : Fin 1024 → Fin 1024 → ℝ)
    (hx : ∀ i k, V c (Pipeline.arrRef spec2 0) (ix2 i k) = ((X i k : ℝ) : EReal))
    (hw : ∀ e k, V c (Pipeline.arrRef spec2 1) (ix2 e k) = ((W e k : ℝ) : EReal)) (i : Fin 2048) (e : Fin 1024) :
    (dat2 V c).arrAt 3 cfg2.N (ix2 i e) = ((rowMul (X i) W e : ℝ) : EReal) := by
  refine (dat2 V c).arrAt_forall_of_covers 3 (fun j v => ∀ (i : Fin 2048) (e : Fin 1024), j = ix2 i e →
    v = ((rowMul (X i) W e : ℝ) : EReal)) (by decide +kernel) (fun t hf y => ?_) (ix2 i e)
    (Memref.isWhole_whole _) i e rfl
  intro i e hj
  have h0 := congrArg Fin.val (congrFun hj 0)
  have h1 := congrArg Fin.val (congrFun hj 1)
  blk_simp at h0
  blk_simp at h1
  blk_simp
  rw [after2_3, out2_3_eq]
  obtain ⟨i', e', rfl⟩ : ∃ (i' : Fin 256) (e' : Fin 1024), y = ix2 i' e' := ⟨y 0, y 1, eq_ix2 y⟩
  rw [index2_3] at h0 h1
  have e0 : erow t i' = i := Fin.ext h0
  have e1 : e' = e := Fin.ext (by simpa using h1)
  subst e0 e1
  exact k2_pay2_real _ _ (fun i => X (erow t i)) W (fun i k => (blk2_0 V c t i k).trans (hx _ _))
    (fun e k => (blk2_1 V c t e k).trans (hw _ _)) i' e'

set_option maxHeartbeats 1000000 in
theorem r2_v (X : Fin 2048 → Fin 1024 → ℝ) (W : Fin 1024 → Fin 1024 → ℝ)
    (hx : ∀ i k, V c (Pipeline.arrRef spec2 0) (ix2 i k) = ((X i k : ℝ) : EReal))
    (hw : ∀ e k, V c (Pipeline.arrRef spec2 2) (ix2 e k) = ((W e k : ℝ) : EReal)) (i : Fin 2048) (e : Fin 1024) :
    (dat2 V c).arrAt 4 cfg2.N (ix2 i e) = ((rowMul (X i) W e : ℝ) : EReal) := by
  refine (dat2 V c).arrAt_forall_of_covers 4 (fun j v => ∀ (i : Fin 2048) (e : Fin 1024), j = ix2 i e →
    v = ((rowMul (X i) W e : ℝ) : EReal)) (by decide +kernel) (fun t hf y => ?_) (ix2 i e)
    (Memref.isWhole_whole _) i e rfl
  intro i e hj
  have h0 := congrArg Fin.val (congrFun hj 0)
  have h1 := congrArg Fin.val (congrFun hj 1)
  blk_simp at h0
  blk_simp at h1
  blk_simp
  rw [after2_4, out2_4_eq]
  obtain ⟨i', e', rfl⟩ : ∃ (i' : Fin 256) (e' : Fin 1024), y = ix2 i' e' := ⟨y 0, y 1, eq_ix2 y⟩
  rw [index2_4] at h0 h1
  have e0 : erow t i' = i := Fin.ext h0
  have e1 : e' = e := Fin.ext (by simpa using h1)
  subst e0 e1
  exact k2_pay2_real _ _ (fun i => X (erow t i)) W (fun i k => (blk2_0 V c t i k).trans (hx _ _))
    (fun e k => (blk2_2 V c t e k).trans (hw _ _)) i' e'

end Cert.Proof

end
-- ==== Proof.KAttnPay.lean ====
/-
  The payloads of the fourth call on real input blocks: gate, norm and output projection, layer normalisation, queries,
  the eight heads of attention, output.
-/
module

public import proofs.«01_k».proof.Proof.Model
public import proofs.«01_k».proof.Proof.Gen.KernelIdeal.Skeleton

@[expose] public section

set_option maxRecDepth 16384

noncomputable section

namespace Cert.Proof

open Idealize.ShloMosaic Cert.KernelIdeal Cert.KernelIdeal.Gen
open scoped BigOperators

section
variable (v0 v2 : Vec Ideal S256x2048 .f32) (v17 : Vec Ideal S1x2048 .f32) (v21 : Vec Ideal S256x1024 .f32)
  (v23 : Vec Ideal S2048x1024 .f32) (Y Z : Fin 256 → Fin 2048 → ℝ) (GW : Fin 2048 → ℝ) (X : Fin 256 → Fin 1024 → ℝ)
  (OW : Fin 2048 → Fin 1024 → ℝ)
  (hz : ∀ i k, v0 (ix2 i k) = ((Z i k : ℝ) : EReal)) (hy : ∀ i k, v2 (ix2 i k) = ((Y i k : ℝ) : EReal))
  (hg : ∀ k, v17 (ix2 0 k) = ((GW k : ℝ) : EReal)) (hx : ∀ i k, v21 (ix2 i k) = ((X i k : ℝ) : EReal))
  (ho : ∀ i k, v23 (ix2 i k) = ((OW i k : ℝ) : EReal))
include hz hy hg hx ho

set_option maxHeartbeats 1000000 in
theorem k3_pay2_real (i : Fin 256) (j : Fin 1024) :
    k3_pay2 (F := Ideal) v0 v2 v17 v21 v23 (ix2 i j) = ((hrow (Y i) (Z i) GW (X i) OW j : ℝ) : EReal) := by
  pointwise [k3_pay2]
  simp only [hz, hy, hg, hx, ho, logistic_coe, ← EReal.coe_mul]
  rw [show Ideal.ofBits .f32 1157627904#32 = _ from ofBits_2048,
    show Ideal.ofBits .f32 925353388#32 = _ from ofBits_eps]
  simp only [← coe_sum]
  have hp : 0 < (∑ k, Y i k * (Z i k * sigm (Z i k)) * (Y i k * (Z i k * sigm (Z i k)))) / 2048 + eps :=
    rms_arg_pos (gated (Y i) (Z i)) 2048 (by norm_num)
  rw [div_coe _ _ (by norm_num), ← EReal.coe_add, rsqrt_coe _ hp]
  simp only [← EReal.coe_mul, ← EReal.coe_add, ← coe_sum]
  rfl

set_option maxHeartbeats 1000000 in
theorem k3_pay3_real (i : Fin 256) (j : Fin 1024) :
    k3_pay3 (F := Ideal) v0 v2 v17 v21 v23 (ix2 i j)
      = ((centred (hrow (Y i) (Z i) GW (X i) OW) j : ℝ) : EReal) := by
  pointwise [k3_pay3]
  simp only [k3_pay2_real v0 v2 v17 v21 v23 Y Z GW X OW hz hy hg hx ho]
  rw [show Ideal.ofBits .f32 1149239296#32 = _ from ofBits_1024]
  simp only [← coe_sum]
  rw [div_coe _ _ (by norm_num), ← EReal.coe_sub]
  rfl

set_option maxHeartbeats 1000000 in
theorem k3_pay4_real (i : Fin 256) :
    k3_pay4 (F := Ideal) v0 v2 v17 v21 v23 (ix2 i 0)
      = ((rmsS 1024 (centred (hrow (Y i) (Z i) GW (X i) OW)) : ℝ) : EReal) := by
  pointwise [k3_pay4]
  simp only [k3_pay3_real v0 v2 v17 v21 v23 Y Z GW X OW hz hy hg hx ho]
  rw [show Ideal.ofBits .f32 1149239296#32 = _ from ofBits_1024,
    show Ideal.ofBits .f32 925353388#32 = _ from ofBits_eps]
  exact rms_coe _ _ (by norm_num)
end

set_option maxHeartbeats 1000000 in
theorem k3_pay5_real (v31 : Vec Ideal S256x1024 .f32) (v39 : Vec Ideal S256x1 .f32) (v42 v46 : Vec Ideal S1x1024 .f32)
    (v50 : Vec Ideal S1024x1024 .f32) (H : Fin 256 → Fin 1024 → ℝ) (LW LB : Fin 1024 → ℝ) (WQ : Fin 1024 → Fin 1024 → ℝ)
    (h31 : ∀ i k, v31 (ix2 i k) = ((centred (H i) k : ℝ) : EReal))
    (h39 : ∀ i, v39 (ix2 i 0) = ((rmsS 1024 (centred (H i)) : ℝ) : EReal))
    (h42 : ∀ k, v42 (ix2 0 k) = ((LW k : ℝ) : EReal)) (h46 : ∀ k, v46 (ix2 0 k) = ((LB k : ℝ) : EReal))
    (h50 : ∀ i k, v50 (ix2 i k) = ((WQ i k : ℝ) : EReal)) (i : Fin 256) (j : Fin 1024) :
    k3_pay5 (F := Ideal) v31 v39 v42 v46 v50 (ix2 i j) = ((rowMul (lnorm (H i) LW LB) WQ j : ℝ) : EReal) := by
  pointwise [k3_pay5]
  simp only [h31, h39, h42, h46, h50, ← EReal.coe_mul, ← EReal.coe_add, ← coe_sum]
  rfl

/-- One head, as the payloads spell it: scores, their maximum, the exponentials, their sum, the weighted values. -/
theorem head_core (Q : Fin 1024 → ℝ) (K V : Fin 2048 → Fin 1024 → ℝ) (h : Fin 8) (d : Fin 128)
    (q : Fin 128 → EReal) (k : Fin 2048 → Fin 128 → EReal) (v : Fin 2048 → EReal)
    (hq : ∀ e, q e = ((Q (hcol h e) : ℝ) : EReal)) (hk : ∀ s e, k s e = ((K s (hcol h e) : ℝ) : EReal))
    (hv : ∀ s, v s = ((V s (hcol h d) : ℝ) : EReal)) :
    Ideal.div
      (∑ x, Ideal.exp (∑ y, q y * Ideal.ofBits FTy.f32 1035273459#32 * k x y -
          Finset.fold max (Ideal.ofBits FTy.f32 4286578688#32)
            (fun x => ∑ y, q y * Ideal.ofBits FTy.f32 1035273459#32 * k x y) Finset.univ) * v x)
      (∑ x, Ideal.exp (∑ y, q y * Ideal.ofBits FTy.f32 1035273459#32 * k x y -
          Finset.fold max (Ideal.ofBits FTy.f32 4286578688#32)
            (fun x => ∑ y, q y * Ideal.ofBits FTy.f32 1035273459#32 * k x y) Finset.univ))
      = ((attH Q K V h d : ℝ) : EReal) := by
  simp only [hq, hk, hv]
  rw [show Ideal.ofBits .f32 1035273459#32 = _ from ofBits_scale,
    show Ideal.ofBits .f32 4286578688#32 = _ from ofBits_bot]
  simp only [← EReal.coe_mul, ← coe_sum]
  rw [fold_max_coe (fun x => ∑ y, Q (hcol h y) * scale * K x (hcol h y))]
  simp only [← EReal.coe_sub, exp_coe, ← EReal.coe_mul, ← coe_sum]
  exact div_coe _ _ (sum_sexp_pos (score Q K h)).ne'

/-- The heads side by side. -/
theorem att_at (Q : Fin 1024 → ℝ) (K V : Fin 2048 → Fin 1024 → ℝ) (h : Fin 8) (e : Fin 1024) (d : Fin 128)
    (he : e.val = 128 * h.val + d.val) : att Q K V e = attH Q K V h d := by
  unfold att
  congr 1
  · apply Fin.ext; show e.val / 128 = h.val; have := d.isLt; omega
  · apply Fin.ext; show e.val % 128 = d.val; have := d.isLt; omega

theorem dite_eq_of {c : Prop} [Decidable c] {α : Type*} {A : c → α} {B : ¬c → α} {x : α} (h : ∀ hc, A hc = x)
    (h' : ∀ hc, B hc = x) : dite c A B = x := by
  by_cases hc : c
  · rw [dif_pos hc]; exact h hc
  · rw [dif_neg hc]; exact h' hc

section heads
variable (Q : Fin 256 → Fin 1024 → ℝ) (K V : Fin 2048 → Fin 1024 → ℝ)

section first
variable (v31 : Vec Ideal S256x1024 .f32) (v39 : Vec Ideal S256x1 .f32) (v42 v46 : Vec Ideal S1x1024 .f32)
    (v50 : Vec Ideal S1024x1024 .f32)
    (hq : ∀ i k, k3_pay5 (F := Ideal) v31 v39 v42 v46 v50 (ix2 i k) = ((Q i k : ℝ) : EReal))
include hq

set_option maxHeartbeats 1000000 in
theorem head0 (k v : Vec Ideal S2048x128 .f32)
    (hk : ∀ s d, k (ix2 s d) = ((K s (hcol 0 d) : ℝ) : EReal))
    (hv : ∀ s d, v (ix2 s d) = ((V s (hcol 0 d) : ℝ) : EReal)) (i : Fin 256) (d : Fin 128) :
    k3_pay6 (F := Ideal) v31 v39 v42 v46 v50 k v (ix2 i d) = ((attH (Q i) K V 0 d : ℝ) : EReal) := by
  pointwise [k3_pay6]
  exact head_core (Q i) K V 0 d (fun e => k3_pay5 (F := Ideal) v31 v39 v42 v46 v50 (ix2 i ⟨e.val, by omega⟩))
    (fun s e => k (ix2 s e)) (fun s => v (ix2 s d)) (fun e => (hq i _).trans (by congr 2; apply Fin.ext; simp [hcol]))
    (fun s e => hk s e) (fun s => hv s d)

set_option maxHeartbeats 1000000 in
theorem head1 (k v : Vec Ideal S2048x128 .f32)
    (hk : ∀ s d, k (ix2 s d) = ((K s (hcol 1 d) : ℝ) : EReal))
    (hv : ∀ s d, v (ix2 s d) = ((V s (hcol 1 d) : ℝ) : EReal)) (i : Fin 256) (d : Fin 128) :
    k3_pay9 (F := Ideal) (k3_pay7 v31 v39 v42 v46 v50 k) (k3_pay8 v31 v39 v42 v46 v50 k) v (ix2 i d)
      = ((attH (Q i) K V 1 d : ℝ) : EReal) := by
  pointwise [k3_pay9, k3_pay8, k3_pay7]
  exact head_core (Q i) K V 1 d (fun e => k3_pay5 (F := Ideal) v31 v39 v42 v46 v50 (ix2 i ⟨128 + e.val, by omega⟩))
    (fun s e => k (ix2 s e)) (fun s => v (ix2 s d)) (fun e => (hq i _).trans (by congr 2))
    (fun s e => hk s e) (fun s => hv s d)
end first

section rest
variable (q : Vec Ideal S256x1024 .f32) (hq : ∀ i k, q (ix2 i k) = ((Q i k : ℝ) : EReal))
include hq

set_option maxHeartbeats 1000000 in
theorem head2 (k v : Vec Ideal S2048x128 .f32)
    (hk : ∀ s d, k (ix2 s d) = ((K s (hcol 2 d) : ℝ) : EReal))
    (hv : ∀ s d, v (ix2 s d) = ((V s (hcol 2 d) : ℝ) : EReal)) (i : Fin 256) (d : Fin 128) :
    k3_pay10 (F := Ideal) q k v (ix2 i d) = ((attH (Q i) K V 2 d : ℝ) : EReal) := by
  pointwise [k3_pay10]
  exact head_core (Q i) K V 2 d (fun e => q (ix2 i ⟨256 + e.val, by omega⟩)) (fun s e => k (ix2 s e))
    (fun s => v (ix2 s d)) (fun e => (hq i _).trans (by congr 2)) (fun s e => hk s e) (fun s => hv s d)

set_option maxHeartbeats 1000000 in
theorem head3 (k v : Vec Ideal S2048x128 .f32)
    (hk : ∀ s d, k (ix2 s d) = ((K s (hcol 3 d) : ℝ) : EReal))
    (hv : ∀ s d, v (ix2 s d) = ((V s (hcol 3 d) : ℝ) : EReal)) (i : Fin 256) (d : Fin 128) :
    k3_pay13 (F := Ideal) (k3_pay11 q k) (k3_pay12 q k) v (ix2 i d) = ((attH (Q i) K V 3 d : ℝ) : EReal) := by
  pointwise [k3_pay13, k3_pay12, k3_pay11]
  exact head_core (Q i) K V 3 d (fun e => q (ix2 i ⟨384 + e.val, by omega⟩)) (fun s e => k (ix2 s e))
    (fun s => v (ix2 s d)) (fun e => (hq i _).trans (by congr 2)) (fun s e => hk s e) (fun s => hv s d)

set_option maxHeartbeats 1000000 in
theorem head4 (k v : Vec Ideal S2048x128 .f32)
    (hk : ∀ s d, k (ix2 s d) = ((K s (hcol 4 d) : ℝ) : EReal))
    (hv : ∀ s d, v (ix2 s d) = ((V s (hcol 4 d) : ℝ) : EReal)) (i : Fin 256) (d : Fin 128) :
    k3_pay14 (F := Ideal) q k v (ix2 i d) = ((attH (Q i) K V 4 d : ℝ) : EReal) := by
  pointwise [k3_pay14]
  exact head_core (Q i) K V 4 d (fun e => q (ix2 i ⟨512 + e.val, by omega⟩)) (fun s e => k (ix2 s e))
    (fun s => v (ix2 s d)) (fun e => (hq i _).trans (by congr 2)) (fun s e => hk s e) (fun s => hv s d)

set_option maxHeartbeats 1000000 in
theorem head5 (k v : Vec Ideal S2048x128 .f32)
    (hk : ∀ s d, k (ix2 s d) = ((K s (hcol 5 d) : ℝ) : EReal))
    (hv : ∀ s d, v (ix2 s d) = ((V s (hcol 5 d) : ℝ) : EReal)) (i : Fin 256) (d : Fin 128) :
    Ideal.div (k3_pay16 (F := Ideal) q k v (ix2 i d)) (k3_pay17 (F := Ideal) q k (ix2 i d)) = ((attH (Q i) K V 5 d : ℝ) : EReal) := by
  pointwise [k3_pay16, k3_pay17, k3_pay15]
  exact head_core (Q i) K V 5 d (fun e => q (ix2 i ⟨640 + e.val, by omega⟩)) (fun s e => k (ix2 s e))
    (fun s => v (ix2 s d)) (fun e => (hq i _).trans (by congr 2)) (fun s e => hk s e) (fun s => hv s d)

set_option maxHeartbeats 2000000 in
theorem k3_pay18_real (p0 p1 p2 p3 p4 p5 l5 : Vec Ideal S256x128 .f32) (k6 v6 k7 v7 : Vec Ideal S2048x128 .f32)
    (h0 : ∀ i d, p0 (ix2 i d) = ((attH (Q i) K V 0 d : ℝ) : EReal))
    (h1 : ∀ i d, p1 (ix2 i d) = ((attH (Q i) K V 1 d : ℝ) : EReal))
    (h2 : ∀ i d, p2 (ix2 i d) = ((attH (Q i) K V 2 d : ℝ) : EReal))
    (h3 : ∀ i d, p3 (ix2 i d) = ((attH (Q i) K V 3 d : ℝ) : EReal))
    (h4 : ∀ i d, p4 (ix2 i d) = ((attH (Q i) K V 4 d : ℝ) : EReal))
    (h5 : ∀ i d, Ideal.div (p5 (ix2 i d)) (l5 (ix2 i d)) = ((attH (Q i) K V 5 d : ℝ) : EReal))
    (hk6 : ∀ s d, k6 (ix2 s d) = ((K s (hcol 6 d) : ℝ) : EReal))
    (hv6 : ∀ s d, v6 (ix2 s d) = ((V s (hcol 6 d) : ℝ) : EReal))
    (hk7 : ∀ s d, k7 (ix2 s d) = ((K s (hcol 7 d) : ℝ) : EReal))
    (hv7 : ∀ s d, v7 (ix2 s d) = ((V s (hcol 7 d) : ℝ) : EReal)) (i : Fin 256) (e : Fin 1024) :
    k3_pay18 (F := Ideal) q p0 p1 p2 p3 p4 p5 l5 k6 v6 k7 v7 (ix2 i e) = ((att (Q i) K V e : ℝ) : EReal) := by
  pointwise [k3_pay18]
  have hl := e.isLt
  refine dite_eq_of (fun c0 => ?_) fun c0 => dite_eq_of (fun c1 => ?_) fun c1 => dite_eq_of (fun c2 => ?_) fun c2 =>
    dite_eq_of (fun c3 => ?_) fun c3 => dite_eq_of (fun c4 => ?_) fun c4 => dite_eq_of (fun c5 => ?_) fun c5 =>
    dite_eq_of (fun c6 => ?_) fun c6 => ?_
  · exact (h0 i _).trans (congrArg (fun r : ℝ => (r : EReal)) (att_at (Q i) K V 0 e _ (show e.val = 128 * 0 + (e.val) by omega)).symm)
  · exact (h1 i _).trans (congrArg (fun r : ℝ => (r : EReal)) (att_at (Q i) K V 1 e _ (show e.val = 128 * 1 + (e.val - 128) by omega)).symm)
  · exact (h2 i _).trans (congrArg (fun r : ℝ => (r : EReal)) (att_at (Q i) K V 2 e _ (show e.val = 128 * 2 + (e.val - 128 - 128) by omega)).symm)
  · exact (h3 i _).trans (congrArg (fun r : ℝ => (r : EReal)) (att_at (Q i) K V 3 e _ (show e.val = 128 * 3 + (e.val - 128 - 128 - 128) by omega)).symm)
  · exact (h4 i _).trans (congrArg (fun r : ℝ => (r : EReal)) (att_at (Q i) K V 4 e _ (show e.val = 128 * 4 + (e.val - 128 - 128 - 128 - 128) by omega)).symm)
  · exact (h5 i _).trans (congrArg (fun r : ℝ => (r : EReal)) (att_at (Q i) K V 5 e _ (show e.val = 128 * 5 + (e.val - 128 - 128 - 128 - 128 - 128) by omega)).symm)
  · rw [att_at (Q i) K V 6 e ⟨e.val - 128 - 128 - 128 - 128 - 128 - 128, by omega⟩ (show e.val = 128 * 6 + (e.val - 128 - 128 - 128 - 128 - 128 - 128) by omega)]
    exact head_core (Q i) K V 6 ⟨e.val - 128 - 128 - 128 - 128 - 128 - 128, by omega⟩ (fun e => q (ix2 i ⟨768 + e.val, by omega⟩)) (fun s e => k6 (ix2 s e))
      (fun s => v6 (ix2 s ⟨e.val - 128 - 128 - 128 - 128 - 128 - 128, by omega⟩)) (fun e => (hq i _).trans (by congr 2)) (fun s e => hk6 s e) (fun s => hv6 s _)
  · rw [att_at (Q i) K V 7 e ⟨e.val - 128 - 128 - 128 - 128 - 128 - 128 - 128, by omega⟩ (show e.val = 128 * 7 + (e.val - 128 - 128 - 128 - 128 - 128 - 128 - 128) by omega)]
    exact head_core (Q i) K V 7 ⟨e.val - 128 - 128 - 128 - 128 - 128 - 128 - 128, by omega⟩ (fun e => q (ix2 i ⟨896 + e.val, by omega⟩)) (fun s e => k7 (ix2 s e))
      (fun s => v7 (ix2 s ⟨e.val - 128 - 128 - 128 - 128 - 128 - 128 - 128, by omega⟩)) (fun e => (hq i _).trans (by congr 2)) (fun s e => hk7 s e) (fun s => hv7 s _)
end rest
end heads

set_option maxHeartbeats 1000000 in
theorem k3_pay1_real (h a : Vec Ideal S256x1024 .f32) (w : Vec Ideal S1024x1024 .f32)
    (H A : Fin 256 → Fin 1024 → ℝ) (W : Fin 1024 → Fin 1024 → ℝ)
    (hh : ∀ i k, h (ix2 i k) = ((H i k : ℝ) : EReal)) (ha : ∀ i k, a (ix2 i k) = ((A i k : ℝ) : EReal))
    (hw : ∀ i k, w (ix2 i k) = ((W i k : ℝ) : EReal)) (i : Fin 256) (j : Fin 1024) :
    k3_pay1 (F := Ideal) h a w (constant S256x1024 .f32 0x00000000#32) (ix2 i j)
      = ((H i j + rowMul (A i) W j : ℝ) : EReal) := by
  pointwise [k3_pay1]
  simp only [hh, ha, hw, ← EReal.coe_mul, ← EReal.coe_add, ← coe_sum]
  rfl

end Cert.Proof

end
-- ==== Proof.KAttn.lean ====
/-
  What the fourth call leaves, on real input arrays: the residual row plus its attention's output.
-/
module

public import proofs.«01_k».proof.Proof.KAttnPay
public import proofs.«01_k».proof.Proof.Gen.KernelIdeal.Frame
public import Idealize.ShloMosaic.Lib.Pipeline.ValueKit

@[expose] public section

set_option maxRecDepth 16384

noncomputable section

namespace Cert.Proof

open Idealize.ShloMosaic Cert.KernelIdeal Cert.KernelIdeal.Gen
open Idealize.ShloMosaic.TcCoe
open scoped BigOperators

theorem ld_head0 (x : Vec Ideal S2048x1024 .f32) (s : Fin 2048) (d : Fin 128) :
    View.ld (Val := Elt Ideal) x r3_6 (ix2 s d) = x (ix2 s (hcol 0 d)) := by
  refine congrArg x (funext fun a => Fin.ext ?_)
  fin_cases a <;> simp [Rect.unit, hcol]

theorem ld_head1 (x : Vec Ideal S2048x1024 .f32) (s : Fin 2048) (d : Fin 128) :
    View.ld (Val := Elt Ideal) x r3_7 (ix2 s d) = x (ix2 s (hcol 1 d)) := by
  refine congrArg x (funext fun a => Fin.ext ?_)
  fin_cases a <;> simp [Rect.unit, hcol]

theorem ld_head2 (x : Vec Ideal S2048x1024 .f32) (s : Fin 2048) (d : Fin 128) :
    View.ld (Val := Elt Ideal) x r3_8 (ix2 s d) = x (ix2 s (hcol 2 d)) := by
  refine congrArg x (funext fun a => Fin.ext ?_)
  fin_cases a <;> simp [Rect.unit, hcol]

theorem ld_head3 (x : Vec Ideal S2048x1024 .f32) (s : Fin 2048) (d : Fin 128) :
    View.ld (Val := Elt Ideal) x r3_9 (ix2 s d) = x (ix2 s (hcol 3 d)) := by
  refine congrArg x (funext fun a => Fin.ext ?_)
  fin_cases a <;> simp [Rect.unit, hcol]

theorem ld_head4 (x : Vec Ideal S2048x1024 .f32) (s : Fin 2048) (d : Fin 128) :
    View.ld (Val := Elt Ideal) x r3_10 (ix2 s d) = x (ix2 s (hcol 4 d)) := by
  refine congrArg x (funext fun a => Fin.ext ?_)
  fin_cases a <;> simp [Rect.unit, hcol]

theorem ld_head5 (x : Vec Ideal S2048x1024 .f32) (s : Fin 2048) (d : Fin 128) :
    View.ld (Val := Elt Ideal) x r3_11 (ix2 s d) = x (ix2 s (hcol 5 d)) := by
  refine congrArg x (funext fun a => Fin.ext ?_)
  fin_cases a <;> simp [Rect.unit, hcol]

theorem ld_head6 (x : Vec Ideal S2048x1024 .f32) (s : Fin 2048) (d : Fin 128) :
    View.ld (Val := Elt Ideal) x r3_12 (ix2 s d) = x (ix2 s (hcol 6 d)) := by
  refine congrArg x (funext fun a => Fin.ext ?_)
  fin_cases a <;> simp [Rect.unit, hcol]

theorem ld_head7 (x : Vec Ideal S2048x1024 .f32) (s : Fin 2048) (d : Fin 128) :
    View.ld (Val := Elt Ideal) x r3_13 (ix2 s d) = x (ix2 s (hcol 7 d)) := by
  refine congrArg x (funext fun a => Fin.ext ?_)
  fin_cases a <;> simp [Rect.unit, hcol]

section out
variable (x0 : Vec Ideal S256x2048 .f32) (x1 : Vec Ideal S256x2048 .f32) (x2 : Vec Ideal S256x1024 .f32)
  (x3 : Vec Ideal S1x2048 .f32) (x4 : Vec Ideal S2048x1024 .f32) (x5 : Vec Ideal S2048x1024 .f32)
  (x6 : Vec Ideal S2048x1024 .f32) (x7 : Vec Ideal S1024x1024 .f32) (x8 : Vec Ideal S1024x1024 .f32)
  (x9 : Vec Ideal S1x1024 .f32) (x10 : Vec Ideal S1x1024 .f32)
  (Y Z : Fin 256 → Fin 2048 → ℝ) (X : Fin 256 → Fin 1024 → ℝ) (GW : Fin 2048 → ℝ) (OW : Fin 2048 → Fin 1024 → ℝ)
  (K V : Fin 2048 → Fin 1024 → ℝ) (WQ WO : Fin 1024 → Fin 1024 → ℝ) (LW LB : Fin 1024 → ℝ)
  (h0 : ∀ i k, x0 (ix2 i k) = ((Y i k : ℝ) : EReal)) (h1 : ∀ i k, x1 (ix2 i k) = ((Z i k : ℝ) : EReal))
  (h2 : ∀ i k, x2 (ix2 i k) = ((X i k : ℝ) : EReal)) (h3 : ∀ k, x3 (ix2 0 k) = ((GW k : ℝ) : EReal))
  (h4 : ∀ i k, x4 (ix2 i k) = ((OW i k : ℝ) : EReal)) (h5 : ∀ i k, x5 (ix2 i k) = ((K i k : ℝ) : EReal))
  (h6 : ∀ i k, x6 (ix2 i k) = ((V i k : ℝ) : EReal)) (h7 : ∀ i k, x7 (ix2 i k) = ((WQ i k : ℝ) : EReal))
  (h8 : ∀ i k, x8 (ix2 i k) = ((WO i k : ℝ) : EReal)) (h9 : ∀ k, x9 (ix2 0 k) = ((LW k : ℝ) : EReal))
  (h10 : ∀ k, x10 (ix2 0 k) = ((LB k : ℝ) : EReal))
include h0 h1 h2 h3 h4 h5 h6 h7 h8 h9 h10

set_option maxHeartbeats 1000000 in
theorem out3_11_real (i : Fin 256) (j : Fin 1024) :
    out3_11 (F := Ideal) x0 x1 x2 x3 x4 x5 x6 x7 x8 x9 x10 (ix2 i j)
      = ((finalRow (hrow (Y i) (Z i) GW (X i) OW) LW LB K V WQ WO j : ℝ) : EReal) := by
  have l0 : View.ld (Val := Elt Ideal) x0 r3_0 = x0 := View.ld_unit_zero (by decide) _ _
  have l1 : View.ld (Val := Elt Ideal) x1 r3_0 = x1 := View.ld_unit_zero (by decide) _ _
  have l2 : View.ld (Val := Elt Ideal) x2 r3_2 = x2 := View.ld_unit_zero (by decide) _ _
  have l3 : View.ld (Val := Elt Ideal) x3 r3_1 = x3 := View.ld_unit_zero (by decide) _ _
  have l4 : View.ld (Val := Elt Ideal) x4 r3_3 = x4 := View.ld_unit_zero (by decide) _ _
  have l7 : View.ld (Val := Elt Ideal) x7 r3_5 = x7 := View.ld_unit_zero (by decide) _ _
  have l8 : View.ld (Val := Elt Ideal) x8 r3_5 = x8 := View.ld_unit_zero (by decide) _ _
  have l9 : View.ld (Val := Elt Ideal) x9 r3_4 = x9 := View.ld_unit_zero (by decide) _ _
  have l10 : View.ld (Val := Elt Ideal) x10 r3_4 = x10 := View.ld_unit_zero (by decide) _ _
  have hp3 := k3_pay3_real x1 x0 x3 x2 x4 Y Z GW X OW h1 h0 h3 h2 h4
  have hp4 := k3_pay4_real x1 x0 x3 x2 x4 Y Z GW X OW h1 h0 h3 h2 h4
  have hq := k3_pay5_real _ _ x9 x10 x7 (fun i => hrow (Y i) (Z i) GW (X i) OW) LW LB WQ hp3 hp4 h9 h10 h7
  unfold out3_11 k3_pay21 k3_pay20 k3_pay19
  rw [View.canon_unit_zero (by decide), l0, l1, l2, l3, l4, l7, l8, l9, l10]
  have hk0 : ∀ s d, View.ld (Val := Elt Ideal) x5 r3_6 (ix2 s d) = ((K s (hcol 0 d) : ℝ) : EReal) := fun s d => (ld_head0 x5 s d).trans (h5 _ _)
  have hv0 : ∀ s d, View.ld (Val := Elt Ideal) x6 r3_6 (ix2 s d) = ((V s (hcol 0 d) : ℝ) : EReal) := fun s d => (ld_head0 x6 s d).trans (h6 _ _)
  have hk1 : ∀ s d, View.ld (Val := Elt Ideal) x5 r3_7 (ix2 s d) = ((K s (hcol 1 d) : ℝ) : EReal) := fun s d => (ld_head1 x5 s d).trans (h5 _ _)
  have hv1 : ∀ s d, View.ld (Val := Elt Ideal) x6 r3_7 (ix2 s d) = ((V s (hcol 1 d) : ℝ) : EReal) := fun s d => (ld_head1 x6 s d).trans (h6 _ _)
  have hk2 : ∀ s d, View.ld (Val := Elt Ideal) x5 r3_8 (ix2 s d) = ((K s (hcol 2 d) : ℝ) : EReal) := fun s d => (ld_head2 x5 s d).trans (h5 _ _)
  have hv2 : ∀ s d, View.ld (Val := Elt Ideal) x6 r3_8 (ix2 s d) = ((V s (hcol 2 d) : ℝ) : EReal) := fun s d => (ld_head2 x6 s d).trans (h6 _ _)
  have hk3 : ∀ s d, View.ld (Val := Elt Ideal) x5 r3_9 (ix2 s d) = ((K s (hcol 3 d) : ℝ) : EReal) := fun s d => (ld_head3 x5 s d).trans (h5 _ _)
  have hv3 : ∀ s d, View.ld (Val := Elt Ideal) x6 r3_9 (ix2 s d) = ((V s (hcol 3 d) : ℝ) : EReal) := fun s d => (ld_head3 x6 s d).trans (h6 _ _)
  have hk4 : ∀ s d, View.ld (Val := Elt Ideal) x5 r3_10 (ix2 s d) = ((K s (hcol 4 d) : ℝ) : EReal) := fun s d => (ld_head4 x5 s d).trans (h5 _ _)
  have hv4 : ∀ s d, View.ld (Val := Elt Ideal) x6 r3_10 (ix2 s d) = ((V s (hcol 4 d) : ℝ) : EReal) := fun s d => (ld_head4 x6 s d).trans (h6 _ _)
  have hk5 : ∀ s d, View.ld (Val := Elt Ideal) x5 r3_11 (ix2 s d) = ((K s (hcol 5 d) : ℝ) : EReal) := fun s d => (ld_head5 x5 s d).trans (h5 _ _)
  have hv5 : ∀ s d, View.ld (Val := Elt Ideal) x6 r3_11 (ix2 s d) = ((V s (hcol 5 d) : ℝ) : EReal) := fun s d => (ld_head5 x6 s d).trans (h6 _ _)
  have hk6 : ∀ s d, View.ld (Val := Elt Ideal) x5 r3_12 (ix2 s d) = ((K s (hcol 6 d) : ℝ) : EReal) := fun s d => (ld_head6 x5 s d).trans (h5 _ _)
  have hv6 : ∀ s d, View.ld (Val := Elt Ideal) x6 r3_12 (ix2 s d) = ((V s (hcol 6 d) : ℝ) : EReal) := fun s d => (ld_head6 x6 s d).trans (h6 _ _)
  have hk7 : ∀ s d, View.ld (Val := Elt Ideal) x5 r3_13 (ix2 s d) = ((K s (hcol 7 d) : ℝ) : EReal) := fun s d => (ld_head7 x5 s d).trans (h5 _ _)
  have hv7 : ∀ s d, View.ld (Val := Elt Ideal) x6 r3_13 (ix2 s d) = ((V s (hcol 7 d) : ℝ) : EReal) := fun s d => (ld_head7 x6 s d).trans (h6 _ _)
  exact k3_pay1_real _ _ x8 (fun i => hrow (Y i) (Z i) GW (X i) OW)
    (fun i => att (rowMul (lnorm (hrow (Y i) (Z i) GW (X i) OW) LW LB) WQ) K V) WO
    (k3_pay2_real x1 x0 x3 x2 x4 Y Z GW X OW h1 h0 h3 h2 h4)
    (k3_pay18_real _ K V _ hq _ _ _ _ _ _ _ _ _ _ _
      (head0 _ K V _ _ _ _ _ hq _ _ hk0 hv0) (head1 _ K V _ _ _ _ _ hq _ _ hk1 hv1) (head2 _ K V _ hq _ _ hk2 hv2)
      (head3 _ K V _ hq _ _ hk3 hv3) (head4 _ K V _ hq _ _ hk4 hv4) (head5 _ K V _ hq _ _ hk5 hv5) hk6 hv6 hk7 hv7)
    h8 i j
end out

variable (V : (c : Dev nD) → (b : Ref sig .tc) → Buf (Elt Ideal) ((c : Thread nD τ).loc b)) (c : Dev nD)

theorem index3_0 : ∀ t : Fin cfg3.N, win3_0.index t = ![t.val, 0] := (by decide +kernel : ∀ t : Fin grid3.N, _)
theorem index3_1 : ∀ t : Fin cfg3.N, win3_1.index t = ![t.val, 0] := (by decide +kernel : ∀ t : Fin grid3.N, _)
theorem index3_2 : ∀ t : Fin cfg3.N, win3_2.index t = ![t.val, 0] := (by decide +kernel : ∀ t : Fin grid3.N, _)
theorem index3_3 : ∀ t : Fin cfg3.N, win3_3.index t = ![0, 0] := (by decide +kernel : ∀ t : Fin grid3.N, _)
theorem index3_4 : ∀ t : Fin cfg3.N, win3_4.index t = ![0, 0] := (by decide +kernel : ∀ t : Fin grid3.N, _)
theorem index3_5 : ∀ t : Fin cfg3.N, win3_5.index t = ![0, 0] := (by decide +kernel : ∀ t : Fin grid3.N, _)
theorem index3_6 : ∀ t : Fin cfg3.N, win3_6.index t = ![0, 0] := (by decide +kernel : ∀ t : Fin grid3.N, _)
theorem index3_7 : ∀ t : Fin cfg3.N, win3_7.index t = ![0, 0] := (by decide +kernel : ∀ t : Fin grid3.N, _)
theorem index3_8 : ∀ t : Fin cfg3.N, win3_8.index t = ![0, 0] := (by decide +kernel : ∀ t : Fin grid3.N, _)
theorem index3_9 : ∀ t : Fin cfg3.N, win3_9.index t = ![0, 0] := (by decide +kernel : ∀ t : Fin grid3.N, _)
theorem index3_10 : ∀ t : Fin cfg3.N, win3_10.index t = ![0, 0] := (by decide +kernel : ∀ t : Fin grid3.N, _)
theorem index3_11 : ∀ t : Fin cfg3.N, win3_11.index t = ![t.val, 0] := (by decide +kernel : ∀ t : Fin grid3.N, _)

/-- Row `i` of block `t`, as a row of the array. -/
def arow (t : Fin cfg3.N) (i : Fin 256) : Fin 1024 :=
  ⟨t.val * 256 + i.val, by have h : t.val < 4 := t.isLt; have := i.isLt; omega⟩

theorem blk3_0 (t : Fin cfg3.N) (i : Fin 256) (k : Fin 2048) :
    iblk3 V c 0 t (ix2 i k) = V c (Pipeline.arrRef spec3 0) (ix2 (arow t i) k) := by
  blk_ext [iblk3, index3_0, arow]

theorem blk3_1 (t : Fin cfg3.N) (i : Fin 256) (k : Fin 2048) :
    iblk3 V c 1 t (ix2 i k) = V c (Pipeline.arrRef spec3 1) (ix2 (arow t i) k) := by
  blk_ext [iblk3, index3_1, arow]

theorem blk3_2 (t : Fin cfg3.N) (i : Fin 256) (k : Fin 1024) :
    iblk3 V c 2 t (ix2 i k) = V c (Pipeline.arrRef spec3 2) (ix2 (arow t i) k) := by
  blk_ext [iblk3, index3_2, arow]

theorem blk3_3 (t : Fin cfg3.N) (k : Fin 2048) :
    iblk3 V c 3 t (ix2 0 k) = V c (Pipeline.arrRef spec3 3) (ix2 0 k) := by
  blk_ext [iblk3, index3_3]

theorem blk3_4 (t : Fin cfg3.N) (i : Fin 2048) (k : Fin 1024) :
    iblk3 V c 4 t (ix2 i k) = V c (Pipeline.arrRef spec3 4) (ix2 i k) := by
  blk_ext [iblk3, index3_4]

theorem blk3_5 (t : Fin cfg3.N) (i : Fin 2048) (k : Fin 1024) :
    iblk3 V c 5 t (ix2 i k) = V c (Pipeline.arrRef spec3 5) (ix2 i k) := by
  blk_ext [iblk3, index3_5]

theorem blk3_6 (t : Fin cfg3.N) (i : Fin 2048) (k : Fin 1024) :
    iblk3 V c 6 t (ix2 i k) = V c (Pipeline.arrRef spec3 6) (ix2 i k) := by
  blk_ext [iblk3, index3_6]

theorem blk3_7 (t : Fin cfg3.N) (i : Fin 1024) (k : Fin 1024) :
    iblk3 V c 7 t (ix2 i k) = V c (Pipeline.arrRef spec3 7) (ix2 i k) := by
  blk_ext [iblk3, index3_7]

theorem blk3_8 (t : Fin cfg3.N) (i : Fin 1024) (k : Fin 1024) :
    iblk3 V c 8 t (ix2 i k) = V c (Pipeline.arrRef spec3 8) (ix2 i k) := by
  blk_ext [iblk3, index3_8]

theorem blk3_9 (t : Fin cfg3.N) (k : Fin 1024) :
    iblk3 V c 9 t (ix2 0 k) = V c (Pipeline.arrRef spec3 9) (ix2 0 k) := by
  blk_ext [iblk3, index3_9]

theorem blk3_10 (t : Fin cfg3.N) (k : Fin 1024) :
    iblk3 V c 10 t (ix2 0 k) = V c (Pipeline.arrRef spec3 10) (ix2 0 k) := by
  blk_ext [iblk3, index3_10]

set_option maxHeartbeats 1000000 in
theorem r3_out (Y Z : Fin 1024 → Fin 2048 → ℝ) (X : Fin 1024 → Fin 1024 → ℝ) (GW : Fin 2048 → ℝ)
    (OW : Fin 2048 → Fin 1024 → ℝ) (K VV : Fin 2048 → Fin 1024 → ℝ) (WQ WO : Fin 1024 → Fin 1024 → ℝ)
    (LW LB : Fin 1024 → ℝ)
    (h0 : ∀ i k, V c (Pipeline.arrRef spec3 0) (ix2 i k) = ((Y i k : ℝ) : EReal))
    (h1 : ∀ i k, V c (Pipeline.arrRef spec3 1) (ix2 i k) = ((Z i k : ℝ) : EReal))
    (h2 : ∀ i k, V c (Pipeline.arrRef spec3 2) (ix2 i k) = ((X i k : ℝ) : EReal))
    (h3 : ∀ k, V c (Pipeline.arrRef spec3 3) (ix2 0 k) = ((GW k : ℝ) : EReal))
    (h4 : ∀ i k, V c (Pipeline.arrRef spec3 4) (ix2 i k) = ((OW i k : ℝ) : EReal))
    (h5 : ∀ i k, V c (Pipeline.arrRef spec3 5) (ix2 i k) = ((K i k : ℝ) : EReal))
    (h6 : ∀ i k, V c (Pipeline.arrRef spec3 6) (ix2 i k) = ((VV i k : ℝ) : EReal))
    (h7 : ∀ i k, V c (Pipeline.arrRef spec3 7) (ix2 i k) = ((WQ i k : ℝ) : EReal))
    (h8 : ∀ i k, V c (Pipeline.arrRef spec3 8) (ix2 i k) = ((WO i k : ℝ) : EReal))
    (h9 : ∀ k, V c (Pipeline.arrRef spec3 9) (ix2 0 k) = ((LW k : ℝ) : EReal))
    (h10 : ∀ k, V c (Pipeline.arrRef spec3 10) (ix2 0 k) = ((LB k : ℝ) : EReal))
    (i j : Fin 1024) :
    (dat3 V c).arrAt 11 cfg3.N (ix2 i j)
      = ((finalRow (hrow (Y i) (Z i) GW (X i) OW) LW LB K VV WQ WO j : ℝ) : EReal) := by
  refine (dat3 V c).arrAt_forall_of_covers 11 (fun y v => ∀ i j : Fin 1024, y = ix2 i j →
    v = ((finalRow (hrow (Y i) (Z i) GW (X i) OW) LW LB K VV WQ WO j : ℝ) : EReal)) (by decide +kernel)
    (fun t hf y => ?_) (ix2 i j) (Memref.isWhole_whole _) i j rfl
  intro i e hj
  have h0' := congrArg Fin.val (congrFun hj 0)
  have h1' := congrArg Fin.val (congrFun hj 1)
  blk_simp at h0'
  blk_simp at h1'
  blk_simp
  rw [after3_11]
  obtain ⟨i', e', rfl⟩ : ∃ (i' : Fin 256) (e' : Fin 1024), y = ix2 i' e' := ⟨y 0, y 1, eq_ix2 y⟩
  rw [index3_11] at h0' h1'
  have e0 : arow t i' = i := Fin.ext h0'
  have e1 : e' = e := Fin.ext (by simpa using h1')
  subst e0 e1
  exact out3_11_real _ _ _ _ _ _ _ _ _ _ _ (fun i => Y (arow t i)) (fun i => Z (arow t i)) (fun i => X (arow t i)) GW OW
    K VV WQ WO LW LB
    (fun i k => (blk3_0 V c t i k).trans (h0 _ _))
    (fun i k => (blk3_1 V c t i k).trans (h1 _ _))
    (fun i k => (blk3_2 V c t i k).trans (h2 _ _))
    (fun k => (blk3_3 V c t k).trans (h3 _))
    (fun i k => (blk3_4 V c t i k).trans (h4 _ _))
    (fun i k => (blk3_5 V c t i k).trans (h5 _ _))
    (fun i k => (blk3_6 V c t i k).trans (h6 _ _))
    (fun i k => (blk3_7 V c t i k).trans (h7 _ _))
    (fun i k => (blk3_8 V c t i k).trans (h8 _ _))
    (fun k => (blk3_9 V c t k).trans (h9 _))
    (fun k => (blk3_10 V c t k).trans (h10 _))
    i' e'

end Cert.Proof

end
-- ==== Proof.KScanPre.lean ====
/-
  The scan call before its chunks, on real input blocks: convolution, step sizes, decay rates, and the constant
  matrices the chunks multiply by.
-/
module

public import proofs.«01_k».proof.Proof.Model
public import proofs.«01_k».proof.Proof.Gen.KernelIdeal.Frame.Region1
public import Idealize.ShloMosaic.Lib.Pipeline.ValueKit

@[expose] public section

set_option maxRecDepth 16384

noncomputable section

namespace Cert.Proof

open Idealize.ShloMosaic Cert.KernelIdeal Cert.KernelIdeal.Gen
open Idealize.ShloMosaic.TcCoe
open scoped BigOperators

set_option maxHeartbeats 1000000 in
theorem k1_pay2_real (v0 : Vec Ideal S1024x2048 .f32) (v2 : Vec Ideal S4x2048 .f32) (v4 : Vec Ideal S1x2048 .f32)
    (P : Fin 1024 → Fin 2048 → ℝ) (W : Fin 4 → Fin 2048 → ℝ) (B : Fin 2048 → ℝ)
    (h0 : ∀ i k, v0 (ix2 i k) = ((P i k : ℝ) : EReal)) (h2 : ∀ i k, v2 (ix2 i k) = ((W i k : ℝ) : EReal))
    (h4 : ∀ k, v4 (ix2 0 k) = ((B k : ℝ) : EReal)) (t : Fin 1024) (e : Fin 2048) :
    k1_pay2 (F := Ideal) v0 v2 v4 (ix2 t e) = ((silu (conv P W B t e) : ℝ) : EReal) := by
  pointwise [k1_pay2]
  have hb : ∀ (s : ℕ) (A : ¬ t.val < s → EReal) (r : ¬ t.val < s → ℝ) (_ : ∀ h, A h = ((r h : ℝ) : EReal)),
      (if h : t.val < s then (0 : EReal) else A h) = ((if h : t.val < s then 0 else r h : ℝ) : EReal) := by
    intro s A r hr
    by_cases h : t.val < s
    · rw [dif_pos h, dif_pos h]; rfl
    · rw [dif_neg h, dif_neg h]; exact hr h
  rw [hb 1 _ (fun h => P ⟨t.val - 1, by omega⟩ e) (fun h => h0 _ _),
    hb 2 _ (fun h => P ⟨t.val - 2, by omega⟩ e) (fun h => h0 _ _),
    hb 3 _ (fun h => P ⟨t.val - 3, by omega⟩ e) (fun h => h0 _ _)]
  simp only [h0, h2, h4, ← EReal.coe_mul, ← EReal.coe_add, logistic_coe]
  rfl

theorem absf_coe (r : ℝ) : (FloatOps.absf ((r : ℝ) : EReal) : Ideal .f32) = ((|r| : ℝ) : EReal) := by
  show max (r : EReal) (-(r : EReal)) = _
  rw [← EReal.coe_neg, coe_max]
  rfl

set_option maxHeartbeats 1000000 in
theorem k1_pay8_real (v68 : Vec Ideal S1024x32 .f32) (v70 : Vec Ideal S1x32 .f32)
    (P : Fin 1024 → Fin 32 → ℝ) (B : Fin 32 → ℝ)
    (h0 : ∀ i k, v68 (ix2 i k) = ((P i k : ℝ) : EReal)) (h2 : ∀ k, v70 (ix2 0 k) = ((B k : ℝ) : EReal))
    (t : Fin 1024) (h : Fin 32) : k1_pay8 (F := Ideal) v68 v70 (ix2 t h) = ((dtm P B t h : ℝ) : EReal) := by
  pointwise [k1_pay8]
  rw [if_neg (by simp)]
  simp only [h0, h2, ← EReal.coe_add, absf_coe]
  rw [← EReal.coe_zero, coe_max, ← EReal.coe_sub, exp_coe, log1p_exp_coe, ← EReal.coe_add, zero_sub]
  rfl

/-- The floor quotient of a column number by 64, as the kernel computes it on words. -/
theorem quot64 : ∀ e : Fin 2048,
    (Scalar.select
          (IntOp.andi
            (IntOp.cmpi CmpIPredicate.ne
              (IntOp.subi (BitVec.setWidth 32 (IntOp.cmpi CmpIPredicate.sgt (BitVec.ofNat 32 ↑e) 0#32))
                (BitVec.setWidth 32 (IntOp.cmpi CmpIPredicate.slt (BitVec.ofNat 32 ↑e) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑e) 64#32) 0#32))
          (IntOp.subi (IntOp.divsi ArithUnit.vector (BitVec.ofNat 32 ↑e) 64#32) 1#32)
          (IntOp.divsi ArithUnit.vector (BitVec.ofNat 32 ↑e) 64#32)) = BitVec.ofNat 32 (hd e).val := by decide +kernel

theorem eq32 : ∀ a h : Fin 32, IntOp.cmpi CmpIPredicate.eq (BitVec.ofNat 32 a.val) (BitVec.ofNat 32 h.val)
    = if a = h then 1#1 else 0#1 := by decide +kernel

theorem ge256 : ∀ i j : Fin 256, IntOp.cmpi CmpIPredicate.sge (IntOp.addi (BitVec.ofNat 32 ↑i) 0#32) (BitVec.ofNat 32 ↑j)
    = if j ≤ i then 1#1 else 0#1 := by decide +kernel

theorem gt256 : ∀ i j : Fin 256,
    IntOp.cmpi CmpIPredicate.sge (IntOp.addi (BitVec.ofNat 32 ↑i) 4294967295#32) (BitVec.ofNat 32 ↑j)
    = if i ≤ j then 0#1 else 1#1 := by decide +kernel

set_option maxHeartbeats 1000000 in
theorem k1_pay12_at (h : Fin 32) (e : Fin 2048) :
    k1_pay12 (F := Ideal) (ix2 h e) = if hd e = h then (1 : EReal) else 0 := by
  pointwise [k1_pay12]
  rw [quot64 e, eq32 (hd e) h]
  by_cases hh : hd e = h
  · rw [if_pos hh, if_pos hh]; rfl
  · rw [if_neg hh, if_neg hh]; rfl

set_option maxHeartbeats 1000000 in
theorem k1_pay13_at (i j : Fin 256) :
    k1_pay13 (F := Ideal) (ix2 i j) = if j ≤ i then (1 : EReal) else 0 := by
  pointwise [k1_pay13]
  rw [ge256]
  by_cases hh : j ≤ i
  · rw [if_pos hh, if_pos hh]; rfl
  · rw [if_neg hh, if_neg hh]; rfl

set_option maxHeartbeats 1000000 in
theorem k1_pay16_at (i j : Fin 256) :
    k1_pay16 (F := Ideal) k1_pay14 k1_pay15 (iota .tc S256x256 32 [1] iota_S256x256_d1_w32) (ix2 i j)
      = if i ≤ j then (1 : EReal) else 0 := by
  pointwise [k1_pay16, k1_pay15, k1_pay14]
  rw [gt256]
  by_cases hh : i ≤ j
  · rw [if_pos hh, if_pos hh]; rfl
  · rw [if_neg hh, if_neg hh]; rfl

end Cert.Proof

end
-- ==== Proof.KScanChunk.lean ====
/-
  One chunk of the scan call, for any of the four chunks, on real blocks.
-/
module

public import proofs.«01_k».proof.Proof.KScanPre

@[expose] public section

set_option maxRecDepth 16384

noncomputable section

namespace Cert.Proof

open Idealize.ShloMosaic Cert.KernelIdeal Cert.KernelIdeal.Gen
open Idealize.ShloMosaic.TcCoe
open scoped BigOperators

/-! ## The chunk's values over ℝ -/

/-- Row `i` of chunk `c`. -/
def row (c : ℕ) (i : Fin 256) : Fin 1024 := tm (256 * c + i.val)

theorem row_eq (c : Fin 4) (i : Fin 256) (h : 256 * c.val + i.val < 1024) :
    (⟨256 * c.val + i.val, h⟩ : Fin 1024) = row c.val i := Fin.ext (Nat.mod_eq_of_lt h).symm

section model
variable (xc : Fin 1024 → Fin 2048 → ℝ) (bc : Fin 1024 → Fin 256 → ℝ) (dt da : Fin 1024 → Fin 32 → ℝ) (d : Fin 32 → ℝ)

/-- Row `t`'s `B` and `C`. -/
def bcol (n : Fin 128) : Fin 256 := ⟨n.val, by have := n.isLt; omega⟩
def ccol (n : Fin 128) : Fin 256 := ⟨128 + n.val, by have := n.isLt; omega⟩

/-- The running sum of the decay rates inside a chunk. -/
def ellM (c : ℕ) (i : Fin 256) (h : Fin 32) : ℝ := ∑ j : Fin 256, (if j ≤ i then 1 else 0) * da (row c j) h

/-- The input of the recurrence. -/
def uM (c : ℕ) (i : Fin 256) (e : Fin 2048) : ℝ := dt (row c i) (hd e) * xc (row c i) e

/-- The state after `c` chunks, as the kernel carries it. -/
def stM : ℕ → Fin 128 → Fin 2048 → ℝ
  | 0, _, _ => 0
  | c + 1, n, e => stM c n e * Real.exp (ellM da c 255 (hd e))
      + ∑ i : Fin 256, bc (row c i) (bcol n) * (Real.exp (ellM da c 255 (hd e) - ellM da c i (hd e)) * uM xc dt c i e)

/-- What a row takes from the state before its chunk, and the skip. -/
def ybM (c : ℕ) (i : Fin 256) (e : Fin 2048) : ℝ :=
  Real.exp (ellM da c i (hd e)) * (∑ n, bc (row c i) (ccol n) * stM xc bc dt da c n e) + d (hd e) * xc (row c i) e

/-- The lower triangle of `C Bᵀ`. -/
def gtM (c : ℕ) (i j : Fin 256) : ℝ :=
  (∑ n, bc (row c i) (ccol n) * bc (row c j) (bcol n)) * (if j ≤ i then 1 else 0)

/-- The chunk's output. -/
def outM (c : ℕ) (i : Fin 256) (e : Fin 2048) : ℝ :=
  (∑ j, gtM bc c i j * Real.exp (ellM da c i (hd e) - ellM da c j (hd e)) * uM xc dt c j e) + ybM xc bc dt da d c i e
end model

/-! ## The chunk's arrays -/

theorem sl_da : ∀ c : Fin 4, S1024x32.Slices ![256 * c.val, 0] S256x32 := by decide
theorem sl_b : ∀ c : Fin 4, S1024x256.Slices ![256 * c.val, 0] S256x128 := by decide
theorem sl_c : ∀ c : Fin 4, S1024x256.Slices ![256 * c.val, 128] S256x128 := by decide
theorem sl_x : ∀ c : Fin 4, S1024x2048.Slices ![256 * c.val, 0] S256x2048 := by decide
theorem sl_e : ∀ h : Fin 32, S256x32.Slices ![0, h.val] S256x1 := by decide
theorem sl_t : ∀ h : Fin 32, S32x256.Slices ![h.val, 0] S1x256 := by decide
theorem sl_h : ∀ h : Fin 32, S256x2048.Slices ![0, 64 * h.val] S256x64 := by decide

variable {F : FTy → Type} [FloatOps F]

/-- The running sums of the decay rates. -/
def cEll (c : Fin 4) (da : FVec F S1024x32 .f32) (tril : FVec F S256x256 .f32) : FVec F S256x32 .f32 :=
  matmul dot_S256x256_S256x32_S256x32_1_0_0_1_n_n none tril (extractStridedSlice S256x32 ![256 * c.val, 0] da (sl_da c))
    (constant S256x32 .f32 0x00000000#32)

/-- The same, rows and columns exchanged. -/
def cEllT (c : Fin 4) (da : FVec F S1024x32 .f32) (triu : FVec F S256x256 .f32) : FVec F S32x256 .f32 :=
  matmul dot_S256x32_S256x256_S32x256_0_0_1_1_n_n none (extractStridedSlice S256x32 ![256 * c.val, 0] da (sl_da c)) triu
    (constant S32x256 .f32 0x00000000#32)

/-- The input of the recurrence. -/
def cU (c : Fin 4) (xc : FVec F S1024x2048 .f32) (dt : FVec F S1024x32 .f32) (r : FVec F S32x2048 .f32) :
    FVec F S256x2048 .f32 :=
  mulf (matmul dot_S256x32_S32x2048_S256x2048_1_0_0_1_n_n none
      (extractStridedSlice S256x32 ![256 * c.val, 0] dt (sl_da c)) r (constant S256x2048 .f32 0x00000000#32))
    (extractStridedSlice S256x2048 ![256 * c.val, 0] xc (sl_x c))

/-- What the rows take from the state before the chunk, and the skip. -/
def cYB (c : Fin 4) (xc : FVec F S1024x2048 .f32) (bc : FVec F S1024x256 .f32) (r : FVec F S32x2048 .f32)
    (d : FVec F S1x2048 .f32) (ell : FVec F S256x32 .f32) (st : FVec F S128x2048 .f32) : FVec F S256x2048 .f32 :=
  addf (mulf (matmul dot_S256x32_S32x2048_S256x2048_1_0_0_1_n_n none (exp ell) r (constant S256x2048 .f32 0x00000000#32))
      (matmul dot_S256x128_S128x2048_S256x2048_1_0_0_1_n_n none
        (extractStridedSlice S256x128 ![256 * c.val, 128] bc (sl_c c)) st (constant S256x2048 .f32 0x00000000#32)))
    (mulf (broadcastTo S256x2048 d broadcasts_S1x2048_S256x2048)
      (extractStridedSlice S256x2048 ![256 * c.val, 0] xc (sl_x c)))

/-- The state after the chunk. -/
def cSt (c : Fin 4) (bc : FVec F S1024x256 .f32) (r : FVec F S32x2048 .f32) (ell : FVec F S256x32 .f32)
    (u : FVec F S256x2048 .f32) (st : FVec F S128x2048 .f32) : FVec F S128x2048 .f32 :=
  addf (mulf st (broadcastTo S128x2048 (matmul dot_S1x32_S32x2048_S1x2048_1_0_0_1_n_n none
      (exp (extractStridedSlice S1x32 ![255, 0] ell slices_S256x32_o255_0_S1x32)) r (constant S1x2048 .f32 0x00000000#32))
      broadcasts_S1x2048_S128x2048))
    (matmul dot_S256x128_S256x2048_S128x2048_0_0_1_1_n_n none
      (extractStridedSlice S256x128 ![256 * c.val, 0] bc (sl_b c))
      (mulf (matmul dot_S256x32_S32x2048_S256x2048_1_0_0_1_n_n none
        (exp (subf (broadcastTo S256x32 (extractStridedSlice S1x32 ![255, 0] ell slices_S256x32_o255_0_S1x32)
          broadcasts_S1x32_S256x32) ell)) r (constant S256x2048 .f32 0x00000000#32)) u)
      (constant S128x2048 .f32 0x00000000#32))

/-- The lower triangle of `C Bᵀ`. -/
def cGT (c : Fin 4) (bc : FVec F S1024x256 .f32) (tril : FVec F S256x256 .f32) : FVec F S256x256 .f32 :=
  mulf (matmul dot_S256x128_S256x128_S256x256_1_1_0_0_n_n none
    (extractStridedSlice S256x128 ![256 * c.val, 128] bc (sl_c c))
    (extractStridedSlice S256x128 ![256 * c.val, 0] bc (sl_b c)) (constant S256x256 .f32 0x00000000#32)) tril

/-- One head's output. -/
def headV (h : Fin 32) (ell : FVec F S256x32 .f32) (ellT : FVec F S32x256 .f32) (gt : FVec F S256x256 .f32)
    (u yb : FVec F S256x2048 .f32) : FVec F S256x64 .f32 :=
  addf (matmul dot_S256x256_S256x64_S256x64_1_0_0_1_n_n none
      (mulf gt (exp (subf
        (broadcastTo S256x256 (extractStridedSlice S256x1 ![0, h.val] ell (sl_e h)) broadcasts_S256x1_S256x256)
        (broadcastTo S256x256 (extractStridedSlice S1x256 ![h.val, 0] ellT (sl_t h)) broadcasts_S1x256_S256x256))))
      (extractStridedSlice S256x64 ![0, 64 * h.val] u (sl_h h)) (constant S256x64 .f32 0x00000000#32))
    (extractStridedSlice S256x64 ![0, 64 * h.val] yb (sl_h h))

/-! ## At an index, on reals -/

/-- A row times the head-to-column matrix picks the column's head. -/
theorem pick (a : Fin 32 → EReal) (r : FVec Ideal S32x2048 .f32)
    (hr : ∀ h e, r (ix2 h e) = if hd e = h then (1 : EReal) else 0) (e : Fin 2048) :
    ∑ h, a h * r (ix2 h e) = a (hd e) := by
  simp [hr]

section real
variable (XC : Fin 1024 → Fin 2048 → ℝ) (BC : Fin 1024 → Fin 256 → ℝ) (DT DA : Fin 1024 → Fin 32 → ℝ) (D : Fin 32 → ℝ)
  (xc : FVec Ideal S1024x2048 .f32) (bc : FVec Ideal S1024x256 .f32) (dt da : FVec Ideal S1024x32 .f32)
  (r : FVec Ideal S32x2048 .f32) (tril triu : FVec Ideal S256x256 .f32) (d : FVec Ideal S1x2048 .f32)
  (hxc : ∀ t e, xc (ix2 t e) = ((XC t e : ℝ) : EReal)) (hbc : ∀ t e, bc (ix2 t e) = ((BC t e : ℝ) : EReal))
  (hdt : ∀ t h, dt (ix2 t h) = ((DT t h : ℝ) : EReal)) (hda : ∀ t h, da (ix2 t h) = ((DA t h : ℝ) : EReal))
  (hr : ∀ h e, r (ix2 h e) = if hd e = h then (1 : EReal) else 0)
  (htl : ∀ i j, tril (ix2 i j) = if j ≤ i then (1 : EReal) else 0)
  (htu : ∀ i j, triu (ix2 i j) = if i ≤ j then (1 : EReal) else 0)
  (hd' : ∀ e, d (ix2 0 e) = ((D (hd e) : ℝ) : EReal)) (c : Fin 4)

theorem ind_coe (p : Prop) [Decidable p] : (if p then (1 : EReal) else 0) = ((if p then 1 else 0 : ℝ) : EReal) := by
  by_cases h : p
  · rw [if_pos h, if_pos h]; rfl
  · rw [if_neg h, if_neg h]; rfl

include hda htl in
theorem cEll_real (i : Fin 256) (h : Fin 32) : cEll c da tril (ix2 i h) = ((ellM DA c.val i h : ℝ) : EReal) := by
  pointwise [cEll]
  simp only [hda, htl, ind_coe, row_eq, ← EReal.coe_mul, ← coe_sum]
  rfl

include hda htu in
theorem cEllT_real (h : Fin 32) (i : Fin 256) : cEllT c da triu (ix2 h i) = ((ellM DA c.val i h : ℝ) : EReal) := by
  pointwise [cEllT]
  simp only [hda, htu, ind_coe, row_eq, ← EReal.coe_mul, ← coe_sum]
  refine congrArg _ (Finset.sum_congr rfl fun j _ => mul_comm _ _)

include hxc hdt hr in
theorem cU_real (i : Fin 256) (e : Fin 2048) : cU c xc dt r (ix2 i e) = ((uM XC DT c.val i e : ℝ) : EReal) := by
  pointwise [cU]
  rw [pick _ r hr, hdt, hxc, row_eq, ← EReal.coe_mul]
  rfl

include hbc htl in
theorem cGT_real (i j : Fin 256) : cGT c bc tril (ix2 i j) = ((gtM BC c.val i j : ℝ) : EReal) := by
  pointwise [cGT]
  simp only [hbc, htl, ind_coe, row_eq, ← EReal.coe_mul, ← coe_sum]
  rfl

include hxc hbc hr hd' in
theorem cYB_real (ell : FVec Ideal S256x32 .f32) (st : FVec Ideal S128x2048 .f32)
    (hell : ∀ i h, ell (ix2 i h) = ((ellM DA c.val i h : ℝ) : EReal))
    (hst : ∀ n e, st (ix2 n e) = ((stM XC BC DT DA c.val n e : ℝ) : EReal)) (i : Fin 256) (e : Fin 2048) :
    cYB c xc bc r d ell st (ix2 i e) = ((ybM XC BC DT DA D c.val i e : ℝ) : EReal) := by
  pointwise [cYB]
  rw [pick _ r hr]
  simp only [hell, hst, hbc, hxc, hd', exp_coe, row_eq, ← EReal.coe_mul, ← EReal.coe_add, ← coe_sum]
  rfl

include hbc hr in
theorem cSt_real (ell : FVec Ideal S256x32 .f32) (u : FVec Ideal S256x2048 .f32) (st : FVec Ideal S128x2048 .f32)
    (hell : ∀ i h, ell (ix2 i h) = ((ellM DA c.val i h : ℝ) : EReal))
    (hu : ∀ i e, u (ix2 i e) = ((uM XC DT c.val i e : ℝ) : EReal))
    (hst : ∀ n e, st (ix2 n e) = ((stM XC BC DT DA c.val n e : ℝ) : EReal)) (n : Fin 128) (e : Fin 2048) :
    cSt c bc r ell u st (ix2 n e) = ((stM XC BC DT DA (c.val + 1) n e : ℝ) : EReal) := by
  pointwise [cSt]
  simp only [pick _ r hr]
  simp only [hell, hst, hbc, hu, exp_coe, row_eq, ← EReal.coe_mul, ← EReal.coe_add, ← EReal.coe_sub, ← coe_sum]
  rfl

theorem headV_real (h : Fin 32) (ell : FVec Ideal S256x32 .f32) (ellT : FVec Ideal S32x256 .f32)
    (gt : FVec Ideal S256x256 .f32) (u yb : FVec Ideal S256x2048 .f32)
    (hell : ∀ i h, ell (ix2 i h) = ((ellM DA c.val i h : ℝ) : EReal))
    (hellT : ∀ h i, ellT (ix2 h i) = ((ellM DA c.val i h : ℝ) : EReal))
    (hgt : ∀ i j, gt (ix2 i j) = ((gtM BC c.val i j : ℝ) : EReal))
    (hu : ∀ i e, u (ix2 i e) = ((uM XC DT c.val i e : ℝ) : EReal))
    (hyb : ∀ i e, yb (ix2 i e) = ((ybM XC BC DT DA D c.val i e : ℝ) : EReal)) (i : Fin 256) (k : Fin 64) (e : Fin 2048)
    (he : e.val = 64 * h.val + k.val) :
    headV h ell ellT gt u yb (ix2 i k) = ((outM XC BC DT DA D c.val i e : ℝ) : EReal) := by
  have hk : ∀ p : 64 * h.val + k.val < 2048, (⟨64 * h.val + k.val, p⟩ : Fin 2048) = e := fun _ => Fin.ext he.symm
  have hh : hd e = h := Fin.ext (by show e.val / 64 = h.val; have := k.isLt; omega)
  pointwise [headV]
  simp only [hell, hellT, hgt, hu, hyb, hk, exp_coe, ← EReal.coe_mul, ← EReal.coe_add, ← EReal.coe_sub, ← coe_sum]
  unfold outM
  rw [hh]
end real

end Cert.Proof

end
-- ==== Proof.KScanVals.lean ====
/-
  The scan call's values on real input blocks: what the chunks read, and each chunk's five arrays.
-/
module

public import proofs.«01_k».proof.Proof.KScanChunk
public import proofs.«01_k».proof.Proof.Block

@[expose] public section

set_option maxRecDepth 16384

noncomputable section

namespace Cert.Proof

open Idealize.ShloMosaic Cert.KernelIdeal Cert.KernelIdeal.Gen
open Idealize.ShloMosaic.TcCoe
open scoped BigOperators

set_option maxHeartbeats 1000000 in
theorem k1_pay7_real (v0 : Vec Ideal S1024x256 .f32) (v2 : Vec Ideal S4x256 .f32) (v4 : Vec Ideal S1x256 .f32)
    (P : Fin 1024 → Fin 256 → ℝ) (W : Fin 4 → Fin 256 → ℝ) (B : Fin 256 → ℝ)
    (h0 : ∀ i k, v0 (ix2 i k) = ((P i k : ℝ) : EReal)) (h2 : ∀ i k, v2 (ix2 i k) = ((W i k : ℝ) : EReal))
    (h4 : ∀ k, v4 (ix2 0 k) = ((B k : ℝ) : EReal)) (t : Fin 1024) (e : Fin 256) :
    k1_pay7 (F := Ideal) (k1_pay3 v0) (k1_pay4 v2) (k1_pay5 v0 v2) (k1_pay6 v4) (ix2 t e)
      = ((silu (conv P W B t e) : ℝ) : EReal) := by
  pointwise [k1_pay7, k1_pay3, k1_pay4, k1_pay5, k1_pay6]
  have hb : ∀ (s : ℕ) (A : ¬ t.val < s → EReal) (r : ¬ t.val < s → ℝ) (_ : ∀ h, A h = ((r h : ℝ) : EReal)),
      (if h : t.val < s then (0 : EReal) else A h) = ((if h : t.val < s then 0 else r h : ℝ) : EReal) := by
    intro s A r hr
    by_cases h : t.val < s
    · rw [dif_pos h, dif_pos h]; rfl
    · rw [dif_neg h, dif_neg h]; exact hr h
  rw [hb 1 _ (fun h => P ⟨t.val - 1, by omega⟩ e) (fun h => h0 _ _),
    hb 2 _ (fun h => P ⟨t.val - 2, by omega⟩ e) (fun h => h0 _ _),
    hb 3 _ (fun h => P ⟨t.val - 3, by omega⟩ e) (fun h => h0 _ _)]
  simp only [h0, h2, h4, ← EReal.coe_mul, ← EReal.coe_add, logistic_coe]
  rfl

theorem k1_pay11_real (v87 : FVec Ideal S1024x32 .f32) (v88 : Vec Ideal S1x32 .f32) (P : Fin 1024 → Fin 32 → ℝ)
    (A : Fin 32 → ℝ) (h0 : ∀ i k, v87 (ix2 i k) = ((P i k : ℝ) : EReal)) (h2 : ∀ k, v88 (ix2 0 k) = ((A k : ℝ) : EReal))
    (t : Fin 1024) (h : Fin 32) :
    k1_pay11 (F := Ideal) v87 (k1_pay9 v88) k1_pay10 (ix2 t h) = ((P t h * -Real.exp (A h) : ℝ) : EReal) := by
  pointwise [k1_pay11, k1_pay9, k1_pay10]
  rw [h0, h2, exp_coe, ← EReal.coe_zero, ← EReal.coe_sub, ← EReal.coe_mul, zero_sub]

theorem k1_pay17_real (v124 : FVec Ideal S32x2048 .f32) (v141 : Vec Ideal S1x32 .f32)
    (hr : ∀ h e, v124 (ix2 h e) = if hd e = h then (1 : EReal) else 0) (A : Fin 32 → ℝ)
    (h2 : ∀ k, v141 (ix2 0 k) = ((A k : ℝ) : EReal)) (e : Fin 2048) :
    k1_pay17 (F := Ideal) v124 v141 (ix2 0 e) = ((A (hd e) : ℝ) : EReal) := by
  pointwise [k1_pay17]
  rw [pick _ _ hr, h2]

theorem k1_pay18_at (n : Fin 128) (e : Fin 2048) : k1_pay18 (F := Ideal) (ix2 n e) = ((0 : ℝ) : EReal) := by
  pointwise [k1_pay18]
  rfl

section

variable (x0 : Vec Ideal S1024x2048 .f32) (x1 : Vec Ideal S1024x256 .f32) (x2 : Vec Ideal S1024x32 .f32)
  (x3 : Vec Ideal S4x2304 .f32) (x4 : Vec Ideal S1x2304 .f32) (x5 x6 x7 : Vec Ideal S1x32 .f32)
  (XP : Fin 1024 → Fin 2048 → ℝ) (BP : Fin 1024 → Fin 256 → ℝ) (DP : Fin 1024 → Fin 32 → ℝ)
  (CW : Fin 4 → Fin 2304 → ℝ) (CB : Fin 2304 → ℝ) (DB AL D : Fin 32 → ℝ)
  (h0 : ∀ t e, x0 (ix2 t e) = ((XP t e : ℝ) : EReal)) (h1 : ∀ t e, x1 (ix2 t e) = ((BP t e : ℝ) : EReal))
  (h2 : ∀ t h, x2 (ix2 t h) = ((DP t h : ℝ) : EReal)) (h3 : ∀ j e, x3 (ix2 j e) = ((CW j e : ℝ) : EReal))
  (h4 : ∀ e, x4 (ix2 0 e) = ((CB e : ℝ) : EReal)) (h5 : ∀ h, x5 (ix2 0 h) = ((DB h : ℝ) : EReal))
  (h6 : ∀ h, x6 (ix2 0 h) = ((AL h : ℝ) : EReal)) (h7 : ∀ h, x7 (ix2 0 h) = ((D h : ℝ) : EReal))

include h0 h3 h4 in
theorem v229_real (t : Fin 1024) (e : Fin 2048) :
    k1_pay229 x0 x1 x2 x3 x4 x5 x6 x7 (ix2 t e) = ((xcM XP CW CB t e : ℝ) : EReal) := by
  refine k1_pay2_real _ _ _ XP _ _ ?_ ?_ ?_ t e
  · intro i k; exact (View.ld_unit_apply_of _ _ _ _ _ (ix2 i k) (fun a => by fin_cases a <;> simp)).trans (h0 i k)
  · intro i k
    exact (View.ld_unit_apply_of _ _ _ _ _ (ix2 i ⟨k.val, by have := k.isLt; omega⟩) (fun a => by fin_cases a <;> simp)).trans (h3 _ _)
  · intro k
    exact (View.ld_unit_apply_of _ _ _ _ _ (ix2 0 ⟨k.val, by have := k.isLt; omega⟩) (fun a => by fin_cases a <;> simp)).trans (h4 _)

include h1 h3 h4 in
theorem v230_real (t : Fin 1024) (e : Fin 256) :
    k1_pay230 x0 x1 x2 x3 x4 x5 x6 x7 (ix2 t e) = ((bcM BP CW CB t e : ℝ) : EReal) := by
  refine k1_pay7_real _ _ _ BP _ _ ?_ ?_ ?_ t e
  · intro i k; exact (View.ld_unit_apply_of _ _ _ _ _ (ix2 i k) (fun a => by fin_cases a <;> simp)).trans (h1 i k)
  · intro i k
    exact (View.ld_unit_apply_of _ _ _ _ _ (ix2 i ⟨2048 + k.val, by have := k.isLt; omega⟩) (fun a => by fin_cases a <;> simp)).trans (h3 _ _)
  · intro k
    exact (View.ld_unit_apply_of _ _ _ _ _ (ix2 0 ⟨2048 + k.val, by have := k.isLt; omega⟩) (fun a => by fin_cases a <;> simp)).trans (h4 _)

theorem ld32 (x : Vec Ideal S1x32 .f32) (f : Fin 32 → ℝ) (hf : ∀ h, x (ix2 0 h) = ((f h : ℝ) : EReal)) (k : Fin 32) :
    View.ld x r1_7 (ix2 0 k) = ((f k : ℝ) : EReal) :=
  (View.ld_unit_apply_of _ _ _ _ _ (ix2 0 k) (fun a => by fin_cases a <;> simp)).trans (hf k)

include h2 h5 in
theorem v231_real (t : Fin 1024) (h : Fin 32) : k1_pay231 x0 x1 x2 x3 x4 x5 x6 x7 (ix2 t h) = ((dtm DP DB t h : ℝ) : EReal) := by
  refine k1_pay8_real _ _ DP DB ?_ (ld32 x5 DB h5) t h
  intro i k; exact (View.ld_unit_apply_of _ _ _ _ _ (ix2 i k) (fun a => by fin_cases a <;> simp)).trans (h2 i k)

include h2 h5 h6 in
theorem v233_real (t : Fin 1024) (h : Fin 32) : k1_pay233 x0 x1 x2 x3 x4 x5 x6 x7 (ix2 t h) = ((daM DP DB AL t h : ℝ) : EReal) :=
  k1_pay11_real _ _ (dtm DP DB) AL (v231_real x0 x1 x2 x3 x4 x5 x6 x7 DP DB h2 h5) (ld32 x6 AL h6) t h

theorem v234_at (h : Fin 32) (e : Fin 2048) : k1_pay234 x0 x1 x2 x3 x4 x5 x6 x7 (ix2 h e) = if hd e = h then (1 : EReal) else 0 := k1_pay12_at h e
theorem v235_at (i j : Fin 256) : k1_pay235 x0 x1 x2 x3 x4 x5 x6 x7 (ix2 i j) = if j ≤ i then (1 : EReal) else 0 := k1_pay13_at i j
theorem v238_at (i j : Fin 256) : k1_pay238 x0 x1 x2 x3 x4 x5 x6 x7 (ix2 i j) = if i ≤ j then (1 : EReal) else 0 := k1_pay16_at i j

include h7 in
theorem v239_real (e : Fin 2048) : k1_pay239 x0 x1 x2 x3 x4 x5 x6 x7 (ix2 0 e) = ((D (hd e) : ℝ) : EReal) :=
  k1_pay17_real _ _ (v234_at x0 x1 x2 x3 x4 x5 x6 x7) D (ld32 x7 D h7) e

include h2 h5 h6 in
theorem ell0_real (i : Fin 256) (h : Fin 32) : k1_pay240 x0 x1 x2 x3 x4 x5 x6 x7 (ix2 i h) = ((ellM (daM DP DB AL) 0 i h : ℝ) : EReal) :=
  (congrFun (show k1_pay240 x0 x1 x2 x3 x4 x5 x6 x7 = cEll 0 (k1_pay233 x0 x1 x2 x3 x4 x5 x6 x7) (k1_pay235 x0 x1 x2 x3 x4 x5 x6 x7) from rfl) _).trans
    (cEll_real _ _ _ (v233_real x0 x1 x2 x3 x4 x5 x6 x7 DP DB AL h2 h5 h6) (v235_at x0 x1 x2 x3 x4 x5 x6 x7) 0 i h)

include h2 h5 h6 in
theorem ellT0_real (h : Fin 32) (i : Fin 256) : k1_pay241 x0 x1 x2 x3 x4 x5 x6 x7 (ix2 h i) = ((ellM (daM DP DB AL) 0 i h : ℝ) : EReal) :=
  (congrFun (show k1_pay241 x0 x1 x2 x3 x4 x5 x6 x7 = cEllT 0 (k1_pay233 x0 x1 x2 x3 x4 x5 x6 x7) (k1_pay238 x0 x1 x2 x3 x4 x5 x6 x7) from rfl) _).trans
    (cEllT_real _ _ _ (v233_real x0 x1 x2 x3 x4 x5 x6 x7 DP DB AL h2 h5 h6) (v238_at x0 x1 x2 x3 x4 x5 x6 x7) 0 h i)

include h0 h2 h3 h4 h5 in
theorem u0_real (i : Fin 256) (e : Fin 2048) :
    k1_pay242 x0 x1 x2 x3 x4 x5 x6 x7 (ix2 i e) = ((uM (xcM XP CW CB) (dtm DP DB) 0 i e : ℝ) : EReal) :=
  (congrFun (show k1_pay242 x0 x1 x2 x3 x4 x5 x6 x7 = cU 0 (k1_pay229 x0 x1 x2 x3 x4 x5 x6 x7) (k1_pay231 x0 x1 x2 x3 x4 x5 x6 x7) (k1_pay234 x0 x1 x2 x3 x4 x5 x6 x7) from rfl) _).trans
    (cU_real _ _ _ _ _ (v229_real x0 x1 x2 x3 x4 x5 x6 x7 XP CW CB h0 h3 h4) (v231_real x0 x1 x2 x3 x4 x5 x6 x7 DP DB h2 h5) (v234_at x0 x1 x2 x3 x4 x5 x6 x7) 0 i e)

include h0 h1 h2 h3 h4 h5 h6 h7 in
theorem yb0_real (i : Fin 256) (e : Fin 2048) :
    k1_pay243 x0 x1 x2 x3 x4 x5 x6 x7 (ix2 i e) = ((ybM (xcM XP CW CB) (bcM BP CW CB) (dtm DP DB) (daM DP DB AL) D 0 i e : ℝ) : EReal) :=
  (congrFun (show k1_pay243 x0 x1 x2 x3 x4 x5 x6 x7 = cYB 0 (k1_pay229 x0 x1 x2 x3 x4 x5 x6 x7) (k1_pay230 x0 x1 x2 x3 x4 x5 x6 x7) (k1_pay234 x0 x1 x2 x3 x4 x5 x6 x7) (k1_pay239 x0 x1 x2 x3 x4 x5 x6 x7) (k1_pay240 x0 x1 x2 x3 x4 x5 x6 x7) k1_pay18 from rfl) _).trans
    (cYB_real (xcM XP CW CB) (bcM BP CW CB) (dtm DP DB) (daM DP DB AL) D _ _ _ _ (v229_real x0 x1 x2 x3 x4 x5 x6 x7 XP CW CB h0 h3 h4) (v230_real x0 x1 x2 x3 x4 x5 x6 x7 BP CW CB h1 h3 h4) (v234_at x0 x1 x2 x3 x4 x5 x6 x7) (v239_real x0 x1 x2 x3 x4 x5 x6 x7 D h7) 0 _ _
      (ell0_real x0 x1 x2 x3 x4 x5 x6 x7 DP DB AL h2 h5 h6) (fun n e => k1_pay18_at n e) i e)

include h1 h3 h4 in
theorem gt0_real (i j : Fin 256) : k1_pay245 x0 x1 x2 x3 x4 x5 x6 x7 (ix2 i j) = ((gtM (bcM BP CW CB) 0 i j : ℝ) : EReal) :=
  (congrFun (show k1_pay245 x0 x1 x2 x3 x4 x5 x6 x7 = cGT 0 (k1_pay230 x0 x1 x2 x3 x4 x5 x6 x7) (k1_pay235 x0 x1 x2 x3 x4 x5 x6 x7) from rfl) _).trans
    (cGT_real _ _ _ (v230_real x0 x1 x2 x3 x4 x5 x6 x7 BP CW CB h1 h3 h4) (v235_at x0 x1 x2 x3 x4 x5 x6 x7) 0 i j)

include h0 h1 h2 h3 h4 h5 h6 in
theorem st0_real (n : Fin 128) (e : Fin 2048) :
    k1_pay244 x0 x1 x2 x3 x4 x5 x6 x7 (ix2 n e) = ((stM (xcM XP CW CB) (bcM BP CW CB) (dtm DP DB) (daM DP DB AL) 1 n e : ℝ) : EReal) :=
  (congrFun (show k1_pay244 x0 x1 x2 x3 x4 x5 x6 x7 = cSt 0 (k1_pay230 x0 x1 x2 x3 x4 x5 x6 x7) (k1_pay234 x0 x1 x2 x3 x4 x5 x6 x7) (k1_pay240 x0 x1 x2 x3 x4 x5 x6 x7) (k1_pay242 x0 x1 x2 x3 x4 x5 x6 x7) k1_pay18 from rfl) _).trans
    (cSt_real (xcM XP CW CB) (bcM BP CW CB) (dtm DP DB) (daM DP DB AL) _ _ (v230_real x0 x1 x2 x3 x4 x5 x6 x7 BP CW CB h1 h3 h4) (v234_at x0 x1 x2 x3 x4 x5 x6 x7) 0 _ _ _
      (ell0_real x0 x1 x2 x3 x4 x5 x6 x7 DP DB AL h2 h5 h6) (u0_real x0 x1 x2 x3 x4 x5 x6 x7 XP DP CW CB DB h0 h2 h3 h4 h5) (fun n e => k1_pay18_at n e) n e)

include h2 h5 h6 in
theorem ell1_real (i : Fin 256) (h : Fin 32) : k1_pay247 x0 x1 x2 x3 x4 x5 x6 x7 (ix2 i h) = ((ellM (daM DP DB AL) 1 i h : ℝ) : EReal) :=
  (congrFun (show k1_pay247 x0 x1 x2 x3 x4 x5 x6 x7 = cEll 1 (k1_pay233 x0 x1 x2 x3 x4 x5 x6 x7) (k1_pay235 x0 x1 x2 x3 x4 x5 x6 x7) from rfl) _).trans
    (cEll_real _ _ _ (v233_real x0 x1 x2 x3 x4 x5 x6 x7 DP DB AL h2 h5 h6) (v235_at x0 x1 x2 x3 x4 x5 x6 x7) 1 i h)

include h2 h5 h6 in
theorem ellT1_real (h : Fin 32) (i : Fin 256) : k1_pay248 x0 x1 x2 x3 x4 x5 x6 x7 (ix2 h i) = ((ellM (daM DP DB AL) 1 i h : ℝ) : EReal) :=
  (congrFun (show k1_pay248 x0 x1 x2 x3 x4 x5 x6 x7 = cEllT 1 (k1_pay233 x0 x1 x2 x3 x4 x5 x6 x7) (k1_pay238 x0 x1 x2 x3 x4 x5 x6 x7) from rfl) _).trans
    (cEllT_real _ _ _ (v233_real x0 x1 x2 x3 x4 x5 x6 x7 DP DB AL h2 h5 h6) (v238_at x0 x1 x2 x3 x4 x5 x6 x7) 1 h i)

include h0 h2 h3 h4 h5 in
theorem u1_real (i : Fin 256) (e : Fin 2048) :
    k1_pay251 x0 x1 x2 x3 x4 x5 x6 x7 (ix2 i e) = ((uM (xcM XP CW CB) (dtm DP DB) 1 i e : ℝ) : EReal) :=
  (congrFun (show k1_pay251 x0 x1 x2 x3 x4 x5 x6 x7 = cU 1 (k1_pay229 x0 x1 x2 x3 x4 x5 x6 x7) (k1_pay231 x0 x1 x2 x3 x4 x5 x6 x7) (k1_pay234 x0 x1 x2 x3 x4 x5 x6 x7) from rfl) _).trans
    (cU_real _ _ _ _ _ (v229_real x0 x1 x2 x3 x4 x5 x6 x7 XP CW CB h0 h3 h4) (v231_real x0 x1 x2 x3 x4 x5 x6 x7 DP DB h2 h5) (v234_at x0 x1 x2 x3 x4 x5 x6 x7) 1 i e)

include h0 h1 h2 h3 h4 h5 h6 h7 in
theorem yb1_real (i : Fin 256) (e : Fin 2048) :
    k1_pay252 x0 x1 x2 x3 x4 x5 x6 x7 (ix2 i e) = ((ybM (xcM XP CW CB) (bcM BP CW CB) (dtm DP DB) (daM DP DB AL) D 1 i e : ℝ) : EReal) :=
  (congrFun (show k1_pay252 x0 x1 x2 x3 x4 x5 x6 x7 = cYB 1 (k1_pay229 x0 x1 x2 x3 x4 x5 x6 x7) (k1_pay230 x0 x1 x2 x3 x4 x5 x6 x7) (k1_pay234 x0 x1 x2 x3 x4 x5 x6 x7) (k1_pay239 x0 x1 x2 x3 x4 x5 x6 x7) (k1_pay247 x0 x1 x2 x3 x4 x5 x6 x7) (k1_pay244 x0 x1 x2 x3 x4 x5 x6 x7) from rfl) _).trans
    (cYB_real (xcM XP CW CB) (bcM BP CW CB) (dtm DP DB) (daM DP DB AL) D _ _ _ _ (v229_real x0 x1 x2 x3 x4 x5 x6 x7 XP CW CB h0 h3 h4) (v230_real x0 x1 x2 x3 x4 x5 x6 x7 BP CW CB h1 h3 h4) (v234_at x0 x1 x2 x3 x4 x5 x6 x7) (v239_real x0 x1 x2 x3 x4 x5 x6 x7 D h7) 1 _ _
      (ell1_real x0 x1 x2 x3 x4 x5 x6 x7 DP DB AL h2 h5 h6) (st0_real x0 x1 x2 x3 x4 x5 x6 x7 XP BP DP CW CB DB AL h0 h1 h2 h3 h4 h5 h6) i e)

include h1 h3 h4 in
theorem gt1_real (i j : Fin 256) : k1_pay254 x0 x1 x2 x3 x4 x5 x6 x7 (ix2 i j) = ((gtM (bcM BP CW CB) 1 i j : ℝ) : EReal) :=
  (congrFun (show k1_pay254 x0 x1 x2 x3 x4 x5 x6 x7 = cGT 1 (k1_pay230 x0 x1 x2 x3 x4 x5 x6 x7) (k1_pay235 x0 x1 x2 x3 x4 x5 x6 x7) from rfl) _).trans
    (cGT_real _ _ _ (v230_real x0 x1 x2 x3 x4 x5 x6 x7 BP CW CB h1 h3 h4) (v235_at x0 x1 x2 x3 x4 x5 x6 x7) 1 i j)

include h0 h1 h2 h3 h4 h5 h6 in
theorem st1_real (n : Fin 128) (e : Fin 2048) :
    k1_pay253 x0 x1 x2 x3 x4 x5 x6 x7 (ix2 n e) = ((stM (xcM XP CW CB) (bcM BP CW CB) (dtm DP DB) (daM DP DB AL) 2 n e : ℝ) : EReal) :=
  (congrFun (show k1_pay253 x0 x1 x2 x3 x4 x5 x6 x7 = cSt 1 (k1_pay230 x0 x1 x2 x3 x4 x5 x6 x7) (k1_pay234 x0 x1 x2 x3 x4 x5 x6 x7) (k1_pay247 x0 x1 x2 x3 x4 x5 x6 x7) (k1_pay251 x0 x1 x2 x3 x4 x5 x6 x7) (k1_pay244 x0 x1 x2 x3 x4 x5 x6 x7) from rfl) _).trans
    (cSt_real (xcM XP CW CB) (bcM BP CW CB) (dtm DP DB) (daM DP DB AL) _ _ (v230_real x0 x1 x2 x3 x4 x5 x6 x7 BP CW CB h1 h3 h4) (v234_at x0 x1 x2 x3 x4 x5 x6 x7) 1 _ _ _
      (ell1_real x0 x1 x2 x3 x4 x5 x6 x7 DP DB AL h2 h5 h6) (u1_real x0 x1 x2 x3 x4 x5 x6 x7 XP DP CW CB DB h0 h2 h3 h4 h5) (st0_real x0 x1 x2 x3 x4 x5 x6 x7 XP BP DP CW CB DB AL h0 h1 h2 h3 h4 h5 h6) n e)

include h2 h5 h6 in
theorem ell2_real (i : Fin 256) (h : Fin 32) : k1_pay255 x0 x1 x2 x3 x4 x5 x6 x7 (ix2 i h) = ((ellM (daM DP DB AL) 2 i h : ℝ) : EReal) :=
  (congrFun (show k1_pay255 x0 x1 x2 x3 x4 x5 x6 x7 = cEll 2 (k1_pay233 x0 x1 x2 x3 x4 x5 x6 x7) (k1_pay235 x0 x1 x2 x3 x4 x5 x6 x7) from rfl) _).trans
    (cEll_real _ _ _ (v233_real x0 x1 x2 x3 x4 x5 x6 x7 DP DB AL h2 h5 h6) (v235_at x0 x1 x2 x3 x4 x5 x6 x7) 2 i h)

include h2 h5 h6 in
theorem ellT2_real (h : Fin 32) (i : Fin 256) : k1_pay256 x0 x1 x2 x3 x4 x5 x6 x7 (ix2 h i) = ((ellM (daM DP DB AL) 2 i h : ℝ) : EReal) :=
  (congrFun (show k1_pay256 x0 x1 x2 x3 x4 x5 x6 x7 = cEllT 2 (k1_pay233 x0 x1 x2 x3 x4 x5 x6 x7) (k1_pay238 x0 x1 x2 x3 x4 x5 x6 x7) from rfl) _).trans
    (cEllT_real _ _ _ (v233_real x0 x1 x2 x3 x4 x5 x6 x7 DP DB AL h2 h5 h6) (v238_at x0 x1 x2 x3 x4 x5 x6 x7) 2 h i)

include h0 h2 h3 h4 h5 in
theorem u2_real (i : Fin 256) (e : Fin 2048) :
    k1_pay261 x0 x1 x2 x3 x4 x5 x6 x7 (ix2 i e) = ((uM (xcM XP CW CB) (dtm DP DB) 2 i e : ℝ) : EReal) :=
  (congrFun (show k1_pay261 x0 x1 x2 x3 x4 x5 x6 x7 = cU 2 (k1_pay229 x0 x1 x2 x3 x4 x5 x6 x7) (k1_pay231 x0 x1 x2 x3 x4 x5 x6 x7) (k1_pay234 x0 x1 x2 x3 x4 x5 x6 x7) from rfl) _).trans
    (cU_real _ _ _ _ _ (v229_real x0 x1 x2 x3 x4 x5 x6 x7 XP CW CB h0 h3 h4) (v231_real x0 x1 x2 x3 x4 x5 x6 x7 DP DB h2 h5) (v234_at x0 x1 x2 x3 x4 x5 x6 x7) 2 i e)

include h0 h1 h2 h3 h4 h5 h6 h7 in
theorem yb2_real (i : Fin 256) (e : Fin 2048) :
    k1_pay263 x0 x1 x2 x3 x4 x5 x6 x7 (ix2 i e) = ((ybM (xcM XP CW CB) (bcM BP CW CB) (dtm DP DB) (daM DP DB AL) D 2 i e : ℝ) : EReal) :=
  (congrFun (show k1_pay263 x0 x1 x2 x3 x4 x5 x6 x7 = cYB 2 (k1_pay229 x0 x1 x2 x3 x4 x5 x6 x7) (k1_pay230 x0 x1 x2 x3 x4 x5 x6 x7) (k1_pay234 x0 x1 x2 x3 x4 x5 x6 x7) (k1_pay239 x0 x1 x2 x3 x4 x5 x6 x7) (k1_pay255 x0 x1 x2 x3 x4 x5 x6 x7) (k1_pay253 x0 x1 x2 x3 x4 x5 x6 x7) from rfl) _).trans
    (cYB_real (xcM XP CW CB) (bcM BP CW CB) (dtm DP DB) (daM DP DB AL) D _ _ _ _ (v229_real x0 x1 x2 x3 x4 x5 x6 x7 XP CW CB h0 h3 h4) (v230_real x0 x1 x2 x3 x4 x5 x6 x7 BP CW CB h1 h3 h4) (v234_at x0 x1 x2 x3 x4 x5 x6 x7) (v239_real x0 x1 x2 x3 x4 x5 x6 x7 D h7) 2 _ _
      (ell2_real x0 x1 x2 x3 x4 x5 x6 x7 DP DB AL h2 h5 h6) (st1_real x0 x1 x2 x3 x4 x5 x6 x7 XP BP DP CW CB DB AL h0 h1 h2 h3 h4 h5 h6) i e)

include h1 h3 h4 in
theorem gt2_real (i j : Fin 256) : k1_pay265 x0 x1 x2 x3 x4 x5 x6 x7 (ix2 i j) = ((gtM (bcM BP CW CB) 2 i j : ℝ) : EReal) :=
  (congrFun (show k1_pay265 x0 x1 x2 x3 x4 x5 x6 x7 = cGT 2 (k1_pay230 x0 x1 x2 x3 x4 x5 x6 x7) (k1_pay235 x0 x1 x2 x3 x4 x5 x6 x7) from rfl) _).trans
    (cGT_real _ _ _ (v230_real x0 x1 x2 x3 x4 x5 x6 x7 BP CW CB h1 h3 h4) (v235_at x0 x1 x2 x3 x4 x5 x6 x7) 2 i j)

include h0 h1 h2 h3 h4 h5 h6 in
theorem st2_real (n : Fin 128) (e : Fin 2048) :
    k1_pay264 x0 x1 x2 x3 x4 x5 x6 x7 (ix2 n e) = ((stM (xcM XP CW CB) (bcM BP CW CB) (dtm DP DB) (daM DP DB AL) 3 n e : ℝ) : EReal) :=
  (congrFun (show k1_pay264 x0 x1 x2 x3 x4 x5 x6 x7 = cSt 2 (k1_pay230 x0 x1 x2 x3 x4 x5 x6 x7) (k1_pay234 x0 x1 x2 x3 x4 x5 x6 x7) (k1_pay255 x0 x1 x2 x3 x4 x5 x6 x7) (k1_pay261 x0 x1 x2 x3 x4 x5 x6 x7) (k1_pay253 x0 x1 x2 x3 x4 x5 x6 x7) from rfl) _).trans
    (cSt_real (xcM XP CW CB) (bcM BP CW CB) (dtm DP DB) (daM DP DB AL) _ _ (v230_real x0 x1 x2 x3 x4 x5 x6 x7 BP CW CB h1 h3 h4) (v234_at x0 x1 x2 x3 x4 x5 x6 x7) 2 _ _ _
      (ell2_real x0 x1 x2 x3 x4 x5 x6 x7 DP DB AL h2 h5 h6) (u2_real x0 x1 x2 x3 x4 x5 x6 x7 XP DP CW CB DB h0 h2 h3 h4 h5) (st1_real x0 x1 x2 x3 x4 x5 x6 x7 XP BP DP CW CB DB AL h0 h1 h2 h3 h4 h5 h6) n e)

include h2 h5 h6 in
theorem ell3_real (i : Fin 256) (h : Fin 32) : k1_pay266 x0 x1 x2 x3 x4 x5 x6 x7 (ix2 i h) = ((ellM (daM DP DB AL) 3 i h : ℝ) : EReal) :=
  (congrFun (show k1_pay266 x0 x1 x2 x3 x4 x5 x6 x7 = cEll 3 (k1_pay233 x0 x1 x2 x3 x4 x5 x6 x7) (k1_pay235 x0 x1 x2 x3 x4 x5 x6 x7) from rfl) _).trans
    (cEll_real _ _ _ (v233_real x0 x1 x2 x3 x4 x5 x6 x7 DP DB AL h2 h5 h6) (v235_at x0 x1 x2 x3 x4 x5 x6 x7) 3 i h)

include h2 h5 h6 in
theorem ellT3_real (h : Fin 32) (i : Fin 256) : k1_pay267 x0 x1 x2 x3 x4 x5 x6 x7 (ix2 h i) = ((ellM (daM DP DB AL) 3 i h : ℝ) : EReal) :=
  (congrFun (show k1_pay267 x0 x1 x2 x3 x4 x5 x6 x7 = cEllT 3 (k1_pay233 x0 x1 x2 x3 x4 x5 x6 x7) (k1_pay238 x0 x1 x2 x3 x4 x5 x6 x7) from rfl) _).trans
    (cEllT_real _ _ _ (v233_real x0 x1 x2 x3 x4 x5 x6 x7 DP DB AL h2 h5 h6) (v238_at x0 x1 x2 x3 x4 x5 x6 x7) 3 h i)

include h0 h2 h3 h4 h5 in
theorem u3_real (i : Fin 256) (e : Fin 2048) :
    k1_pay272 x0 x1 x2 x3 x4 x5 x6 x7 (ix2 i e) = ((uM (xcM XP CW CB) (dtm DP DB) 3 i e : ℝ) : EReal) :=
  (congrFun (show k1_pay272 x0 x1 x2 x3 x4 x5 x6 x7 = cU 3 (k1_pay229 x0 x1 x2 x3 x4 x5 x6 x7) (k1_pay231 x0 x1 x2 x3 x4 x5 x6 x7) (k1_pay234 x0 x1 x2 x3 x4 x5 x6 x7) from rfl) _).trans
    (cU_real _ _ _ _ _ (v229_real x0 x1 x2 x3 x4 x5 x6 x7 XP CW CB h0 h3 h4) (v231_real x0 x1 x2 x3 x4 x5 x6 x7 DP DB h2 h5) (v234_at x0 x1 x2 x3 x4 x5 x6 x7) 3 i e)

include h0 h1 h2 h3 h4 h5 h6 h7 in
theorem yb3_real (i : Fin 256) (e : Fin 2048) :
    k1_pay273 x0 x1 x2 x3 x4 x5 x6 x7 (ix2 i e) = ((ybM (xcM XP CW CB) (bcM BP CW CB) (dtm DP DB) (daM DP DB AL) D 3 i e : ℝ) : EReal) :=
  (congrFun (show k1_pay273 x0 x1 x2 x3 x4 x5 x6 x7 = cYB 3 (k1_pay229 x0 x1 x2 x3 x4 x5 x6 x7) (k1_pay230 x0 x1 x2 x3 x4 x5 x6 x7) (k1_pay234 x0 x1 x2 x3 x4 x5 x6 x7) (k1_pay239 x0 x1 x2 x3 x4 x5 x6 x7) (k1_pay266 x0 x1 x2 x3 x4 x5 x6 x7) (k1_pay264 x0 x1 x2 x3 x4 x5 x6 x7) from rfl) _).trans
    (cYB_real (xcM XP CW CB) (bcM BP CW CB) (dtm DP DB) (daM DP DB AL) D _ _ _ _ (v229_real x0 x1 x2 x3 x4 x5 x6 x7 XP CW CB h0 h3 h4) (v230_real x0 x1 x2 x3 x4 x5 x6 x7 BP CW CB h1 h3 h4) (v234_at x0 x1 x2 x3 x4 x5 x6 x7) (v239_real x0 x1 x2 x3 x4 x5 x6 x7 D h7) 3 _ _
      (ell3_real x0 x1 x2 x3 x4 x5 x6 x7 DP DB AL h2 h5 h6) (st2_real x0 x1 x2 x3 x4 x5 x6 x7 XP BP DP CW CB DB AL h0 h1 h2 h3 h4 h5 h6) i e)

include h1 h3 h4 in
theorem gt3_real (i j : Fin 256) : k1_pay274 x0 x1 x2 x3 x4 x5 x6 x7 (ix2 i j) = ((gtM (bcM BP CW CB) 3 i j : ℝ) : EReal) :=
  (congrFun (show k1_pay274 x0 x1 x2 x3 x4 x5 x6 x7 = cGT 3 (k1_pay230 x0 x1 x2 x3 x4 x5 x6 x7) (k1_pay235 x0 x1 x2 x3 x4 x5 x6 x7) from rfl) _).trans
    (cGT_real _ _ _ (v230_real x0 x1 x2 x3 x4 x5 x6 x7 BP CW CB h1 h3 h4) (v235_at x0 x1 x2 x3 x4 x5 x6 x7) 3 i j)

end

end Cert.Proof

end
-- ==== Proof.ScanMath.lean ====
/-
  The chunked scan is the recurrence: over ℝ, the kernel's four chunks of 256 rows compute the state space scan
  row by row.
-/
module

public import proofs.«01_k».proof.Proof.KScanChunk

@[expose] public section

noncomputable section

namespace Cert.Proof

open scoped BigOperators

/-- `m` steps of the recurrence at once. -/
theorem rst_add (a w : ℕ → ℝ) (T m : ℕ) :
    rst a w (T + m) = rst a w T * Real.exp (∑ k ∈ Finset.range m, a (T + k))
      + ∑ j ∈ Finset.range m,
          Real.exp ((∑ k ∈ Finset.range m, a (T + k)) - ∑ k ∈ Finset.range (j + 1), a (T + k)) * w (T + j) := by
  induction m with
  | zero => simp
  | succ m ih =>
    have h1 : rst a w (T + (m + 1)) = rst a w (T + m) * Real.exp (a (T + m)) + w (T + m) := rfl
    rw [h1, ih, Finset.sum_range_succ (fun j => Real.exp (_ - _) * _), sub_self, Real.exp_zero, one_mul, add_mul,
      Finset.sum_mul, Finset.sum_range_succ (fun k => a (T + k)) m, Real.exp_add, ← add_assoc, mul_assoc]
    refine congrArg₂ _ (congrArg₂ _ rfl (Finset.sum_congr rfl fun j _ => ?_)) rfl
    rw [add_sub_right_comm, Real.exp_add]
    ring

/-- A sum weighted by a row of the lower triangle. -/
theorem tril_sum (i : Fin 256) (f : ℕ → ℝ) :
    ∑ j : Fin 256, (if j ≤ i then 1 else 0) * f j.val = ∑ j ∈ Finset.range (i.val + 1), f j := by
  have h1 : ∑ j : Fin 256, (if j ≤ i then 1 else 0) * f j.val
      = ∑ j ∈ Finset.range 256, (if j ≤ i.val then 1 else 0) * f j :=
    (Finset.sum_range (fun j => (if j ≤ i.val then (1 : ℝ) else 0) * f j)).symm
  rw [h1]
  have h2 : Finset.range (i.val + 1) ⊆ Finset.range 256 := by
    intro j hj
    have := i.isLt
    simp only [Finset.mem_range] at hj ⊢
    omega
  rw [← Finset.sum_subset h2]
  · refine Finset.sum_congr rfl fun j hj => ?_
    rw [if_pos (by simp only [Finset.mem_range] at hj; omega), one_mul]
  · intro j _ hj
    rw [if_neg (by simp only [Finset.mem_range] at hj; omega), zero_mul]

variable (xc : Fin 1024 → Fin 2048 → ℝ) (bc : Fin 1024 → Fin 256 → ℝ) (dt da : Fin 1024 → Fin 32 → ℝ) (d : Fin 32 → ℝ)

theorem ellM_eq (c : ℕ) (i : Fin 256) (h : Fin 32) :
    ellM da c i h = ∑ k ∈ Finset.range (i.val + 1), da (tm (256 * c + k)) h :=
  tril_sum i (fun k => da (tm (256 * c + k)) h)

theorem stM_eq (c : ℕ) (n : Fin 128) (e : Fin 2048) : stM xc bc dt da c n e = state xc bc dt da n e (256 * c) := by
  induction c with
  | zero => rfl
  | succ c ih =>
    show stM xc bc dt da c n e * _ + _ = _
    rw [ih]
    unfold state
    rw [Nat.mul_succ, rst_add, Finset.sum_range (n := 256) (fun j => Real.exp (_ - _) * _)]
    refine congrArg₂ _ (congrArg₂ _ rfl (congrArg _ (ellM_eq da c 255 (hd e)))) (Finset.sum_congr rfl fun j _ => ?_)
    rw [ellM_eq, ellM_eq]
    show bc (row c j) (bcol n) * (_ * (dt (row c j) (hd e) * xc (row c j) e))
      = _ * (dt (row c j) (hd e) * xc (row c j) e * bc (row c j) (bcol n))
    rw [show ((255 : Fin 256) : ℕ) + 1 = 256 from rfl]
    ring

/-- A row of a chunk's output is the scan's. -/
theorem outM_eq (c : Fin 4) (i : Fin 256) (e : Fin 2048) :
    outM xc bc dt da d c.val i e = scanOut xc bc dt da d (row c.val i) e := by
  have hv : (row c.val i).val = 256 * c.val + i.val := by
    have := c.isLt; have := i.isLt
    exact Nat.mod_eq_of_lt (by omega)
  unfold outM ybM scanOut
  rw [← add_assoc]
  refine congrArg₂ _ ?_ rfl
  have hs : ∀ n : Fin 128, state xc bc dt da n e ((row c.val i).val + 1)
      = stM xc bc dt da c.val n e * Real.exp (ellM da c.val i (hd e))
        + ∑ j : Fin 256, (if j ≤ i then 1 else 0) * (Real.exp (ellM da c.val i (hd e) - ellM da c.val j (hd e))
            * (uM xc dt c.val j e * bc (row c.val j) (bcol n))) := by
    intro n
    rw [stM_eq]
    have h2 := tril_sum i (fun j => Real.exp (ellM da c.val i (hd e)
        - ∑ k ∈ Finset.range (j + 1), da (tm (256 * c.val + k)) (hd e))
      * (dt (tm (256 * c.val + j)) (hd e) * xc (tm (256 * c.val + j)) e * bc (tm (256 * c.val + j)) (bcol n)))
    rw [show (∑ j : Fin 256, (if j ≤ i then (1 : ℝ) else 0) * (Real.exp (ellM da c.val i (hd e) - ellM da c.val j (hd e))
            * (uM xc dt c.val j e * bc (row c.val j) (bcol n)))) = _ from
      (Finset.sum_congr rfl fun j _ => by rw [ellM_eq da c.val j]; rfl) |>.trans h2]
    unfold state
    rw [hv, add_assoc, rst_add, ellM_eq]
    rfl
  simp only [hs, add_mul, Finset.sum_add_distrib, gtM, Finset.sum_mul, Finset.mul_sum]
  rw [add_comm, Finset.sum_comm]
  refine congrArg₂ _ (Finset.sum_congr rfl fun n _ => ?_) (Finset.sum_congr rfl fun n _ => Finset.sum_congr rfl fun j _ => ?_)
  · show _ * (bc (row c.val i) (ccol n) * _) = _ * _ * bc (row c.val i) (ccol n)
    ring
  · show bc (row c.val i) (ccol n) * _ * _ * _ * _ = _ * bc (row c.val i) (ccol n)
    ring

end Cert.Proof

end
-- ==== Proof.KScan.lean ====
/-
  What the scan call leaves: the state space scan, on real input arrays.
-/
module

public import proofs.«01_k».proof.Proof.KScanVals
public import proofs.«01_k».proof.Proof.ScanMath
public import proofs.«01_k».proof.Proof.Gen.KernelIdeal.Frame
public import Idealize.ShloMosaic.Lib.Pipeline.ValueKit

@[expose] public section

set_option maxRecDepth 16384

noncomputable section

namespace Cert.Proof

open Idealize.ShloMosaic Cert.KernelIdeal Cert.KernelIdeal.Gen
open Idealize.ShloMosaic.TcCoe
open scoped BigOperators

/-- The scan's output, as an array. -/
def yArr (XC : Fin 1024 → Fin 2048 → ℝ) (BC : Fin 1024 → Fin 256 → ℝ) (DT DA : Fin 1024 → Fin 32 → ℝ) (D : Fin 32 → ℝ) :
    S1024x2048.Idx → Elt Ideal .f32 := fun j => ((scanOut XC BC DT DA D (j 0) (j 1) : ℝ) : EReal)

theorem piece (XC : Fin 1024 → Fin 2048 → ℝ) (BC : Fin 1024 → Fin 256 → ℝ) (DT DA : Fin 1024 → Fin 32 → ℝ) (D : Fin 32 → ℝ)
    (c : Fin 4) (h : Fin 32) (ell : FVec Ideal S256x32 .f32) (ellT : FVec Ideal S32x256 .f32)
    (gt : FVec Ideal S256x256 .f32) (u yb : FVec Ideal S256x2048 .f32)
    (hell : ∀ i h, ell (ix2 i h) = ((ellM DA c.val i h : ℝ) : EReal))
    (hellT : ∀ h i, ellT (ix2 h i) = ((ellM DA c.val i h : ℝ) : EReal))
    (hu : ∀ i e, u (ix2 i e) = ((uM XC DT c.val i e : ℝ) : EReal))
    (hyb : ∀ i e, yb (ix2 i e) = ((ybM XC BC DT DA D c.val i e : ℝ) : EReal))
    (hgt : ∀ i j, gt (ix2 i j) = ((gtM BC c.val i j : ℝ) : EReal))
    (inb : ∀ a, (![256 * c.val, 64 * h.val] : Fin 2 → ℕ) a + S256x64.size a ≤ S1024x2048.size a)
    (v : FVec Ideal S256x64 .f32) (hv : v = headV h ell ellT gt u yb) (x : S256x64.Idx) :
    v x = yArr XC BC DT DA D ((Rect.unit (s := S1024x2048) ![256 * c.val, 64 * h.val] S256x64.size inb).emb x) := by
  obtain ⟨i, k, rfl⟩ : ∃ (i : Fin 256) (k : Fin 64), x = ix2 i k := ⟨x 0, x 1, eq_ix2 x⟩
  have hk : 64 * h.val + k.val < 2048 := by have := h.isLt; have := k.isLt; omega
  have hi : 256 * c.val + i.val < 1024 := by have := c.isLt; have := i.isLt; omega
  have he : (Rect.unit (s := S1024x2048) ![256 * c.val, 64 * h.val] S256x64.size inb).emb (ix2 i k)
      = ix2 (row c.val i) ⟨64 * h.val + k.val, hk⟩ := by
    funext a
    apply Fin.ext
    refine (Rect.idx_unit_val _ _ inb (ix2 i k) a).trans ?_
    rw [← row_eq c i hi]
    fin_cases a <;> rfl
  rw [hv, he, headV_real XC BC DT DA D c h ell ellT gt u yb hell hellT hgt hu hyb i k ⟨64 * h.val + k.val, hk⟩ rfl, outM_eq]
  rfl

section
variable (x0 : Vec Ideal S1024x2048 .f32) (x1 : Vec Ideal S1024x256 .f32) (x2 : Vec Ideal S1024x32 .f32)
  (x3 : Vec Ideal S4x2304 .f32) (x4 : Vec Ideal S1x2304 .f32) (x5 x6 x7 : Vec Ideal S1x32 .f32)
  (XP : Fin 1024 → Fin 2048 → ℝ) (BP : Fin 1024 → Fin 256 → ℝ) (DP : Fin 1024 → Fin 32 → ℝ)
  (CW : Fin 4 → Fin 2304 → ℝ) (CB : Fin 2304 → ℝ) (DB AL D : Fin 32 → ℝ)
  (h0 : ∀ t e, x0 (ix2 t e) = ((XP t e : ℝ) : EReal)) (h1 : ∀ t e, x1 (ix2 t e) = ((BP t e : ℝ) : EReal))
  (h2 : ∀ t h, x2 (ix2 t h) = ((DP t h : ℝ) : EReal)) (h3 : ∀ j e, x3 (ix2 j e) = ((CW j e : ℝ) : EReal))
  (h4 : ∀ e, x4 (ix2 0 e) = ((CB e : ℝ) : EReal)) (h5 : ∀ h, x5 (ix2 0 h) = ((DB h : ℝ) : EReal))
  (h6 : ∀ h, x6 (ix2 0 h) = ((AL h : ℝ) : EReal)) (h7 : ∀ h, x7 (ix2 0 h) = ((D h : ℝ) : EReal))
include h0 h1 h2 h3 h4 h5 h6 h7

theorem piece0 (h : Fin 32) (inb : ∀ a, (![256 * 0, 64 * h.val] : Fin 2 → ℕ) a + S256x64.size a ≤ S1024x2048.size a)
    (v : FVec Ideal S256x64 .f32) (hv : v = headV h (k1_pay240 x0 x1 x2 x3 x4 x5 x6 x7) (k1_pay241 x0 x1 x2 x3 x4 x5 x6 x7) (k1_pay245 x0 x1 x2 x3 x4 x5 x6 x7) (k1_pay242 x0 x1 x2 x3 x4 x5 x6 x7) (k1_pay243 x0 x1 x2 x3 x4 x5 x6 x7)) (x : S256x64.Idx) :
    v x = yArr (xcM XP CW CB) (bcM BP CW CB) (dtm DP DB) (daM DP DB AL) D
      ((Rect.unit (s := S1024x2048) ![256 * 0, 64 * h.val] S256x64.size inb).emb x) :=
  piece _ _ _ _ D 0 h _ _ _ _ _ (ell0_real x0 x1 x2 x3 x4 x5 x6 x7 DP DB AL h2 h5 h6) (ellT0_real x0 x1 x2 x3 x4 x5 x6 x7 DP DB AL h2 h5 h6)
    (u0_real x0 x1 x2 x3 x4 x5 x6 x7 XP DP CW CB DB h0 h2 h3 h4 h5) (yb0_real x0 x1 x2 x3 x4 x5 x6 x7 XP BP DP CW CB DB AL D h0 h1 h2 h3 h4 h5 h6 h7) (gt0_real x0 x1 x2 x3 x4 x5 x6 x7 BP CW CB h1 h3 h4) inb v hv x

theorem piece1 (h : Fin 32) (inb : ∀ a, (![256 * 1, 64 * h.val] : Fin 2 → ℕ) a + S256x64.size a ≤ S1024x2048.size a)
    (v : FVec Ideal S256x64 .f32) (hv : v = headV h (k1_pay247 x0 x1 x2 x3 x4 x5 x6 x7) (k1_pay248 x0 x1 x2 x3 x4 x5 x6 x7) (k1_pay254 x0 x1 x2 x3 x4 x5 x6 x7) (k1_pay251 x0 x1 x2 x3 x4 x5 x6 x7) (k1_pay252 x0 x1 x2 x3 x4 x5 x6 x7)) (x : S256x64.Idx) :
    v x = yArr (xcM XP CW CB) (bcM BP CW CB) (dtm DP DB) (daM DP DB AL) D
      ((Rect.unit (s := S1024x2048) ![256 * 1, 64 * h.val] S256x64.size inb).emb x) :=
  piece _ _ _ _ D 1 h _ _ _ _ _ (ell1_real x0 x1 x2 x3 x4 x5 x6 x7 DP DB AL h2 h5 h6) (ellT1_real x0 x1 x2 x3 x4 x5 x6 x7 DP DB AL h2 h5 h6)
    (u1_real x0 x1 x2 x3 x4 x5 x6 x7 XP DP CW CB DB h0 h2 h3 h4 h5) (yb1_real x0 x1 x2 x3 x4 x5 x6 x7 XP BP DP CW CB DB AL D h0 h1 h2 h3 h4 h5 h6 h7) (gt1_real x0 x1 x2 x3 x4 x5 x6 x7 BP CW CB h1 h3 h4) inb v hv x

theorem piece2 (h : Fin 32) (inb : ∀ a, (![256 * 2, 64 * h.val] : Fin 2 → ℕ) a + S256x64.size a ≤ S1024x2048.size a)
    (v : FVec Ideal S256x64 .f32) (hv : v = headV h (k1_pay255 x0 x1 x2 x3 x4 x5 x6 x7) (k1_pay256 x0 x1 x2 x3 x4 x5 x6 x7) (k1_pay265 x0 x1 x2 x3 x4 x5 x6 x7) (k1_pay261 x0 x1 x2 x3 x4 x5 x6 x7) (k1_pay263 x0 x1 x2 x3 x4 x5 x6 x7)) (x : S256x64.Idx) :
    v x = yArr (xcM XP CW CB) (bcM BP CW CB) (dtm DP DB) (daM DP DB AL) D
      ((Rect.unit (s := S1024x2048) ![256 * 2, 64 * h.val] S256x64.size inb).emb x) :=
  piece _ _ _ _ D 2 h _ _ _ _ _ (ell2_real x0 x1 x2 x3 x4 x5 x6 x7 DP DB AL h2 h5 h6) (ellT2_real x0 x1 x2 x3 x4 x5 x6 x7 DP DB AL h2 h5 h6)
    (u2_real x0 x1 x2 x3 x4 x5 x6 x7 XP DP CW CB DB h0 h2 h3 h4 h5) (yb2_real x0 x1 x2 x3 x4 x5 x6 x7 XP BP DP CW CB DB AL D h0 h1 h2 h3 h4 h5 h6 h7) (gt2_real x0 x1 x2 x3 x4 x5 x6 x7 BP CW CB h1 h3 h4) inb v hv x

theorem piece3 (h : Fin 32) (inb : ∀ a, (![256 * 3, 64 * h.val] : Fin 2 → ℕ) a + S256x64.size a ≤ S1024x2048.size a)
    (v : FVec Ideal S256x64 .f32) (hv : v = headV h (k1_pay266 x0 x1 x2 x3 x4 x5 x6 x7) (k1_pay267 x0 x1 x2 x3 x4 x5 x6 x7) (k1_pay274 x0 x1 x2 x3 x4 x5 x6 x7) (k1_pay272 x0 x1 x2 x3 x4 x5 x6 x7) (k1_pay273 x0 x1 x2 x3 x4 x5 x6 x7)) (x : S256x64.Idx) :
    v x = yArr (xcM XP CW CB) (bcM BP CW CB) (dtm DP DB) (daM DP DB AL) D
      ((Rect.unit (s := S1024x2048) ![256 * 3, 64 * h.val] S256x64.size inb).emb x) :=
  piece _ _ _ _ D 3 h _ _ _ _ _ (ell3_real x0 x1 x2 x3 x4 x5 x6 x7 DP DB AL h2 h5 h6) (ellT3_real x0 x1 x2 x3 x4 x5 x6 x7 DP DB AL h2 h5 h6)
    (u3_real x0 x1 x2 x3 x4 x5 x6 x7 XP DP CW CB DB h0 h2 h3 h4 h5) (yb3_real x0 x1 x2 x3 x4 x5 x6 x7 XP BP DP CW CB DB AL D h0 h1 h2 h3 h4 h5 h6 h7) (gt3_real x0 x1 x2 x3 x4 x5 x6 x7 BP CW CB h1 h3 h4) inb v hv x

set_option maxHeartbeats 4000000 in
theorem out1_8_real (t : Fin 1024) (e : Fin 2048) :
    out1_8 x0 x1 x2 x3 x4 x5 x6 x7 (ix2 t e) = ((scanOut (xcM XP CW CB) (bcM BP CW CB) (dtm DP DB) (daM DP DB AL) D t e : ℝ) : EReal) := by
  unfold out1_8
  dsimp only
  refine View.canon_apply_of_pieces (Val := Elt Ideal) (e := .f32) (yArr (xcM XP CW CB) (bcM BP CW CB) (dtm DP DB) (daM DP DB AL) D) _ ?_ (ix2 t e)
    (cover1_8 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ix2 t e))
  refine List.forall_mem_cons.2 ⟨piece3 x0 x1 x2 x3 x4 x5 x6 x7 XP BP DP CW CB DB AL D h0 h1 h2 h3 h4 h5 h6 h7 31 inb_S1024x2048_S256x64_768_1984 _ rfl, ?_⟩
  refine List.forall_mem_cons.2 ⟨piece3 x0 x1 x2 x3 x4 x5 x6 x7 XP BP DP CW CB DB AL D h0 h1 h2 h3 h4 h5 h6 h7 30 inb_S1024x2048_S256x64_768_1920 _ rfl, ?_⟩
  refine List.forall_mem_cons.2 ⟨piece3 x0 x1 x2 x3 x4 x5 x6 x7 XP BP DP CW CB DB AL D h0 h1 h2 h3 h4 h5 h6 h7 29 inb_S1024x2048_S256x64_768_1856 _ rfl, ?_⟩
  refine List.forall_mem_cons.2 ⟨piece3 x0 x1 x2 x3 x4 x5 x6 x7 XP BP DP CW CB DB AL D h0 h1 h2 h3 h4 h5 h6 h7 28 inb_S1024x2048_S256x64_768_1792 _ rfl, ?_⟩
  refine List.forall_mem_cons.2 ⟨piece3 x0 x1 x2 x3 x4 x5 x6 x7 XP BP DP CW CB DB AL D h0 h1 h2 h3 h4 h5 h6 h7 27 inb_S1024x2048_S256x64_768_1728 _ rfl, ?_⟩
  refine List.forall_mem_cons.2 ⟨piece3 x0 x1 x2 x3 x4 x5 x6 x7 XP BP DP CW CB DB AL D h0 h1 h2 h3 h4 h5 h6 h7 26 inb_S1024x2048_S256x64_768_1664 _ rfl, ?_⟩
  refine List.forall_mem_cons.2 ⟨piece3 x0 x1 x2 x3 x4 x5 x6 x7 XP BP DP CW CB DB AL D h0 h1 h2 h3 h4 h5 h6 h7 25 inb_S1024x2048_S256x64_768_1600 _ rfl, ?_⟩
  refine List.forall_mem_cons.2 ⟨piece3 x0 x1 x2 x3 x4 x5 x6 x7 XP BP DP CW CB DB AL D h0 h1 h2 h3 h4 h5 h6 h7 24 inb_S1024x2048_S256x64_768_1536 _ rfl, ?_⟩
  refine List.forall_mem_cons.2 ⟨piece3 x0 x1 x2 x3 x4 x5 x6 x7 XP BP DP CW CB DB AL D h0 h1 h2 h3 h4 h5 h6 h7 23 inb_S1024x2048_S256x64_768_1472 _ rfl, ?_⟩
  refine List.forall_mem_cons.2 ⟨piece3 x0 x1 x2 x3 x4 x5 x6 x7 XP BP DP CW CB DB AL D h0 h1 h2 h3 h4 h5 h6 h7 22 inb_S1024x2048_S256x64_768_1408 _ rfl, ?_⟩
  refine List.forall_mem_cons.2 ⟨piece3 x0 x1 x2 x3 x4 x5 x6 x7 XP BP DP CW CB DB AL D h0 h1 h2 h3 h4 h5 h6 h7 21 inb_S1024x2048_S256x64_768_1344 _ rfl, ?_⟩
  refine List.forall_mem_cons.2 ⟨piece3 x0 x1 x2 x3 x4 x5 x6 x7 XP BP DP CW CB DB AL D h0 h1 h2 h3 h4 h5 h6 h7 20 inb_S1024x2048_S256x64_768_1280 _ rfl, ?_⟩
  refine List.forall_mem_cons.2 ⟨piece3 x0 x1 x2 x3 x4 x5 x6 x7 XP BP DP CW CB DB AL D h0 h1 h2 h3 h4 h5 h6 h7 19 inb_S1024x2048_S256x64_768_1216 _ rfl, ?_⟩
  refine List.forall_mem_cons.2 ⟨piece3 x0 x1 x2 x3 x4 x5 x6 x7 XP BP DP CW CB DB AL D h0 h1 h2 h3 h4 h5 h6 h7 18 inb_S1024x2048_S256x64_768_1152 _ rfl, ?_⟩
  refine List.forall_mem_cons.2 ⟨piece3 x0 x1 x2 x3 x4 x5 x6 x7 XP BP DP CW CB DB AL D h0 h1 h2 h3 h4 h5 h6 h7 17 inb_S1024x2048_S256x64_768_1088 _ rfl, ?_⟩
  refine List.forall_mem_cons.2 ⟨piece3 x0 x1 x2 x3 x4 x5 x6 x7 XP BP DP CW CB DB AL D h0 h1 h2 h3 h4 h5 h6 h7 16 inb_S1024x2048_S256x64_768_1024 _ rfl, ?_⟩
  refine List.forall_mem_cons.2 ⟨piece3 x0 x1 x2 x3 x4 x5 x6 x7 XP BP DP CW CB DB AL D h0 h1 h2 h3 h4 h5 h6 h7 15 inb_S1024x2048_S256x64_768_960 _ rfl, ?_⟩
  refine List.forall_mem_cons.2 ⟨piece3 x0 x1 x2 x3 x4 x5 x6 x7 XP BP DP CW CB DB AL D h0 h1 h2 h3 h4 h5 h6 h7 14 inb_S1024x2048_S256x64_768_896 _ rfl, ?_⟩
  refine List.forall_mem_cons.2 ⟨piece3 x0 x1 x2 x3 x4 x5 x6 x7 XP BP DP CW CB DB AL D h0 h1 h2 h3 h4 h5 h6 h7 13 inb_S1024x2048_S256x64_768_832 _ rfl, ?_⟩
  refine List.forall_mem_cons.2 ⟨piece3 x0 x1 x2 x3 x4 x5 x6 x7 XP BP DP CW CB DB AL D h0 h1 h2 h3 h4 h5 h6 h7 12 inb_S1024x2048_S256x64_768_768 _ rfl, ?_⟩
  refine List.forall_mem_cons.2 ⟨piece3 x0 x1 x2 x3 x4 x5 x6 x7 XP BP DP CW CB DB AL D h0 h1 h2 h3 h4 h5 h6 h7 11 inb_S1024x2048_S256x64_768_704 _ rfl, ?_⟩
  refine List.forall_mem_cons.2 ⟨piece3 x0 x1 x2 x3 x4 x5 x6 x7 XP BP DP CW CB DB AL D h0 h1 h2 h3 h4 h5 h6 h7 10 inb_S1024x2048_S256x64_768_640 _ rfl, ?_⟩
  refine List.forall_mem_cons.2 ⟨piece3 x0 x1 x2 x3 x4 x5 x6 x7 XP BP DP CW CB DB AL D h0 h1 h2 h3 h4 h5 h6 h7 9 inb_S1024x2048_S256x64_768_576 _ rfl, ?_⟩
  refine List.forall_mem_cons.2 ⟨piece3 x0 x1 x2 x3 x4 x5 x6 x7 XP BP DP CW CB DB AL D h0 h1 h2 h3 h4 h5 h6 h7 8 inb_S1024x2048_S256x64_768_512 _ rfl, ?_⟩
  refine List.forall_mem_cons.2 ⟨piece3 x0 x1 x2 x3 x4 x5 x6 x7 XP BP DP CW CB DB AL D h0 h1 h2 h3 h4 h5 h6 h7 7 inb_S1024x2048_S256x64_768_448 _ rfl, ?_⟩
  refine List.forall_mem_cons.2 ⟨piece3 x0 x1 x2 x3 x4 x5 x6 x7 XP BP DP CW CB DB AL D h0 h1 h2 h3 h4 h5 h6 h7 6 inb_S1024x2048_S256x64_768_384 _ rfl, ?_⟩
  refine List.forall_mem_cons.2 ⟨piece3 x0 x1 x2 x3 x4 x5 x6 x7 XP BP DP CW CB DB AL D h0 h1 h2 h3 h4 h5 h6 h7 5 inb_S1024x2048_S256x64_768_320 _ rfl, ?_⟩
  refine List.forall_mem_cons.2 ⟨piece3 x0 x1 x2 x3 x4 x5 x6 x7 XP BP DP CW CB DB AL D h0 h1 h2 h3 h4 h5 h6 h7 4 inb_S1024x2048_S256x64_768_256 _ rfl, ?_⟩
  refine List.forall_mem_cons.2 ⟨piece3 x0 x1 x2 x3 x4 x5 x6 x7 XP BP DP CW CB DB AL D h0 h1 h2 h3 h4 h5 h6 h7 3 inb_S1024x2048_S256x64_768_192 _ rfl, ?_⟩
  refine List.forall_mem_cons.2 ⟨piece3 x0 x1 x2 x3 x4 x5 x6 x7 XP BP DP CW CB DB AL D h0 h1 h2 h3 h4 h5 h6 h7 2 inb_S1024x2048_S256x64_768_128 _ rfl, ?_⟩
  refine List.forall_mem_cons.2 ⟨piece3 x0 x1 x2 x3 x4 x5 x6 x7 XP BP DP CW CB DB AL D h0 h1 h2 h3 h4 h5 h6 h7 1 inb_S1024x2048_S256x64_768_64 _ rfl, ?_⟩
  refine List.forall_mem_cons.2 ⟨piece3 x0 x1 x2 x3 x4 x5 x6 x7 XP BP DP CW CB DB AL D h0 h1 h2 h3 h4 h5 h6 h7 0 inb_S1024x2048_S256x64_768_0 _ rfl, ?_⟩
  refine List.forall_mem_cons.2 ⟨piece2 x0 x1 x2 x3 x4 x5 x6 x7 XP BP DP CW CB DB AL D h0 h1 h2 h3 h4 h5 h6 h7 31 inb_S1024x2048_S256x64_512_1984 _ rfl, ?_⟩
  refine List.forall_mem_cons.2 ⟨piece2 x0 x1 x2 x3 x4 x5 x6 x7 XP BP DP CW CB DB AL D h0 h1 h2 h3 h4 h5 h6 h7 30 inb_S1024x2048_S256x64_512_1920 _ rfl, ?_⟩
  refine List.forall_mem_cons.2 ⟨piece2 x0 x1 x2 x3 x4 x5 x6 x7 XP BP DP CW CB DB AL D h0 h1 h2 h3 h4 h5 h6 h7 29 inb_S1024x2048_S256x64_512_1856 _ rfl, ?_⟩
  refine List.forall_mem_cons.2 ⟨piece2 x0 x1 x2 x3 x4 x5 x6 x7 XP BP DP CW CB DB AL D h0 h1 h2 h3 h4 h5 h6 h7 28 inb_S1024x2048_S256x64_512_1792 _ rfl, ?_⟩
  refine List.forall_mem_cons.2 ⟨piece2 x0 x1 x2 x3 x4 x5 x6 x7 XP BP DP CW CB DB AL D h0 h1 h2 h3 h4 h5 h6 h7 27 inb_S1024x2048_S256x64_512_1728 _ rfl, ?_⟩
  refine List.forall_mem_cons.2 ⟨piece2 x0 x1 x2 x3 x4 x5 x6 x7 XP BP DP CW CB DB AL D h0 h1 h2 h3 h4 h5 h6 h7 26 inb_S1024x2048_S256x64_512_1664 _ rfl, ?_⟩
  refine List.forall_mem_cons.2 ⟨piece2 x0 x1 x2 x3 x4 x5 x6 x7 XP BP DP CW CB DB AL D h0 h1 h2 h3 h4 h5 h6 h7 25 inb_S1024x2048_S256x64_512_1600 _ rfl, ?_⟩
  refine List.forall_mem_cons.2 ⟨piece2 x0 x1 x2 x3 x4 x5 x6 x7 XP BP DP CW CB DB AL D h0 h1 h2 h3 h4 h5 h6 h7 24 inb_S1024x2048_S256x64_512_1536 _ rfl, ?_⟩
  refine List.forall_mem_cons.2 ⟨piece2 x0 x1 x2 x3 x4 x5 x6 x7 XP BP DP CW CB DB AL D h0 h1 h2 h3 h4 h5 h6 h7 23 inb_S1024x2048_S256x64_512_1472 _ rfl, ?_⟩
  refine List.forall_mem_cons.2 ⟨piece2 x0 x1 x2 x3 x4 x5 x6 x7 XP BP DP CW CB DB AL D h0 h1 h2 h3 h4 h5 h6 h7 22 inb_S1024x2048_S256x64_512_1408 _ rfl, ?_⟩
  refine List.forall_mem_cons.2 ⟨piece2 x0 x1 x2 x3 x4 x5 x6 x7 XP BP DP CW CB DB AL D h0 h1 h2 h3 h4 h5 h6 h7 21 inb_S1024x2048_S256x64_512_1344 _ rfl, ?_⟩
  refine List.forall_mem_cons.2 ⟨piece2 x0 x1 x2 x3 x4 x5 x6 x7 XP BP DP CW CB DB AL D h0 h1 h2 h3 h4 h5 h6 h7 20 inb_S1024x2048_S256x64_512_1280 _ rfl, ?_⟩
  refine List.forall_mem_cons.2 ⟨piece2 x0 x1 x2 x3 x4 x5 x6 x7 XP BP DP CW CB DB AL D h0 h1 h2 h3 h4 h5 h6 h7 19 inb_S1024x2048_S256x64_512_1216 _ rfl, ?_⟩
  refine List.forall_mem_cons.2 ⟨piece2 x0 x1 x2 x3 x4 x5 x6 x7 XP BP DP CW CB DB AL D h0 h1 h2 h3 h4 h5 h6 h7 18 inb_S1024x2048_S256x64_512_1152 _ rfl, ?_⟩
  refine List.forall_mem_cons.2 ⟨piece2 x0 x1 x2 x3 x4 x5 x6 x7 XP BP DP CW CB DB AL D h0 h1 h2 h3 h4 h5 h6 h7 17 inb_S1024x2048_S256x64_512_1088 _ rfl, ?_⟩
  refine List.forall_mem_cons.2 ⟨piece2 x0 x1 x2 x3 x4 x5 x6 x7 XP BP DP CW CB DB AL D h0 h1 h2 h3 h4 h5 h6 h7 16 inb_S1024x2048_S256x64_512_1024 _ rfl, ?_⟩
  refine List.forall_mem_cons.2 ⟨piece2 x0 x1 x2 x3 x4 x5 x6 x7 XP BP DP CW CB DB AL D h0 h1 h2 h3 h4 h5 h6 h7 15 inb_S1024x2048_S256x64_512_960 _ rfl, ?_⟩
  refine List.forall_mem_cons.2 ⟨piece2 x0 x1 x2 x3 x4 x5 x6 x7 XP BP DP CW CB DB AL D h0 h1 h2 h3 h4 h5 h6 h7 14 inb_S1024x2048_S256x64_512_896 _ rfl, ?_⟩
  refine List.forall_mem_cons.2 ⟨piece2 x0 x1 x2 x3 x4 x5 x6 x7 XP BP DP CW CB DB AL D h0 h1 h2 h3 h4 h5 h6 h7 13 inb_S1024x2048_S256x64_512_832 _ rfl, ?_⟩
  refine List.forall_mem_cons.2 ⟨piece2 x0 x1 x2 x3 x4 x5 x6 x7 XP BP DP CW CB DB AL D h0 h1 h2 h3 h4 h5 h6 h7 12 inb_S1024x2048_S256x64_512_768 _ rfl, ?_⟩
  refine List.forall_mem_cons.2 ⟨piece2 x0 x1 x2 x3 x4 x5 x6 x7 XP BP DP CW CB DB AL D h0 h1 h2 h3 h4 h5 h6 h7 11 inb_S1024x2048_S256x64_512_704 _ rfl, ?_⟩
  refine List.forall_mem_cons.2 ⟨piece2 x0 x1 x2 x3 x4 x5 x6 x7 XP BP DP CW CB DB AL D h0 h1 h2 h3 h4 h5 h6 h7 10 inb_S1024x2048_S256x64_512_640 _ rfl, ?_⟩
  refine List.forall_mem_cons.2 ⟨piece2 x0 x1 x2 x3 x4 x5 x6 x7 XP BP DP CW CB DB AL D h0 h1 h2 h3 h4 h5 h6 h7 9 inb_S1024x2048_S256x64_512_576 _ rfl, ?_⟩
  refine List.forall_mem_cons.2 ⟨piece2 x0 x1 x2 x3 x4 x5 x6 x7 XP BP DP CW CB DB AL D h0 h1 h2 h3 h4 h5 h6 h7 8 inb_S1024x2048_S256x64_512_512 _ rfl, ?_⟩
  refine List.forall_mem_cons.2 ⟨piece2 x0 x1 x2 x3 x4 x5 x6 x7 XP BP DP CW CB DB AL D h0 h1 h2 h3 h4 h5 h6 h7 7 inb_S1024x2048_S256x64_512_448 _ rfl, ?_⟩
  refine List.forall_mem_cons.2 ⟨piece2 x0 x1 x2 x3 x4 x5 x6 x7 XP BP DP CW CB DB AL D h0 h1 h2 h3 h4 h5 h6 h7 6 inb_S1024x2048_S256x64_512_384 _ rfl, ?_⟩
  refine List.forall_mem_cons.2 ⟨piece2 x0 x1 x2 x3 x4 x5 x6 x7 XP BP DP CW CB DB AL D h0 h1 h2 h3 h4 h5 h6 h7 5 inb_S1024x2048_S256x64_512_320 _ rfl, ?_⟩
  refine List.forall_mem_cons.2 ⟨piece2 x0 x1 x2 x3 x4 x5 x6 x7 XP BP DP CW CB DB AL D h0 h1 h2 h3 h4 h5 h6 h7 4 inb_S1024x2048_S256x64_512_256 _ rfl, ?_⟩
  refine List.forall_mem_cons.2 ⟨piece2 x0 x1 x2 x3 x4 x5 x6 x7 XP BP DP CW CB DB AL D h0 h1 h2 h3 h4 h5 h6 h7 3 inb_S1024x2048_S256x64_512_192 _ rfl, ?_⟩
  refine List.forall_mem_cons.2 ⟨piece2 x0 x1 x2 x3 x4 x5 x6 x7 XP BP DP CW CB DB AL D h0 h1 h2 h3 h4 h5 h6 h7 2 inb_S1024x2048_S256x64_512_128 _ rfl, ?_⟩
  refine List.forall_mem_cons.2 ⟨piece2 x0 x1 x2 x3 x4 x5 x6 x7 XP BP DP CW CB DB AL D h0 h1 h2 h3 h4 h5 h6 h7 1 inb_S1024x2048_S256x64_512_64 _ rfl, ?_⟩
  refine List.forall_mem_cons.2 ⟨piece2 x0 x1 x2 x3 x4 x5 x6 x7 XP BP DP CW CB DB AL D h0 h1 h2 h3 h4 h5 h6 h7 0 inb_S1024x2048_S256x64_512_0 _ rfl, ?_⟩
  refine List.forall_mem_cons.2 ⟨piece1 x0 x1 x2 x3 x4 x5 x6 x7 XP BP DP CW CB DB AL D h0 h1 h2 h3 h4 h5 h6 h7 31 inb_S1024x2048_S256x64_256_1984 _ rfl, ?_⟩
  refine List.forall_mem_cons.2 ⟨piece1 x0 x1 x2 x3 x4 x5 x6 x7 XP BP DP CW CB DB AL D h0 h1 h2 h3 h4 h5 h6 h7 30 inb_S1024x2048_S256x64_256_1920 _ rfl, ?_⟩
  refine List.forall_mem_cons.2 ⟨piece1 x0 x1 x2 x3 x4 x5 x6 x7 XP BP DP CW CB DB AL D h0 h1 h2 h3 h4 h5 h6 h7 29 inb_S1024x2048_S256x64_256_1856 _ rfl, ?_⟩
  refine List.forall_mem_cons.2 ⟨piece1 x0 x1 x2 x3 x4 x5 x6 x7 XP BP DP CW CB DB AL D h0 h1 h2 h3 h4 h5 h6 h7 28 inb_S1024x2048_S256x64_256_1792 _ rfl, ?_⟩
  refine List.forall_mem_cons.2 ⟨piece1 x0 x1 x2 x3 x4 x5 x6 x7 XP BP DP CW CB DB AL D h0 h1 h2 h3 h4 h5 h6 h7 27 inb_S1024x2048_S256x64_256_1728 _ rfl, ?_⟩
  refine List.forall_mem_cons.2 ⟨piece1 x0 x1 x2 x3 x4 x5 x6 x7 XP BP DP CW CB DB AL D h0 h1 h2 h3 h4 h5 h6 h7 26 inb_S1024x2048_S256x64_256_1664 _ rfl, ?_⟩
  refine List.forall_mem_cons.2 ⟨piece1 x0 x1 x2 x3 x4 x5 x6 x7 XP BP DP CW CB DB AL D h0 h1 h2 h3 h4 h5 h6 h7 25 inb_S1024x2048_S256x64_256_1600 _ rfl, ?_⟩
  refine List.forall_mem_cons.2 ⟨piece1 x0 x1 x2 x3 x4 x5 x6 x7 XP BP DP CW CB DB AL D h0 h1 h2 h3 h4 h5 h6 h7 24 inb_S1024x2048_S256x64_256_1536 _ rfl, ?_⟩
  refine List.forall_mem_cons.2 ⟨piece1 x0 x1 x2 x3 x4 x5 x6 x7 XP BP DP CW CB DB AL D h0 h1 h2 h3 h4 h5 h6 h7 23 inb_S1024x2048_S256x64_256_1472 _ rfl, ?_⟩
  refine List.forall_mem_cons.2 ⟨piece1 x0 x1 x2 x3 x4 x5 x6 x7 XP BP DP CW CB DB AL D h0 h1 h2 h3 h4 h5 h6 h7 22 inb_S1024x2048_S256x64_256_1408 _ rfl, ?_⟩
  refine List.forall_mem_cons.2 ⟨piece1 x0 x1 x2 x3 x4 x5 x6 x7 XP BP DP CW CB DB AL D h0 h1 h2 h3 h4 h5 h6 h7 21 inb_S1024x2048_S256x64_256_1344 _ rfl, ?_⟩
  refine List.forall_mem_cons.2 ⟨piece1 x0 x1 x2 x3 x4 x5 x6 x7 XP BP DP CW CB DB AL D h0 h1 h2 h3 h4 h5 h6 h7 20 inb_S1024x2048_S256x64_256_1280 _ rfl, ?_⟩
  refine List.forall_mem_cons.2 ⟨piece1 x0 x1 x2 x3 x4 x5 x6 x7 XP BP DP CW CB DB AL D h0 h1 h2 h3 h4 h5 h6 h7 19 inb_S1024x2048_S256x64_256_1216 _ rfl, ?_⟩
  refine List.forall_mem_cons.2 ⟨piece1 x0 x1 x2 x3 x4 x5 x6 x7 XP BP DP CW CB DB AL D h0 h1 h2 h3 h4 h5 h6 h7 18 inb_S1024x2048_S256x64_256_1152 _ rfl, ?_⟩
  refine List.forall_mem_cons.2 ⟨piece1 x0 x1 x2 x3 x4 x5 x6 x7 XP BP DP CW CB DB AL D h0 h1 h2 h3 h4 h5 h6 h7 17 inb_S1024x2048_S256x64_256_1088 _ rfl, ?_⟩
  refine List.forall_mem_cons.2 ⟨piece1 x0 x1 x2 x3 x4 x5 x6 x7 XP BP DP CW CB DB AL D h0 h1 h2 h3 h4 h5 h6 h7 16 inb_S1024x2048_S256x64_256_1024 _ rfl, ?_⟩
  refine List.forall_mem_cons.2 ⟨piece1 x0 x1 x2 x3 x4 x5 x6 x7 XP BP DP CW CB DB AL D h0 h1 h2 h3 h4 h5 h6 h7 15 inb_S1024x2048_S256x64_256_960 _ rfl, ?_⟩
  refine List.forall_mem_cons.2 ⟨piece1 x0 x1 x2 x3 x4 x5 x6 x7 XP BP DP CW CB DB AL D h0 h1 h2 h3 h4 h5 h6 h7 14 inb_S1024x2048_S256x64_256_896 _ rfl, ?_⟩
  refine List.forall_mem_cons.2 ⟨piece1 x0 x1 x2 x3 x4 x5 x6 x7 XP BP DP CW CB DB AL D h0 h1 h2 h3 h4 h5 h6 h7 13 inb_S1024x2048_S256x64_256_832 _ rfl, ?_⟩
  refine List.forall_mem_cons.2 ⟨piece1 x0 x1 x2 x3 x4 x5 x6 x7 XP BP DP CW CB DB AL D h0 h1 h2 h3 h4 h5 h6 h7 12 inb_S1024x2048_S256x64_256_768 _ rfl, ?_⟩
  refine List.forall_mem_cons.2 ⟨piece1 x0 x1 x2 x3 x4 x5 x6 x7 XP BP DP CW CB DB AL D h0 h1 h2 h3 h4 h5 h6 h7 11 inb_S1024x2048_S256x64_256_704 _ rfl, ?_⟩
  refine List.forall_mem_cons.2 ⟨piece1 x0 x1 x2 x3 x4 x5 x6 x7 XP BP DP CW CB DB AL D h0 h1 h2 h3 h4 h5 h6 h7 10 inb_S1024x2048_S256x64_256_640 _ rfl, ?_⟩
  refine List.forall_mem_cons.2 ⟨piece1 x0 x1 x2 x3 x4 x5 x6 x7 XP BP DP CW CB DB AL D h0 h1 h2 h3 h4 h5 h6 h7 9 inb_S1024x2048_S256x64_256_576 _ rfl, ?_⟩
  refine List.forall_mem_cons.2 ⟨piece1 x0 x1 x2 x3 x4 x5 x6 x7 XP BP DP CW CB DB AL D h0 h1 h2 h3 h4 h5 h6 h7 8 inb_S1024x2048_S256x64_256_512 _ rfl, ?_⟩
  refine List.forall_mem_cons.2 ⟨piece1 x0 x1 x2 x3 x4 x5 x6 x7 XP BP DP CW CB DB AL D h0 h1 h2 h3 h4 h5 h6 h7 7 inb_S1024x2048_S256x64_256_448 _ rfl, ?_⟩
  refine List.forall_mem_cons.2 ⟨piece1 x0 x1 x2 x3 x4 x5 x6 x7 XP BP DP CW CB DB AL D h0 h1 h2 h3 h4 h5 h6 h7 6 inb_S1024x2048_S256x64_256_384 _ rfl, ?_⟩
  refine List.forall_mem_cons.2 ⟨piece1 x0 x1 x2 x3 x4 x5 x6 x7 XP BP DP CW CB DB AL D h0 h1 h2 h3 h4 h5 h6 h7 5 inb_S1024x2048_S256x64_256_320 _ rfl, ?_⟩
  refine List.forall_mem_cons.2 ⟨piece1 x0 x1 x2 x3 x4 x5 x6 x7 XP BP DP CW CB DB AL D h0 h1 h2 h3 h4 h5 h6 h7 4 inb_S1024x2048_S256x64_256_256 _ rfl, ?_⟩
  refine List.forall_mem_cons.2 ⟨piece1 x0 x1 x2 x3 x4 x5 x6 x7 XP BP DP CW CB DB AL D h0 h1 h2 h3 h4 h5 h6 h7 3 inb_S1024x2048_S256x64_256_192 _ rfl, ?_⟩
  refine List.forall_mem_cons.2 ⟨piece1 x0 x1 x2 x3 x4 x5 x6 x7 XP BP DP CW CB DB AL D h0 h1 h2 h3 h4 h5 h6 h7 2 inb_S1024x2048_S256x64_256_128 _ rfl, ?_⟩
  refine List.forall_mem_cons.2 ⟨piece1 x0 x1 x2 x3 x4 x5 x6 x7 XP BP DP CW CB DB AL D h0 h1 h2 h3 h4 h5 h6 h7 1 inb_S1024x2048_S256x64_256_64 _ rfl, ?_⟩
  refine List.forall_mem_cons.2 ⟨piece1 x0 x1 x2 x3 x4 x5 x6 x7 XP BP DP CW CB DB AL D h0 h1 h2 h3 h4 h5 h6 h7 0 inb_S1024x2048_S256x64_256_0 _ rfl, ?_⟩
  refine List.forall_mem_cons.2 ⟨piece0 x0 x1 x2 x3 x4 x5 x6 x7 XP BP DP CW CB DB AL D h0 h1 h2 h3 h4 h5 h6 h7 31 inb_S1024x2048_S256x64_0_1984 _ rfl, ?_⟩
  refine List.forall_mem_cons.2 ⟨piece0 x0 x1 x2 x3 x4 x5 x6 x7 XP BP DP CW CB DB AL D h0 h1 h2 h3 h4 h5 h6 h7 30 inb_S1024x2048_S256x64_0_1920 _ rfl, ?_⟩
  refine List.forall_mem_cons.2 ⟨piece0 x0 x1 x2 x3 x4 x5 x6 x7 XP BP DP CW CB DB AL D h0 h1 h2 h3 h4 h5 h6 h7 29 inb_S1024x2048_S256x64_0_1856 _ rfl, ?_⟩
  refine List.forall_mem_cons.2 ⟨piece0 x0 x1 x2 x3 x4 x5 x6 x7 XP BP DP CW CB DB AL D h0 h1 h2 h3 h4 h5 h6 h7 28 inb_S1024x2048_S256x64_0_1792 _ rfl, ?_⟩
  refine List.forall_mem_cons.2 ⟨piece0 x0 x1 x2 x3 x4 x5 x6 x7 XP BP DP CW CB DB AL D h0 h1 h2 h3 h4 h5 h6 h7 27 inb_S1024x2048_S256x64_0_1728 _ rfl, ?_⟩
  refine List.forall_mem_cons.2 ⟨piece0 x0 x1 x2 x3 x4 x5 x6 x7 XP BP DP CW CB DB AL D h0 h1 h2 h3 h4 h5 h6 h7 26 inb_S1024x2048_S256x64_0_1664 _ rfl, ?_⟩
  refine List.forall_mem_cons.2 ⟨piece0 x0 x1 x2 x3 x4 x5 x6 x7 XP BP DP CW CB DB AL D h0 h1 h2 h3 h4 h5 h6 h7 25 inb_S1024x2048_S256x64_0_1600 _ rfl, ?_⟩
  refine List.forall_mem_cons.2 ⟨piece0 x0 x1 x2 x3 x4 x5 x6 x7 XP BP DP CW CB DB AL D h0 h1 h2 h3 h4 h5 h6 h7 24 inb_S1024x2048_S256x64_0_1536 _ rfl, ?_⟩
  refine List.forall_mem_cons.2 ⟨piece0 x0 x1 x2 x3 x4 x5 x6 x7 XP BP DP CW CB DB AL D h0 h1 h2 h3 h4 h5 h6 h7 23 inb_S1024x2048_S256x64_0_1472 _ rfl, ?_⟩
  refine List.forall_mem_cons.2 ⟨piece0 x0 x1 x2 x3 x4 x5 x6 x7 XP BP DP CW CB DB AL D h0 h1 h2 h3 h4 h5 h6 h7 22 inb_S1024x2048_S256x64_0_1408 _ rfl, ?_⟩
  refine List.forall_mem_cons.2 ⟨piece0 x0 x1 x2 x3 x4 x5 x6 x7 XP BP DP CW CB DB AL D h0 h1 h2 h3 h4 h5 h6 h7 21 inb_S1024x2048_S256x64_0_1344 _ rfl, ?_⟩
  refine List.forall_mem_cons.2 ⟨piece0 x0 x1 x2 x3 x4 x5 x6 x7 XP BP DP CW CB DB AL D h0 h1 h2 h3 h4 h5 h6 h7 20 inb_S1024x2048_S256x64_0_1280 _ rfl, ?_⟩
  refine List.forall_mem_cons.2 ⟨piece0 x0 x1 x2 x3 x4 x5 x6 x7 XP BP DP CW CB DB AL D h0 h1 h2 h3 h4 h5 h6 h7 19 inb_S1024x2048_S256x64_0_1216 _ rfl, ?_⟩
  refine List.forall_mem_cons.2 ⟨piece0 x0 x1 x2 x3 x4 x5 x6 x7 XP BP DP CW CB DB AL D h0 h1 h2 h3 h4 h5 h6 h7 18 inb_S1024x2048_S256x64_0_1152 _ rfl, ?_⟩
  refine List.forall_mem_cons.2 ⟨piece0 x0 x1 x2 x3 x4 x5 x6 x7 XP BP DP CW CB DB AL D h0 h1 h2 h3 h4 h5 h6 h7 17 inb_S1024x2048_S256x64_0_1088 _ rfl, ?_⟩
  refine List.forall_mem_cons.2 ⟨piece0 x0 x1 x2 x3 x4 x5 x6 x7 XP BP DP CW CB DB AL D h0 h1 h2 h3 h4 h5 h6 h7 16 inb_S1024x2048_S256x64_0_1024 _ rfl, ?_⟩
  refine List.forall_mem_cons.2 ⟨piece0 x0 x1 x2 x3 x4 x5 x6 x7 XP BP DP CW CB DB AL D h0 h1 h2 h3 h4 h5 h6 h7 15 inb_S1024x2048_S256x64_0_960 _ rfl, ?_⟩
  refine List.forall_mem_cons.2 ⟨piece0 x0 x1 x2 x3 x4 x5 x6 x7 XP BP DP CW CB DB AL D h0 h1 h2 h3 h4 h5 h6 h7 14 inb_S1024x2048_S256x64_0_896 _ rfl, ?_⟩
  refine List.forall_mem_cons.2 ⟨piece0 x0 x1 x2 x3 x4 x5 x6 x7 XP BP DP CW CB DB AL D h0 h1 h2 h3 h4 h5 h6 h7 13 inb_S1024x2048_S256x64_0_832 _ rfl, ?_⟩
  refine List.forall_mem_cons.2 ⟨piece0 x0 x1 x2 x3 x4 x5 x6 x7 XP BP DP CW CB DB AL D h0 h1 h2 h3 h4 h5 h6 h7 12 inb_S1024x2048_S256x64_0_768 _ rfl, ?_⟩
  refine List.forall_mem_cons.2 ⟨piece0 x0 x1 x2 x3 x4 x5 x6 x7 XP BP DP CW CB DB AL D h0 h1 h2 h3 h4 h5 h6 h7 11 inb_S1024x2048_S256x64_0_704 _ rfl, ?_⟩
  refine List.forall_mem_cons.2 ⟨piece0 x0 x1 x2 x3 x4 x5 x6 x7 XP BP DP CW CB DB AL D h0 h1 h2 h3 h4 h5 h6 h7 10 inb_S1024x2048_S256x64_0_640 _ rfl, ?_⟩
  refine List.forall_mem_cons.2 ⟨piece0 x0 x1 x2 x3 x4 x5 x6 x7 XP BP DP CW CB DB AL D h0 h1 h2 h3 h4 h5 h6 h7 9 inb_S1024x2048_S256x64_0_576 _ rfl, ?_⟩
  refine List.forall_mem_cons.2 ⟨piece0 x0 x1 x2 x3 x4 x5 x6 x7 XP BP DP CW CB DB AL D h0 h1 h2 h3 h4 h5 h6 h7 8 inb_S1024x2048_S256x64_0_512 _ rfl, ?_⟩
  refine List.forall_mem_cons.2 ⟨piece0 x0 x1 x2 x3 x4 x5 x6 x7 XP BP DP CW CB DB AL D h0 h1 h2 h3 h4 h5 h6 h7 7 inb_S1024x2048_S256x64_0_448 _ rfl, ?_⟩
  refine List.forall_mem_cons.2 ⟨piece0 x0 x1 x2 x3 x4 x5 x6 x7 XP BP DP CW CB DB AL D h0 h1 h2 h3 h4 h5 h6 h7 6 inb_S1024x2048_S256x64_0_384 _ rfl, ?_⟩
  refine List.forall_mem_cons.2 ⟨piece0 x0 x1 x2 x3 x4 x5 x6 x7 XP BP DP CW CB DB AL D h0 h1 h2 h3 h4 h5 h6 h7 5 inb_S1024x2048_S256x64_0_320 _ rfl, ?_⟩
  refine List.forall_mem_cons.2 ⟨piece0 x0 x1 x2 x3 x4 x5 x6 x7 XP BP DP CW CB DB AL D h0 h1 h2 h3 h4 h5 h6 h7 4 inb_S1024x2048_S256x64_0_256 _ rfl, ?_⟩
  refine List.forall_mem_cons.2 ⟨piece0 x0 x1 x2 x3 x4 x5 x6 x7 XP BP DP CW CB DB AL D h0 h1 h2 h3 h4 h5 h6 h7 3 inb_S1024x2048_S256x64_0_192 _ rfl, ?_⟩
  refine List.forall_mem_cons.2 ⟨piece0 x0 x1 x2 x3 x4 x5 x6 x7 XP BP DP CW CB DB AL D h0 h1 h2 h3 h4 h5 h6 h7 2 inb_S1024x2048_S256x64_0_128 _ rfl, ?_⟩
  refine List.forall_mem_cons.2 ⟨piece0 x0 x1 x2 x3 x4 x5 x6 x7 XP BP DP CW CB DB AL D h0 h1 h2 h3 h4 h5 h6 h7 1 inb_S1024x2048_S256x64_0_64 _ rfl, ?_⟩
  refine List.forall_mem_cons.2 ⟨piece0 x0 x1 x2 x3 x4 x5 x6 x7 XP BP DP CW CB DB AL D h0 h1 h2 h3 h4 h5 h6 h7 0 inb_S1024x2048_S256x64_0_0 _ rfl, ?_⟩
  exact List.forall_mem_nil _
end

variable (V : (c : Dev nD) → (b : Ref sig .tc) → Buf (Elt Ideal) ((c : Thread nD τ).loc b)) (c : Dev nD)

theorem index1_0 : ∀ t : Fin cfg1.N, win1_0.index t = ![0, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![0, 0] := (by decide +kernel : ∀ t : Fin grid1.N, _)
theorem index1_7 : ∀ t : Fin cfg1.N, win1_7.index t = ![0, 0] := (by decide +kernel : ∀ t : Fin grid1.N, _)
theorem index1_8 : ∀ t : Fin cfg1.N, win1_8.index t = ![0, 0] := (by decide +kernel : ∀ t : Fin grid1.N, _)

theorem blk1_0 (t : Fin cfg1.N) (i : Fin 1024) (k : Fin 2048) :
    iblk1 V c 0 t (ix2 i k) = V c (Pipeline.arrRef spec1 0) (ix2 i k) := by
  blk_ext [iblk1, index1_0]

theorem blk1_1 (t : Fin cfg1.N) (i : Fin 1024) (k : Fin 256) :
    iblk1 V c 1 t (ix2 i k) = V c (Pipeline.arrRef spec1 1) (ix2 i k) := by
  blk_ext [iblk1, index1_1]

theorem blk1_2 (t : Fin cfg1.N) (i : Fin 1024) (k : Fin 32) :
    iblk1 V c 2 t (ix2 i k) = V c (Pipeline.arrRef spec1 2) (ix2 i k) := by
  blk_ext [iblk1, index1_2]

theorem blk1_3 (t : Fin cfg1.N) (i : Fin 4) (k : Fin 2304) :
    iblk1 V c 3 t (ix2 i k) = V c (Pipeline.arrRef spec1 3) (ix2 i k) := by
  blk_ext [iblk1, index1_3]

theorem blk1_4 (t : Fin cfg1.N) (k : Fin 2304) :
    iblk1 V c 4 t (ix2 0 k) = V c (Pipeline.arrRef spec1 4) (ix2 0 k) := by
  blk_ext [iblk1, index1_4]

theorem blk1_5 (t : Fin cfg1.N) (k : Fin 32) :
    iblk1 V c 5 t (ix2 0 k) = V c (Pipeline.arrRef spec1 5) (ix2 0 k) := by
  blk_ext [iblk1, index1_5]

theorem blk1_6 (t : Fin cfg1.N) (k : Fin 32) :
    iblk1 V c 6 t (ix2 0 k) = V c (Pipeline.arrRef spec1 6) (ix2 0 k) := by
  blk_ext [iblk1, index1_6]

theorem blk1_7 (t : Fin cfg1.N) (k : Fin 32) :
    iblk1 V c 7 t (ix2 0 k) = V c (Pipeline.arrRef spec1 7) (ix2 0 k) := by
  blk_ext [iblk1, index1_7]

set_option maxHeartbeats 1000000 in
theorem r1_y
  (XP : Fin 1024 → Fin 2048 → ℝ) (BP : Fin 1024 → Fin 256 → ℝ) (DP : Fin 1024 → Fin 32 → ℝ)
  (CW : Fin 4 → Fin 2304 → ℝ) (CB : Fin 2304 → ℝ) (DB AL D : Fin 32 → ℝ)
  (h0 : ∀ t e, V c (Pipeline.arrRef spec1 0) (ix2 t e) = ((XP t e : ℝ) : EReal)) (h1 : ∀ t e, V c (Pipeline.arrRef spec1 1) (ix2 t e) = ((BP t e : ℝ) : EReal))
  (h2 : ∀ t h, V c (Pipeline.arrRef spec1 2) (ix2 t h) = ((DP t h : ℝ) : EReal)) (h3 : ∀ j e, V c (Pipeline.arrRef spec1 3) (ix2 j e) = ((CW j e : ℝ) : EReal))
  (h4 : ∀ e, V c (Pipeline.arrRef spec1 4) (ix2 0 e) = ((CB e : ℝ) : EReal)) (h5 : ∀ h, V c (Pipeline.arrRef spec1 5) (ix2 0 h) = ((DB h : ℝ) : EReal))
  (h6 : ∀ h, V c (Pipeline.arrRef spec1 6) (ix2 0 h) = ((AL h : ℝ) : EReal)) (h7 : ∀ h, V c (Pipeline.arrRef spec1 7) (ix2 0 h) = ((D h : ℝ) : EReal))
  (i : Fin 1024) (e : Fin 2048) :
    (dat1 V c).arrAt 8 cfg1.N (ix2 i e)
      = ((scanOut (xcM XP CW CB) (bcM BP CW CB) (dtm DP DB) (daM DP DB AL) D i e : ℝ) : EReal) := by
  refine (dat1 V c).arrAt_forall_of_covers 8 (fun j v => ∀ (i : Fin 1024) (e : Fin 2048), j = ix2 i e →
      v = ((scanOut (xcM XP CW CB) (bcM BP CW CB) (dtm DP DB) (daM DP DB AL) D i e : ℝ) : EReal)) (by decide +kernel)
    (fun t hf y => ?_) (ix2 i e) (Memref.isWhole_whole _) i e rfl
  intro i e hj
  have h0' := congrArg Fin.val (congrFun hj 0)
  have h1' := congrArg Fin.val (congrFun hj 1)
  blk_simp at h0'
  blk_simp at h1'
  blk_simp
  rw [after1_8]
  obtain ⟨i', e', rfl⟩ : ∃ (i' : Fin 1024) (e' : Fin 2048), y = ix2 i' e' := ⟨y 0, y 1, eq_ix2 y⟩
  rw [index1_8] at h0' h1'
  have e0 : i' = i := Fin.ext (by simpa using h0')
  have e1 : e' = e := Fin.ext (by simpa using h1')
  subst e0 e1
  exact out1_8_real _ _ _ _ _ _ _ _ XP BP DP CW CB DB AL D
    (fun i k => (blk1_0 V c t i k).trans (h0 i k)) (fun i k => (blk1_1 V c t i k).trans (h1 i k))
    (fun i k => (blk1_2 V c t i k).trans (h2 i k)) (fun i k => (blk1_3 V c t i k).trans (h3 i k))
    (fun k => (blk1_4 V c t k).trans (h4 k)) (fun k => (blk1_5 V c t k).trans (h5 k))
    (fun k => (blk1_6 V c t k).trans (h6 k)) (fun k => (blk1_7 V c t k).trans (h7 k)) i' e'

end Cert.Proof

end
-- ==== Proof.KChain.lean ====
/-
  The kernel's run: every buffer at its end, and the result array on real arguments.
-/
module

public import proofs.«01_k».proof.Proof.Block
public import proofs.«01_k».proof.Proof.KIn
public import proofs.«01_k».proof.Proof.KKv
public import proofs.«01_k».proof.Proof.KAttn
public import proofs.«01_k».proof.Proof.KScan
public import proofs.«01_k».proof.Proof.Gen.KernelIdeal.Frame
public import Idealize.ShloMosaic.Lib.Pipeline.ValueKit

@[expose] public section

set_option maxRecDepth 16384

noncomputable section

namespace Cert.Proof

open Idealize.ShloMosaic Cert.KernelIdeal Cert.KernelIdeal.Gen
open Idealize.ShloMosaic.TcCoe
open scoped BigOperators

variable (m : (ℓ : Loc nD τ sig) → Buf (Elt Ideal) ℓ) (ρ : Dev nD → PrngReg) (c : Dev nD)

/-! ## What the host operations leave -/

theorem w1_v0 (i : Fin 1024) (k : Fin 1024) :
    W1 m ρ c (Proc.devRef .tc main_call0_v0) (ix2 i k) = m ((c : Thread nD τ).loc main_arg0) (ix3 0 i k) := by
  have e : W1 m ρ c (Proc.devRef .tc main_call0_v0) = shapeCast S1024x1024 (W0 m ρ c (Proc.devRef .tc main_arg0)) shapeCasts_S1x1024x1024_S1024x1024 := by
    after_results
    rfl
  rw [e, W0_args m ρ c main_arg0 (by decide)]
  pointwise

theorem w1_v1 (i : Fin 2048) (k : Fin 1024) :
    W1 m ρ c (Proc.devRef .tc main_call0_v1) (ix2 i k) = m ((c : Thread nD τ).loc main_arg1) (ix3 0 i k) := by
  have e : W1 m ρ c (Proc.devRef .tc main_call0_v1) = shapeCast S2048x1024 (W0 m ρ c (Proc.devRef .tc main_arg1)) shapeCasts_S1x2048x1024_S2048x1024 := by
    after_results
    rfl
  rw [e, W0_args m ρ c main_arg1 (by decide)]
  pointwise

theorem w1_v2 (e : Fin 4384) (k : Fin 1024) :
    W1 m ρ c (Proc.devRef .tc main_call0_v2) (ix2 e k) = m ((c : Thread nD τ).loc main_arg4) (ix2 k e) := by
  have e : W1 m ρ c (Proc.devRef .tc main_call0_v2) = transpose S4384x1024 [1, 0] (W0 m ρ c (Proc.devRef .tc main_arg4)) transposes_S1024x4384_S4384x1024_1_0 := by
    after_results
    rfl
  rw [e, W0_args m ρ c main_arg4 (by decide)]
  pointwise

theorem w1_v3 (k : Fin 1024) :
    W1 m ρ c (Proc.devRef .tc main_call0_v3) (ix2 0 k) = m ((c : Thread nD τ).loc main_arg3) (ix1 k) := by
  have e : W1 m ρ c (Proc.devRef .tc main_call0_v3) = shapeCast S1x1024 (W0 m ρ c (Proc.devRef .tc main_arg3)) shapeCasts_S1024_S1x1024 := by
    after_results
    rfl
  rw [e, W0_args m ρ c main_arg3 (by decide)]
  pointwise

theorem w3_v5 (j : Fin 4) (e : Fin 2304) :
    W3 m ρ c (Proc.devRef .tc main_call0_v5) (ix2 j e) = m ((c : Thread nD τ).loc main_arg5) (ix2 e j) := by
  have e : W3 m ρ c (Proc.devRef .tc main_call0_v5) = transpose S4x2304 [1, 0] (W2 m ρ c (Proc.devRef .tc main_arg5)) transposes_S2304x4_S4x2304_1_0 := by
    after_results
    rfl
  rw [e, W2_args m ρ c main_arg5 (by decide)]
  pointwise

theorem w3_v6 (k : Fin 2304) :
    W3 m ρ c (Proc.devRef .tc main_call0_v6) (ix2 0 k) = m ((c : Thread nD τ).loc main_arg6) (ix1 k) := by
  have e : W3 m ρ c (Proc.devRef .tc main_call0_v6) = shapeCast S1x2304 (W2 m ρ c (Proc.devRef .tc main_arg6)) shapeCasts_S2304_S1x2304 := by
    after_results
    rfl
  rw [e, W2_args m ρ c main_arg6 (by decide)]
  pointwise

theorem w3_v7 (k : Fin 32) :
    W3 m ρ c (Proc.devRef .tc main_call0_v7) (ix2 0 k) = m ((c : Thread nD τ).loc main_arg7) (ix1 k) := by
  have e : W3 m ρ c (Proc.devRef .tc main_call0_v7) = shapeCast S1x32 (W2 m ρ c (Proc.devRef .tc main_arg7)) shapeCasts_S32_S1x32 := by
    after_results
    rfl
  rw [e, W2_args m ρ c main_arg7 (by decide)]
  pointwise

theorem w3_v8 (k : Fin 32) :
    W3 m ρ c (Proc.devRef .tc main_call0_v8) (ix2 0 k) = m ((c : Thread nD τ).loc main_arg8) (ix1 k) := by
  have e : W3 m ρ c (Proc.devRef .tc main_call0_v8) = shapeCast S1x32 (W2 m ρ c (Proc.devRef .tc main_arg8)) shapeCasts_S32_S1x32 := by
    after_results
    rfl
  rw [e, W2_args m ρ c main_arg8 (by decide)]
  pointwise

theorem w3_v9 (k : Fin 32) :
    W3 m ρ c (Proc.devRef .tc main_call0_v9) (ix2 0 k) = m ((c : Thread nD τ).loc main_arg9) (ix1 k) := by
  have e : W3 m ρ c (Proc.devRef .tc main_call0_v9) = shapeCast S1x32 (W2 m ρ c (Proc.devRef .tc main_arg9)) shapeCasts_S32_S1x32 := by
    after_results
    rfl
  rw [e, W2_args m ρ c main_arg9 (by decide)]
  pointwise

theorem w6_v12 (k : Fin 2048) :
    W6 m ρ c (Proc.devRef .tc main_call0_v12) (ix2 0 k) = m ((c : Thread nD τ).loc main_arg10) (ix1 k) := by
  have e : W6 m ρ c (Proc.devRef .tc main_call0_v12) = shapeCast S1x2048 (W5 m ρ c (Proc.devRef .tc main_arg10)) shapeCasts_S2048_S1x2048 := by
    after_results
    rfl
  rw [e, W5_args m ρ c main_arg10 (by decide)]
  pointwise

theorem w6_v13 (k : Fin 1024) :
    W6 m ρ c (Proc.devRef .tc main_call0_v13) (ix2 0 k) = m ((c : Thread nD τ).loc main_arg12) (ix1 k) := by
  have e : W6 m ρ c (Proc.devRef .tc main_call0_v13) = shapeCast S1x1024 (W5 m ρ c (Proc.devRef .tc main_arg12)) shapeCasts_S1024_S1x1024 := by
    after_results
    rfl
  rw [e, W5_args m ρ c main_arg12 (by decide)]
  pointwise

theorem w6_v14 (k : Fin 1024) :
    W6 m ρ c (Proc.devRef .tc main_call0_v14) (ix2 0 k) = m ((c : Thread nD τ).loc main_arg13) (ix1 k) := by
  have e : W6 m ρ c (Proc.devRef .tc main_call0_v14) = shapeCast S1x1024 (W5 m ρ c (Proc.devRef .tc main_arg13)) shapeCasts_S1024_S1x1024 := by
    after_results
    rfl
  rw [e, W5_args m ρ c main_arg13 (by decide)]
  pointwise

theorem w8_v0 (i : Fin 1024) (j : Fin 1024) :
    W8 m ρ c (Proc.devRef .tc main_v0) (ix3 0 i j) = (dat3 (V6 m ρ) c).arrAt 11 cfg3.N (ix2 i j) := by
  have e : W8 m ρ c (Proc.devRef .tc main_v0)
      = shapeCast S1x1024x1024 (W7 m ρ c (Proc.devRef .tc main_call0_v15)) shapeCasts_S1024x1024_S1x1024x1024 := by
    after_results
    rfl
  rw [e, show W7 m ρ c (Proc.devRef .tc main_call0_v15) = _ from W7_arr m ρ c 11]
  pointwise

/-! ## The calls in turn -/

section
variable (I : Inp)
  (H : IsReal I (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)))
include H

theorem w2_z (i : Fin 1024) (e : Fin 2048) :
    W2 m ρ c (Proc.devRef .tc main_call0_v4_0) (ix2 i e) = ((I.z i e : ℝ) : EReal) :=
  (congrFun (W2_arr m ρ c 3) _).trans (r0_z (V1 m ρ) c I.x I.nw (fun e k => I.wi k e)
    (fun i k => (w1_v0 m ρ c i k).trans (H.x i k)) (fun e k => (w1_v2 m ρ c e k).trans (H.wi k e))
    (fun k => (w1_v3 m ρ c k).trans (H.nw k)) i e)

theorem w2_xp (i : Fin 1024) (e : Fin 2048) :
    W2 m ρ c (Proc.devRef .tc main_call0_v4_1) (ix2 i e) = ((I.xp i e : ℝ) : EReal) :=
  (congrFun (W2_arr m ρ c 4) _).trans (r0_x (V1 m ρ) c I.x I.nw (fun e k => I.wi k e)
    (fun i k => (w1_v0 m ρ c i k).trans (H.x i k)) (fun e k => (w1_v2 m ρ c e k).trans (H.wi k e))
    (fun k => (w1_v3 m ρ c k).trans (H.nw k)) i e)

theorem w2_bp (i : Fin 1024) (e : Fin 256) :
    W2 m ρ c (Proc.devRef .tc main_call0_v4_2) (ix2 i e) = ((I.bp i e : ℝ) : EReal) :=
  (congrFun (W2_arr m ρ c 5) _).trans (r0_bc (V1 m ρ) c I.x I.nw (fun e k => I.wi k e)
    (fun i k => (w1_v0 m ρ c i k).trans (H.x i k)) (fun e k => (w1_v2 m ρ c e k).trans (H.wi k e))
    (fun k => (w1_v3 m ρ c k).trans (H.nw k)) i e)

theorem w2_dp (i : Fin 1024) (e : Fin 32) :
    W2 m ρ c (Proc.devRef .tc main_call0_v4_3) (ix2 i e) = ((I.dp i e : ℝ) : EReal) :=
  (congrFun (W2_arr m ρ c 6) _).trans (r0_dt (V1 m ρ) c I.x I.nw (fun e k => I.wi k e)
    (fun i k => (w1_v0 m ρ c i k).trans (H.x i k)) (fun e k => (w1_v2 m ρ c e k).trans (H.wi k e))
    (fun k => (w1_v3 m ρ c k).trans (H.nw k)) i e)

theorem w4_y (i : Fin 1024) (e : Fin 2048) :
    W4 m ρ c (Proc.devRef .tc main_call0_v10) (ix2 i e) = ((I.y i e : ℝ) : EReal) :=
  (congrFun (W4_arr m ρ c 8) _).trans (r1_y (V3 m ρ) c I.xp I.bp I.dp (fun j e => I.cw e j) I.cb I.db I.al I.dd
    (fun i k => (congrFun (W3_of m ρ c main_call0_v4_1 (by decide)) _).trans (w2_xp m ρ c I H i k))
    (fun i k => (congrFun (W3_of m ρ c main_call0_v4_2 (by decide)) _).trans (w2_bp m ρ c I H i k))
    (fun i k => (congrFun (W3_of m ρ c main_call0_v4_3 (by decide)) _).trans (w2_dp m ρ c I H i k))
    (fun j e => (w3_v5 m ρ c j e).trans (H.cw e j)) (fun k => (w3_v6 m ρ c k).trans (H.cb k))
    (fun k => (w3_v7 m ρ c k).trans (H.db k)) (fun k => (w3_v8 m ρ c k).trans (H.al k))
    (fun k => (w3_v9 m ρ c k).trans (H.dd k)) i e)

omit H in
/-- A buffer that neither the first two calls nor the host operations between them write, from the first call's entry. -/
theorem w4_keep (r : Ref sig .tc) (h1 : ∀ w : Fin cfg1.W, Pipeline.arrRef spec1 w = r → (cfg1.win w).isOut = false)
    (h : r ∉ hostOps1_W) (h0 : ∀ w : Fin cfg0.W, Pipeline.arrRef spec0 w = r → (cfg0.win w).isOut = false) :
    W4 m ρ c (Proc.devRef .tc r) = W1 m ρ c (Proc.devRef .tc r) :=
  (W4_of m ρ c r h1).trans ((W3_of m ρ c r h).trans (W2_of m ρ c r h0))

theorem w4_enc (i : Fin 2048) (k : Fin 1024) :
    W4 m ρ c (Proc.devRef .tc main_call0_v1) (ix2 i k) = ((I.enc i k : ℝ) : EReal) :=
  (congrFun (w4_keep m ρ c main_call0_v1 (by decide) (by decide) (by decide)) _).trans
    ((w1_v1 m ρ c i k).trans (H.enc i k))

theorem w5_k (s : Fin 2048) (e : Fin 1024) :
    W5 m ρ c (Proc.devRef .tc main_call0_v11_0) (ix2 s e) = ((I.k s e : ℝ) : EReal) :=
  (congrFun (W5_arr m ρ c 3) _).trans (r2_k (V4 m ρ) c I.enc I.wk (w4_enc m ρ c I H)
    (fun i k => (congrFun (W4_args m ρ c main_arg15 (by decide)) _).trans (H.wk i k)) s e)

theorem w5_v (s : Fin 2048) (e : Fin 1024) :
    W5 m ρ c (Proc.devRef .tc main_call0_v11_1) (ix2 s e) = ((I.v s e : ℝ) : EReal) :=
  (congrFun (W5_arr m ρ c 4) _).trans (r2_v (V4 m ρ) c I.enc I.wv (w4_enc m ρ c I H)
    (fun i k => (congrFun (W4_args m ρ c main_arg16 (by decide)) _).trans (H.wv i k)) s e)

omit H in
theorem w6_keep (r : Ref sig .tc) (h3 : r ∉ hostOps3_W)
    (h2 : ∀ w : Fin cfg2.W, Pipeline.arrRef spec2 w = r → (cfg2.win w).isOut = false) :
    W6 m ρ c (Proc.devRef .tc r) = W4 m ρ c (Proc.devRef .tc r) :=
  (W6_of m ρ c r h3).trans (W5_of m ρ c r h2)

theorem w6_z (i : Fin 1024) (e : Fin 2048) :
    W6 m ρ c (Proc.devRef .tc main_call0_v4_0) (ix2 i e) = ((I.z i e : ℝ) : EReal) :=
  (congrFun ((w6_keep m ρ c main_call0_v4_0 (by decide) (by decide)).trans
    ((W4_of m ρ c main_call0_v4_0 (by decide)).trans (W3_of m ρ c main_call0_v4_0 (by decide)))) _).trans (w2_z m ρ c I H i e)

theorem w6_x (i : Fin 1024) (k : Fin 1024) :
    W6 m ρ c (Proc.devRef .tc main_call0_v0) (ix2 i k) = ((I.x i k : ℝ) : EReal) :=
  (congrFun ((w6_keep m ρ c main_call0_v0 (by decide) (by decide)).trans
    (w4_keep m ρ c main_call0_v0 (by decide) (by decide) (by decide))) _).trans ((w1_v0 m ρ c i k).trans (H.x i k))

/-- The kernel's result on real arguments. -/
theorem kernel_value (i : Fin 1024) (j : Fin 1024) :
    W8 m ρ c (Proc.devRef .tc main_v0) (ix3 0 i j) = ((I.out i j : ℝ) : EReal) :=
  (w8_v0 m ρ c i j).trans (r3_out (V6 m ρ) c I.y I.z I.x I.gw I.ow I.k I.v I.wq I.wo I.lw I.lb
    (fun i e => (congrFun (w6_keep m ρ c main_call0_v10 (by decide) (by decide)) _).trans (w4_y m ρ c I H i e))
    (w6_z m ρ c I H) (w6_x m ρ c I H) (fun k => (w6_v12 m ρ c k).trans (H.gw k))
    (fun i k => (congrFun (W6_args m ρ c main_arg11 (by decide)) _).trans (H.ow i k))
    (fun i k => (congrFun (W6_of m ρ c main_call0_v11_0 (by decide)) _).trans (w5_k m ρ c I H i k))
    (fun i k => (congrFun (W6_of m ρ c main_call0_v11_1 (by decide)) _).trans (w5_v m ρ c I H i k))
    (fun i k => (congrFun (W6_args m ρ c main_arg14 (by decide)) _).trans (H.wq i k))
    (fun i k => (congrFun (W6_args m ρ c main_arg17 (by decide)) _).trans (H.wo i k))
    (fun k => (w6_v13 m ρ c k).trans (H.lw k)) (fun k => (w6_v14 m ρ c k).trans (H.lb k)) i j)
end

end Cert.Proof

end
-- ==== Proof.RefPre.lean ====
/-
  The reference before its scan, on real arguments: the input projection, the convolution, the step sizes and the four
  arrays the scan reads.
-/
module

public import proofs.«01_k».proof.Proof.Block
public import proofs.«01_k».proof.Proof.Gen.ReferenceIdeal.Run
public import Idealize.ShloMosaic.Lib.Pointwise

@[expose] public section

set_option maxRecDepth 16384

noncomputable section

namespace Cert.Proof

open Idealize.ShloMosaic Cert.ReferenceIdeal Cert.ReferenceIdeal.Gen Cert.ReferenceIdeal.Value
open Idealize.ShloMosaic.TcCoe Idealize.ShloMosaic.StableHlo
open scoped BigOperators

theorem habs_coe (r : ℝ) : (FloatOps.absf ((r : ℝ) : EReal) : Ideal .f32) = ((|r| : ℝ) : EReal) := by
  show max (r : EReal) (-(r : EReal)) = _
  rw [← EReal.coe_neg, coe_max]
  rfl

/-- `x · (1 / (1 + e⁻ˣ))`, as the reference spells it. -/
theorem silu_coe (r : ℝ) : (r : EReal) * Ideal.div (1 : EReal) ((1 : EReal) + Ideal.exp (-(r : EReal)))
    = ((silu r : ℝ) : EReal) := by
  have h := logistic_coe r
  unfold Ideal.logistic at h
  rw [h, ← EReal.coe_mul]
  rfl

variable (V : Valuation τ sig (Elt Ideal))

/-! ## The input projection -/

set_option maxHeartbeats 1000000 in
theorem rf_v13 (X : Fin 1024 → Fin 1024 → ℝ) (NW : Fin 1024 → ℝ) (W : Fin 1024 → Fin 4384 → ℝ)
    (hx : ∀ i k, V (Proc.devRef .tc main_arg0) (ix3 0 i k) = ((X i k : ℝ) : EReal))
    (hn : ∀ k, V (Proc.devRef .tc main_arg3) (ix1 k) = ((NW k : ℝ) : EReal))
    (hw : ∀ k e, V (Proc.devRef .tc main_arg4) (ix2 k e) = ((W k e : ℝ) : EReal))
    (i : Fin 1024) (e : Fin 4384) :
    after hostOps0 V (Proc.devRef .tc main_v13) (ix3 0 i e) = ((inproj (X i) NW (fun e k => W k e) e : ℝ) : EReal) := by
  have hv : @Eq (FVec Ideal S1x1024x4384 .f32) (after hostOps0 V (Proc.devRef .tc main_v13)) (Host.dotGeneral (F := Ideal) (φ₁ := .f32) (φ₂ := .f32) dot_S1x1024x1024_S1024x4384_S1x1024x4384_2_0_01_1_n_n none (mulf (F := Ideal) (mulf (F := Ideal) (V (Proc.devRef .tc main_arg0) : FVec Ideal S1x1024x1024 .f32) (broadcastInDim S1x1024x1024 ![0, 1, 2] bcast_S1x1024x1_S1x1024x1024_0_1_2 (Host.rsqrt (F := Ideal) (addf (F := Ideal) (Host.divf (F := Ideal) (broadcastInDim S1x1024x1 ![0, 1] bcast_S1x1024_S1x1024x1_0_1 (Host.reduceAdd (F := Ideal) (mulf (F := Ideal) (V (Proc.devRef .tc main_arg0) : FVec Ideal S1x1024x1024 .f32) (V (Proc.devRef .tc main_arg0) : FVec Ideal S1x1024x1024 .f32)) (constant (F := Ideal) S_ .f32 0x00000000#32) reducesTo_S1x1024x1024_S1x1024_d2 h_S_)) (broadcastInDim S1x1024x1 ![] bcast_S_S1x1024x1 (constant (F := Ideal) S_ .f32 0x44800000#32))) (broadcastInDim S1x1024x1 ![] bcast_S_S1x1024x1 (constant (F := Ideal) S_ .f32 0x3727C5AC#32)))))) (broadcastInDim S1x1024x1024 ![0, 1, 2] bcast_S1x1x1024_S1x1024x1024_0_1_2 (broadcastInDim S1x1x1024 ![2] bcast_S1024_S1x1x1024_2 (V (Proc.devRef .tc main_arg3) : FVec Ideal S1024 .f32)))) (V (Proc.devRef .tc main_arg4) : FVec Ideal S1024x4384 .f32)) := by
    after_results
    all_goals rfl
  rw [hv]; clear hv
  pointwise
  simp only [hx, hn, hw]
  rw [show Ideal.ofBits .f32 1149239296#32 = _ from ofBits_1024,
    show Ideal.ofBits .f32 925353388#32 = _ from ofBits_eps]
  rw [rms_coe _ _ (by norm_num)]
  simp only [← EReal.coe_mul, ← coe_sum]
  rfl

set_option maxHeartbeats 1000000 in
theorem rf_v19 (P : Fin 1024 → Fin 4384 → ℝ) (B : Fin 32 → ℝ)
    (hp : ∀ i e, after hostOps0 V (Proc.devRef .tc main_v13) (ix3 0 i e) = ((P i e : ℝ) : EReal))
    (hb : ∀ k, V (Proc.devRef .tc main_arg7) (ix1 k) = ((B k : ℝ) : EReal)) (i : Fin 1024) (h : Fin 32) :
    after hostOps0 V (Proc.devRef .tc main_v19) (ix3 0 i h) = ((P i ⟨4352 + h.val, by omega⟩ + B h : ℝ) : EReal) := by
  have hv : @Eq (FVec Ideal S1x1024x32 .f32) (after hostOps0 V (Proc.devRef .tc main_v19)) (addf (F := Ideal) (extractStridedSlice S1x1024x32 ![0, 0, 4352] ((after hostOps0 V (Proc.devRef .tc main_v13)) : FVec Ideal S1x1024x4384 .f32) slices_S1x1024x4384_S1x1024x32_0_0_4352) (broadcastInDim S1x1024x32 ![0, 1, 2] bcast_S1x1x32_S1x1024x32_0_1_2 (broadcastInDim S1x1x32 ![2] bcast_S32_S1x1x32_2 (V (Proc.devRef .tc main_arg7) : FVec Ideal S32 .f32)))) := by
    after_results
    all_goals rfl
  rw [hv]; clear hv
  pointwise
  rw [hp, hb]
  rfl

theorem rf_v14 (P : Fin 1024 → Fin 4384 → ℝ)
    (hp : ∀ i e, after hostOps0 V (Proc.devRef .tc main_v13) (ix3 0 i e) = ((P i e : ℝ) : EReal)) (i : Fin 1024) (e : Fin 2048) :
    after hostOps0 V (Proc.devRef .tc main_v14) (ix3 0 i e) = ((P i ⟨e.val, by omega⟩ : ℝ) : EReal) := by
  have hv : @Eq (FVec Ideal S1x1024x2048 .f32) (after hostOps0 V (Proc.devRef .tc main_v14)) (extractStridedSlice S1x1024x2048 ![0, 0, 0] ((after hostOps0 V (Proc.devRef .tc main_v13)) : FVec Ideal S1x1024x4384 .f32) slices_S1x1024x4384_S1x1024x2048_0_0_0) := by
    after_results
    all_goals rfl
  rw [hv]; clear hv
  pointwise
  exact hp _ _

theorem rf_v15 (P : Fin 1024 → Fin 4384 → ℝ)
    (hp : ∀ i e, after hostOps0 V (Proc.devRef .tc main_v13) (ix3 0 i e) = ((P i e : ℝ) : EReal)) (i : Fin 1024) (e : Fin 2304) :
    after hostOps0 V (Proc.devRef .tc main_v15) (ix3 0 i e) = ((P i ⟨2048 + e.val, by omega⟩ : ℝ) : EReal) := by
  have hv : @Eq (FVec Ideal S1x1024x2304 .f32) (after hostOps0 V (Proc.devRef .tc main_v15)) (extractStridedSlice S1x1024x2304 ![0, 0, 2048] ((after hostOps0 V (Proc.devRef .tc main_v13)) : FVec Ideal S1x1024x4384 .f32) slices_S1x1024x4384_S1x1024x2304_0_0_2048) := by
    after_results
    all_goals rfl
  rw [hv]; clear hv
  pointwise
  exact hp _ _

/-! ## The step sizes -/

set_option maxHeartbeats 1000000 in
theorem rf_v20 (R : Fin 1024 → Fin 32 → ℝ)
    (h19 : ∀ i h, V (Proc.devRef .tc main_v19) (ix3 0 i h) = ((R i h : ℝ) : EReal)) (i : Fin 1024) (h : Fin 32) :
    after hostOps0_1 V (Proc.devRef .tc main_v20) (ix3 0 i h) = ((softplus (R i h) : ℝ) : EReal) := by
  have hv : @Eq (FVec Ideal S1x1024x32 .f32) (after hostOps0_1 V (Proc.devRef .tc main_v20)) (select (cmpf (F := Ideal) .une (subf (F := Ideal) (V (Proc.devRef .tc main_v19) : FVec Ideal S1x1024x32 .f32) (broadcastInDim S1x1024x32 ![] bcast_S_S1x1024x32 (constant (F := Ideal) S_ .f32 0x00000000#32))) (subf (F := Ideal) (V (Proc.devRef .tc main_v19) : FVec Ideal S1x1024x32 .f32) (broadcastInDim S1x1024x32 ![] bcast_S_S1x1024x32 (constant (F := Ideal) S_ .f32 0x00000000#32)))) (addf (F := Ideal) (V (Proc.devRef .tc main_v19) : FVec Ideal S1x1024x32 .f32) (broadcastInDim S1x1024x32 ![] bcast_S_S1x1024x32 (constant (F := Ideal) S_ .f32 0x00000000#32))) (addf (F := Ideal) (maximumf (F := Ideal) (V (Proc.devRef .tc main_v19) : FVec Ideal S1x1024x32 .f32) (broadcastInDim S1x1024x32 ![] bcast_S_S1x1024x32 (constant (F := Ideal) S_ .f32 0x00000000#32))) (Host.log1p (F := Ideal) (Host.exp (F := Ideal) (Host.negf (F := Ideal) (Host.absf (F := Ideal) (subf (F := Ideal) (V (Proc.devRef .tc main_v19) : FVec Ideal S1x1024x32 .f32) (broadcastInDim S1x1024x32 ![] bcast_S_S1x1024x32 (constant (F := Ideal) S_ .f32 0x00000000#32))))))))) := by
    after_results
    all_goals rfl
  rw [hv]; clear hv
  pointwise
  rw [if_neg (by simp)]
  simp only [h19, habs_coe]
  rw [← EReal.coe_zero, coe_max, ← EReal.coe_neg, exp_coe, log1p_exp_coe, ← EReal.coe_add]
  rfl

/-! ## The convolution -/

theorem rf_v21 (P : Fin 1024 → Fin 2304 → ℝ) (hc : V (Proc.devRef .tc main_c) = constantI S_ 32 0#32)
    (h15 : ∀ i e, V (Proc.devRef .tc main_v15) (ix3 0 i e) = ((P i e : ℝ) : EReal)) (i : Fin 1027) (e : Fin 2304) :
    after hostOps0_3 V (Proc.devRef .tc main_v21) (ix3 0 i e)
      = ((if h : i.val < 3 then 0 else P ⟨i.val - 3, by omega⟩ e : ℝ) : EReal) := by
  have hv : @Eq (FVec Ideal S1x1027x2304 .f32) (after hostOps0_3 V (Proc.devRef .tc main_v21)) (pad S1x1027x2304 ![0, 3, 0] ![0, 0, 0] ![0, 0, 0] (V (Proc.devRef .tc main_v15) : FVec Ideal S1x1024x2304 .f32) (sitofp (F := Ideal) .f32 (V (Proc.devRef .tc main_c) : IVec S_ 32)) pads_S1x1024x2304_S1x1027x2304_000_300_000 h_S_) := by
    after_results
    all_goals rfl
  rw [hv]; clear hv
  rw [hc]
  pointwise
  have h0 : (FloatOps.sitofp (F := Ideal) .f32 (0#32 : BitVec 32)) = ((0 : ℝ) : EReal) := by
    show (((0#32 : BitVec 32).toInt : ℝ) : EReal) = _
    simp
  by_cases h : i.val < 3
  · rw [dif_pos h, dif_neg (fun hh => absurd (show 3 ≤ i.val from (hh (1 : Fin 3)).1) (by omega)), h0]
  · rw [dif_neg h, dif_pos, h15]
    show ∀ a : Fin 3, _
    intro a
    have hi := i.isLt
    have he := e.isLt
    fin_cases a
    · exact ⟨Nat.zero_le _, Nat.mod_one _, show 0 / 1 < 1 by decide⟩
    · refine ⟨show 3 ≤ i.val by omega, Nat.mod_one _, ?_⟩
      show (i.val - 3) / 1 < 1024
      rw [Nat.div_one]; omega
    · refine ⟨Nat.zero_le _, Nat.mod_one _, ?_⟩
      show (e.val - 0) / 1 < 2304
      rw [Nat.div_one]; omega

set_option maxHeartbeats 2000000 in
theorem rf_v53 (P : Fin 1027 → Fin 2304 → ℝ) (W : Fin 2304 → Fin 4 → ℝ) (B : Fin 2304 → ℝ)
    (h21 : ∀ i e, V (Proc.devRef .tc main_v21) (ix3 0 i e) = ((P i e : ℝ) : EReal))
    (h5 : ∀ e j, V (Proc.devRef .tc main_arg5) (ix2 e j) = ((W e j : ℝ) : EReal))
    (h6 : ∀ e, V (Proc.devRef .tc main_arg6) (ix1 e) = ((B e : ℝ) : EReal)) (i : Fin 1024) (e : Fin 2304) :
    after hostOps0_4 V (Proc.devRef .tc main_v53) (ix3 0 i e)
      = ((B e + (P ⟨i.val, by omega⟩ e * W e 0 + P ⟨i.val + 1, by omega⟩ e * W e 1 + P ⟨i.val + 2, by omega⟩ e * W e 2
          + P ⟨i.val + 3, by omega⟩ e * W e 3) : ℝ) : EReal) := by
  have hv : @Eq (FVec Ideal S1x1024x2304 .f32) (after hostOps0_4 V (Proc.devRef .tc main_v53)) (addf (F := Ideal) (broadcastInDim S1x1024x2304 ![0, 1, 2] bcast_S1x1x2304_S1x1024x2304_0_1_2 (broadcastInDim S1x1x2304 ![2] bcast_S2304_S1x1x2304_2 (V (Proc.devRef .tc main_arg6) : FVec Ideal S2304 .f32))) (addf (F := Ideal) (addf (F := Ideal) (addf (F := Ideal) (addf (F := Ideal) (broadcastInDim S1x1024x2304 ![] bcast_S_S1x1024x2304 (constant (F := Ideal) S_ .f32 0x00000000#32)) (mulf (F := Ideal) (extractStridedSlice S1x1024x2304 ![0, 0, 0] (V (Proc.devRef .tc main_v21) : FVec Ideal S1x1027x2304 .f32) slices_S1x1027x2304_S1x1024x2304_0_0_0) (broadcastInDim S1x1024x2304 ![0, 1, 2] bcast_S1x1x2304_S1x1024x2304_0_1_2 (broadcastInDim S1x1x2304 ![2] bcast_S2304_S1x1x2304_2 (shapeCast S2304 (extractStridedSlice S2304x1 ![0, 0] (V (Proc.devRef .tc main_arg5) : FVec Ideal S2304x4 .f32) slices_S2304x4_S2304x1_0_0) shapeCasts_S2304x1_S2304))))) (mulf (F := Ideal) (extractStridedSlice S1x1024x2304 ![0, 1, 0] (V (Proc.devRef .tc main_v21) : FVec Ideal S1x1027x2304 .f32) slices_S1x1027x2304_S1x1024x2304_0_1_0) (broadcastInDim S1x1024x2304 ![0, 1, 2] bcast_S1x1x2304_S1x1024x2304_0_1_2 (broadcastInDim S1x1x2304 ![2] bcast_S2304_S1x1x2304_2 (shapeCast S2304 (extractStridedSlice S2304x1 ![0, 1] (V (Proc.devRef .tc main_arg5) : FVec Ideal S2304x4 .f32) slices_S2304x4_S2304x1_0_1) shapeCasts_S2304x1_S2304))))) (mulf (F := Ideal) (extractStridedSlice S1x1024x2304 ![0, 2, 0] (V (Proc.devRef .tc main_v21) : FVec Ideal S1x1027x2304 .f32) slices_S1x1027x2304_S1x1024x2304_0_2_0) (broadcastInDim S1x1024x2304 ![0, 1, 2] bcast_S1x1x2304_S1x1024x2304_0_1_2 (broadcastInDim S1x1x2304 ![2] bcast_S2304_S1x1x2304_2 (shapeCast S2304 (extractStridedSlice S2304x1 ![0, 2] (V (Proc.devRef .tc main_arg5) : FVec Ideal S2304x4 .f32) slices_S2304x4_S2304x1_0_2) shapeCasts_S2304x1_S2304))))) (mulf (F := Ideal) (extractStridedSlice S1x1024x2304 ![0, 3, 0] (V (Proc.devRef .tc main_v21) : FVec Ideal S1x1027x2304 .f32) slices_S1x1027x2304_S1x1024x2304_0_3_0) (broadcastInDim S1x1024x2304 ![0, 1, 2] bcast_S1x1x2304_S1x1024x2304_0_1_2 (broadcastInDim S1x1x2304 ![2] bcast_S2304_S1x1x2304_2 (shapeCast S2304 (extractStridedSlice S2304x1 ![0, 3] (V (Proc.devRef .tc main_arg5) : FVec Ideal S2304x4 .f32) slices_S2304x4_S2304x1_0_3) shapeCasts_S2304x1_S2304)))))) := by
    after_results
    all_goals rfl
  rw [hv]; clear hv
  pointwise
  simp only [h21, h5, h6, ← EReal.coe_mul, ← EReal.coe_add]
  simp only [Nat.add_comm _ i.val]

set_option maxHeartbeats 1000000 in
theorem rf_v54 (R : Fin 1024 → Fin 2304 → ℝ)
    (h53 : ∀ i e, V (Proc.devRef .tc main_v53) (ix3 0 i e) = ((R i e : ℝ) : EReal)) (i : Fin 1024) (e : Fin 2304) :
    after hostOps0_5 V (Proc.devRef .tc main_v54) (ix3 0 i e) = ((silu (R i e) : ℝ) : EReal) := by
  have hv : @Eq (FVec Ideal S1x1024x2304 .f32) (after hostOps0_5 V (Proc.devRef .tc main_v54)) (mulf (F := Ideal) (V (Proc.devRef .tc main_v53) : FVec Ideal S1x1024x2304 .f32) (Host.divf (F := Ideal) (broadcastInDim S1x1024x2304 ![] bcast_S_S1x1024x2304 (constant (F := Ideal) S_ .f32 0x3F800000#32)) (addf (F := Ideal) (broadcastInDim S1x1024x2304 ![] bcast_S_S1x1024x2304 (constant (F := Ideal) S_ .f32 0x3F800000#32)) (Host.exp (F := Ideal) (Host.negf (F := Ideal) (V (Proc.devRef .tc main_v53) : FVec Ideal S1x1024x2304 .f32)))))) := by
    after_results
    all_goals rfl
  rw [hv]; clear hv
  pointwise
  rw [h53]
  exact silu_coe _

/-! ## What the scan reads -/

theorem rf_e0 (A : Fin 32 → ℝ) (D : Fin 1024 → Fin 32 → ℝ)
    (h8 : ∀ k, V (Proc.devRef .tc main_arg8) (ix1 k) = ((A k : ℝ) : EReal))
    (h20 : ∀ i h, V (Proc.devRef .tc main_v20) (ix3 0 i h) = ((D i h : ℝ) : EReal)) (i : Fin 1024) (h : Fin 32) :
    after hostOps0_6 V (Proc.devRef .tc main_v74_0) (ix3 i 0 h) = ((Real.exp (D i h * -Real.exp (A h)) : ℝ) : EReal) := by
  have hv : @Eq (FVec Ideal S1024x1x32 .f32) (after hostOps0_6 V (Proc.devRef .tc main_v74_0)) (transpose S1024x1x32 [1, 0, 2] (Host.exp (F := Ideal) (mulf (F := Ideal) (V (Proc.devRef .tc main_v20) : FVec Ideal S1x1024x32 .f32) (broadcastInDim S1x1024x32 ![0, 1, 2] bcast_S1x1x32_S1x1024x32_0_1_2 (broadcastInDim S1x1x32 ![2] bcast_S32_S1x1x32_2 (Host.negf (F := Ideal) (Host.exp (F := Ideal) (V (Proc.devRef .tc main_arg8) : FVec Ideal S32 .f32))))))) transposes_S1x1024x32_S1024x1x32_1_0_2) := by
    after_results
    all_goals rfl
  rw [hv]; clear hv
  pointwise
  rw [h8, h20]
  rfl

theorem rf_v56 (X : Fin 1024 → Fin 2304 → ℝ)
    (h54 : ∀ i e, V (Proc.devRef .tc main_v54) (ix3 0 i e) = ((X i e : ℝ) : EReal)) (i : Fin 1024) (h : Fin 32) (p : Fin 64) :
    after hostOps0_6 V (Proc.devRef .tc main_v56) (ix4 0 i h p) = ((X i ⟨64 * h.val + p.val, by omega⟩ : ℝ) : EReal) := by
  have hv : @Eq (FVec Ideal S1x1024x32x64 .f32) (after hostOps0_6 V (Proc.devRef .tc main_v56)) (shapeCast S1x1024x32x64 (extractStridedSlice S1x1024x2048 ![0, 0, 0] (V (Proc.devRef .tc main_v54) : FVec Ideal S1x1024x2304 .f32) slices_S1x1024x2304_S1x1024x2048_0_0_0) shapeCasts_S1x1024x2048_S1x1024x32x64) := by
    after_results
    all_goals rfl
  rw [hv]; clear hv
  pointwise
  rw [h54]
  simp only [Nat.mul_comm 64]

theorem rf_e1 (X : Fin 1024 → Fin 32 → Fin 64 → ℝ) (D : Fin 1024 → Fin 32 → ℝ)
    (h56 : ∀ i h p, after hostOps0_6 V (Proc.devRef .tc main_v56) (ix4 0 i h p) = ((X i h p : ℝ) : EReal))
    (h20 : ∀ i h, V (Proc.devRef .tc main_v20) (ix3 0 i h) = ((D i h : ℝ) : EReal)) (i : Fin 1024) (h : Fin 32) (p : Fin 64) :
    after hostOps0_6 V (Proc.devRef .tc main_v74_1) (ix4 i 0 h p) = ((D i h * X i h p : ℝ) : EReal) := by
  have hv : @Eq (FVec Ideal S1024x1x32x64 .f32) (after hostOps0_6 V (Proc.devRef .tc main_v74_1)) (transpose S1024x1x32x64 [1, 0, 2, 3] (mulf (F := Ideal) (broadcastInDim S1x1024x32x64 ![0, 1, 2, 3] bcast_S1x1024x32x1_S1x1024x32x64_0_1_2_3 (broadcastInDim S1x1024x32x1 ![0, 1, 2] bcast_S1x1024x32_S1x1024x32x1_0_1_2 (V (Proc.devRef .tc main_v20) : FVec Ideal S1x1024x32 .f32))) ((after hostOps0_6 V (Proc.devRef .tc main_v56)) : FVec Ideal S1x1024x32x64 .f32)) transposes_S1x1024x32x64_S1024x1x32x64_1_0_2_3) := by
    after_results
    all_goals rfl
  rw [hv]; clear hv
  pointwise
  rw [h56, h20]
  rfl

theorem rf_e2 (X : Fin 1024 → Fin 2304 → ℝ)
    (h54 : ∀ i e, V (Proc.devRef .tc main_v54) (ix3 0 i e) = ((X i e : ℝ) : EReal)) (i : Fin 1024) (n : Fin 128) :
    after hostOps0_6 V (Proc.devRef .tc main_v74_2) (ix3 i 0 n) = ((X i ⟨2048 + n.val, by omega⟩ : ℝ) : EReal) := by
  have hv : @Eq (FVec Ideal S1024x1x128 .f32) (after hostOps0_6 V (Proc.devRef .tc main_v74_2)) (transpose S1024x1x128 [1, 0, 2] (extractStridedSlice S1x1024x128 ![0, 0, 2048] (V (Proc.devRef .tc main_v54) : FVec Ideal S1x1024x2304 .f32) slices_S1x1024x2304_S1x1024x128_0_0_2048) transposes_S1x1024x128_S1024x1x128_1_0_2) := by
    after_results
    all_goals rfl
  rw [hv]; clear hv
  pointwise
  exact h54 _ _

theorem rf_e3 (X : Fin 1024 → Fin 2304 → ℝ)
    (h54 : ∀ i e, V (Proc.devRef .tc main_v54) (ix3 0 i e) = ((X i e : ℝ) : EReal)) (i : Fin 1024) (n : Fin 128) :
    after hostOps0_6 V (Proc.devRef .tc main_v74_3) (ix3 i 0 n) = ((X i ⟨2176 + n.val, by omega⟩ : ℝ) : EReal) := by
  have hv : @Eq (FVec Ideal S1024x1x128 .f32) (after hostOps0_6 V (Proc.devRef .tc main_v74_3)) (transpose S1024x1x128 [1, 0, 2] (extractStridedSlice S1x1024x128 ![0, 0, 2176] (V (Proc.devRef .tc main_v54) : FVec Ideal S1x1024x2304 .f32) slices_S1x1024x2304_S1x1024x128_0_0_2176) transposes_S1x1024x128_S1024x1x128_1_0_2) := by
    after_results
    all_goals rfl
  rw [hv]; clear hv
  pointwise
  exact h54 _ _

theorem rf_e5 (h : Fin 32) (p : Fin 64) (n : Fin 128) :
    after hostOps0_6 V (Proc.devRef .tc main_v74_5) (ix4 0 h p n) = ((0 : ℝ) : EReal) := by
  have hv : @Eq (FVec Ideal S1x32x64x128 .f32) (after hostOps0_6 V (Proc.devRef .tc main_v74_5)) (broadcastInDim S1x32x64x128 ![] bcast_S_S1x32x64x128 (constant (F := Ideal) S_ .f32 0x00000000#32)) := by
    after_results
    all_goals rfl
  rw [hv]; clear hv
  pointwise
  rfl

end Cert.Proof

end
-- ==== Proof.RefPost.lean ====
/-
  The reference after its scan, on real arguments: the gated normalisation and the output projection, then the layer
  normalisation, the projections and the attention.
-/
module

public import proofs.«01_k».proof.Proof.RefPre

@[expose] public section

set_option maxRecDepth 16384

noncomputable section

namespace Cert.Proof

open Idealize.ShloMosaic Cert.ReferenceIdeal Cert.ReferenceIdeal.Gen Cert.ReferenceIdeal.Value
open Idealize.ShloMosaic.TcCoe Idealize.ShloMosaic.StableHlo
open scoped BigOperators

variable (V : Valuation τ sig (Elt Ideal))

/-! ## The scan's output and its gate -/

set_option maxHeartbeats 1000000 in
theorem rp_v80 (Y X : Fin 1024 → Fin 2048 → ℝ) (D : Fin 32 → ℝ)
    (h74 : ∀ t (h : Fin 32) (p : Fin 64), V (Proc.devRef .tc main_v74_6) (ix4 t 0 h p) = ((Y t ⟨64 * h.val + p.val, by omega⟩ : ℝ) : EReal))
    (h56 : ∀ t (h : Fin 32) (p : Fin 64), V (Proc.devRef .tc main_v56) (ix4 0 t h p) = ((X t ⟨64 * h.val + p.val, by omega⟩ : ℝ) : EReal))
    (h9 : ∀ k, V (Proc.devRef .tc main_arg9) (ix1 k) = ((D k : ℝ) : EReal)) (i : Fin 1024) (e : Fin 2048) :
    after hostOps0_7 V (Proc.devRef .tc main_v80) (ix3 0 i e) = ((Y i e + D (hd e) * X i e : ℝ) : EReal) := by
  have hv : @Eq (FVec Ideal S1x1024x2048 .f32) (after hostOps0_7 V (Proc.devRef .tc main_v80)) (shapeCast S1x1024x2048 (addf (F := Ideal) (transpose S1x1024x32x64 [1, 0, 2, 3] (V (Proc.devRef .tc main_v74_6) : FVec Ideal S1024x1x32x64 .f32) transposes_S1024x1x32x64_S1x1024x32x64_1_0_2_3) (mulf (F := Ideal) (broadcastInDim S1x1024x32x64 ![0, 1, 2, 3] bcast_S1x1x32x1_S1x1024x32x64_0_1_2_3 (broadcastInDim S1x1x32x1 ![2] bcast_S32_S1x1x32x1_2 (V (Proc.devRef .tc main_arg9) : FVec Ideal S32 .f32))) (V (Proc.devRef .tc main_v56) : FVec Ideal S1x1024x32x64 .f32))) shapeCasts_S1x1024x32x64_S1x1024x2048) := by
    after_results
    all_goals rfl
  rw [hv]; clear hv
  pointwise
  simp only [h74, h56, h9, ← EReal.coe_mul, ← EReal.coe_add]
  have he : (⟨64 * (e.val / 64) + e.val % 64, by omega⟩ : Fin 2048) = e := Fin.ext (by show 64 * (e.val / 64) + e.val % 64 = e.val; omega)
  rw [he]
  rfl

set_option maxHeartbeats 1000000 in
theorem rp_v81 (Z : Fin 1024 → Fin 2048 → ℝ)
    (h14 : ∀ i e, V (Proc.devRef .tc main_v14) (ix3 0 i e) = ((Z i e : ℝ) : EReal)) (i : Fin 1024) (e : Fin 2048) :
    after hostOps0_8 V (Proc.devRef .tc main_v81) (ix3 0 i e) = ((silu (Z i e) : ℝ) : EReal) := by
  have hv : @Eq (FVec Ideal S1x1024x2048 .f32) (after hostOps0_8 V (Proc.devRef .tc main_v81)) (mulf (F := Ideal) (V (Proc.devRef .tc main_v14) : FVec Ideal S1x1024x2048 .f32) (Host.divf (F := Ideal) (broadcastInDim S1x1024x2048 ![] bcast_S_S1x1024x2048 (constant (F := Ideal) S_ .f32 0x3F800000#32)) (addf (F := Ideal) (broadcastInDim S1x1024x2048 ![] bcast_S_S1x1024x2048 (constant (F := Ideal) S_ .f32 0x3F800000#32)) (Host.exp (F := Ideal) (Host.negf (F := Ideal) (V (Proc.devRef .tc main_v14) : FVec Ideal S1x1024x2048 .f32)))))) := by
    after_results
    all_goals rfl
  rw [hv]; clear hv
  pointwise
  rw [h14]
  exact silu_coe _

theorem rp_v82 (Y G : Fin 1024 → Fin 2048 → ℝ)
    (h80 : ∀ i e, V (Proc.devRef .tc main_v80) (ix3 0 i e) = ((Y i e : ℝ) : EReal))
    (h81 : ∀ i e, V (Proc.devRef .tc main_v81) (ix3 0 i e) = ((G i e : ℝ) : EReal)) (i : Fin 1024) (e : Fin 2048) :
    after hostOps0_9 V (Proc.devRef .tc main_v82) (ix3 0 i e) = ((Y i e * G i e : ℝ) : EReal) := by
  have hv : @Eq (FVec Ideal S1x1024x2048 .f32) (after hostOps0_9 V (Proc.devRef .tc main_v82)) (mulf (F := Ideal) (V (Proc.devRef .tc main_v80) : FVec Ideal S1x1024x2048 .f32) (V (Proc.devRef .tc main_v81) : FVec Ideal S1x1024x2048 .f32)) := by
    after_results
    all_goals rfl
  rw [hv]; clear hv
  pointwise
  rw [h80, h81]
  rfl

set_option maxHeartbeats 2000000 in
theorem rp_v97 (G : Fin 1024 → Fin 2048 → ℝ) (X : Fin 1024 → Fin 1024 → ℝ) (GW : Fin 2048 → ℝ) (OW : Fin 2048 → Fin 1024 → ℝ)
    (h82 : ∀ i e, after hostOps0_9 V (Proc.devRef .tc main_v82) (ix3 0 i e) = ((G i e : ℝ) : EReal))
    (h0 : ∀ i k, V (Proc.devRef .tc main_arg0) (ix3 0 i k) = ((X i k : ℝ) : EReal))
    (h10 : ∀ k, V (Proc.devRef .tc main_arg10) (ix1 k) = ((GW k : ℝ) : EReal))
    (h11 : ∀ e k, V (Proc.devRef .tc main_arg11) (ix2 e k) = ((OW e k : ℝ) : EReal)) (i : Fin 1024) (j : Fin 1024) :
    after hostOps0_9 V (Proc.devRef .tc main_v97) (ix3 0 i j)
      = ((X i j + rowMul (fun e => G i e * rmsS 2048 (G i) * GW e) OW j : ℝ) : EReal) := by
  have hv : @Eq (FVec Ideal S1x1024x1024 .f32) (after hostOps0_9 V (Proc.devRef .tc main_v97)) (addf (F := Ideal) (V (Proc.devRef .tc main_arg0) : FVec Ideal S1x1024x1024 .f32) (Host.dotGeneral (F := Ideal) (φ₁ := .f32) (φ₂ := .f32) dot_S1x1024x2048_S2048x1024_S1x1024x1024_2_0_01_1_n_n none (mulf (F := Ideal) (mulf (F := Ideal) ((after hostOps0_9 V (Proc.devRef .tc main_v82)) : FVec Ideal S1x1024x2048 .f32) (broadcastInDim S1x1024x2048 ![0, 1, 2] bcast_S1x1024x1_S1x1024x2048_0_1_2 (Host.rsqrt (F := Ideal) (addf (F := Ideal) (Host.divf (F := Ideal) (broadcastInDim S1x1024x1 ![0, 1] bcast_S1x1024_S1x1024x1_0_1 (Host.reduceAdd (F := Ideal) (mulf (F := Ideal) ((after hostOps0_9 V (Proc.devRef .tc main_v82)) : FVec Ideal S1x1024x2048 .f32) ((after hostOps0_9 V (Proc.devRef .tc main_v82)) : FVec Ideal S1x1024x2048 .f32)) (constant (F := Ideal) S_ .f32 0x00000000#32) reducesTo_S1x1024x2048_S1x1024_d2 h_S_)) (broadcastInDim S1x1024x1 ![] bcast_S_S1x1024x1 (constant (F := Ideal) S_ .f32 0x45000000#32))) (broadcastInDim S1x1024x1 ![] bcast_S_S1x1024x1 (constant (F := Ideal) S_ .f32 0x3727C5AC#32)))))) (broadcastInDim S1x1024x2048 ![0, 1, 2] bcast_S1x1x2048_S1x1024x2048_0_1_2 (broadcastInDim S1x1x2048 ![2] bcast_S2048_S1x1x2048_2 (V (Proc.devRef .tc main_arg10) : FVec Ideal S2048 .f32)))) (V (Proc.devRef .tc main_arg11) : FVec Ideal S2048x1024 .f32))) := by
    after_results
    all_goals rfl
  rw [hv]; clear hv
  pointwise
  simp only [h82, h0, h10, h11]
  rw [show Ideal.ofBits .f32 1157627904#32 = _ from ofBits_2048,
    show Ideal.ofBits .f32 925353388#32 = _ from ofBits_eps, rms_coe _ _ (by norm_num)]
  simp only [← EReal.coe_mul, ← coe_sum, ← EReal.coe_add]
  rfl

/-! ## The layer normalisation -/

set_option maxHeartbeats 2000000 in
theorem rp_v103 (H : Fin 1024 → Fin 1024 → ℝ)
    (h97 : ∀ i j, after hostOps0_9 V (Proc.devRef .tc main_v97) (ix3 0 i j) = ((H i j : ℝ) : EReal)) (i : Fin 1024) (j : Fin 1024) :
    after hostOps0_9 V (Proc.devRef .tc main_v103) (ix3 0 i j) = ((centred (H i) j : ℝ) : EReal) := by
  have hv : @Eq (FVec Ideal S1x1024x1024 .f32) (after hostOps0_9 V (Proc.devRef .tc main_v103)) (subf (F := Ideal) ((after hostOps0_9 V (Proc.devRef .tc main_v97)) : FVec Ideal S1x1024x1024 .f32) (broadcastInDim S1x1024x1024 ![0, 1, 2] bcast_S1x1024x1_S1x1024x1024_0_1_2 (Host.divf (F := Ideal) (broadcastInDim S1x1024x1 ![0, 1] bcast_S1x1024_S1x1024x1_0_1 (Host.reduceAdd (F := Ideal) ((after hostOps0_9 V (Proc.devRef .tc main_v97)) : FVec Ideal S1x1024x1024 .f32) (constant (F := Ideal) S_ .f32 0x00000000#32) reducesTo_S1x1024x1024_S1x1024_d2 h_S_)) (broadcastInDim S1x1024x1 ![] bcast_S_S1x1024x1 (constant (F := Ideal) S_ .f32 0x44800000#32))))) := by
    after_results
    all_goals rfl
  rw [hv]; clear hv
  pointwise
  simp only [h97]
  rw [show Ideal.ofBits .f32 1149239296#32 = _ from ofBits_1024]
  simp only [← coe_sum]
  rw [div_coe _ _ (by norm_num), ← EReal.coe_sub]
  rfl

set_option maxHeartbeats 2000000 in
theorem rp_v110 (H : Fin 1024 → Fin 1024 → ℝ)
    (h97 : ∀ i j, after hostOps0_9 V (Proc.devRef .tc main_v97) (ix3 0 i j) = ((H i j : ℝ) : EReal)) (i : Fin 1024) (j : Fin 1024) :
    after hostOps0_9 V (Proc.devRef .tc main_v110) (ix3 0 i j) = ((centred (H i) j : ℝ) : EReal) := by
  have hv : @Eq (FVec Ideal S1x1024x1024 .f32) (after hostOps0_9 V (Proc.devRef .tc main_v110)) (subf (F := Ideal) ((after hostOps0_9 V (Proc.devRef .tc main_v97)) : FVec Ideal S1x1024x1024 .f32) (broadcastInDim S1x1024x1024 ![0, 1, 2] bcast_S1x1024x1_S1x1024x1024_0_1_2 (Host.divf (F := Ideal) (broadcastInDim S1x1024x1 ![0, 1] bcast_S1x1024_S1x1024x1_0_1 (Host.reduceAdd (F := Ideal) ((after hostOps0_9 V (Proc.devRef .tc main_v97)) : FVec Ideal S1x1024x1024 .f32) (constant (F := Ideal) S_ .f32 0x00000000#32) reducesTo_S1x1024x1024_S1x1024_d2 h_S_)) (broadcastInDim S1x1024x1 ![] bcast_S_S1x1024x1 (constant (F := Ideal) S_ .f32 0x44800000#32))))) := by
    after_results
    all_goals rfl
  rw [hv]; clear hv
  pointwise
  simp only [h97]
  rw [show Ideal.ofBits .f32 1149239296#32 = _ from ofBits_1024]
  simp only [← coe_sum]
  rw [div_coe _ _ (by norm_num), ← EReal.coe_sub]
  rfl

set_option maxHeartbeats 2000000 in
theorem rp_v121 (C : Fin 1024 → Fin 1024 → ℝ) (LW LB : Fin 1024 → ℝ)
    (h103 : ∀ i j, after hostOps0_9 V (Proc.devRef .tc main_v103) (ix3 0 i j) = ((C i j : ℝ) : EReal))
    (h110 : ∀ i j, after hostOps0_9 V (Proc.devRef .tc main_v110) (ix3 0 i j) = ((C i j : ℝ) : EReal))
    (h12 : ∀ k, V (Proc.devRef .tc main_arg12) (ix1 k) = ((LW k : ℝ) : EReal))
    (h13 : ∀ k, V (Proc.devRef .tc main_arg13) (ix1 k) = ((LB k : ℝ) : EReal)) (i : Fin 1024) (j : Fin 1024) :
    after hostOps0_9 V (Proc.devRef .tc main_v121) (ix3 0 i j) = ((C i j * rmsS 1024 (C i) * LW j + LB j : ℝ) : EReal) := by
  have hv : @Eq (FVec Ideal S1x1024x1024 .f32) (after hostOps0_9 V (Proc.devRef .tc main_v121)) (addf (F := Ideal) (mulf (F := Ideal) (mulf (F := Ideal) ((after hostOps0_9 V (Proc.devRef .tc main_v110)) : FVec Ideal S1x1024x1024 .f32) (broadcastInDim S1x1024x1024 ![0, 1, 2] bcast_S1x1024x1_S1x1024x1024_0_1_2 (Host.rsqrt (F := Ideal) (addf (F := Ideal) (Host.divf (F := Ideal) (broadcastInDim S1x1024x1 ![0, 1] bcast_S1x1024_S1x1024x1_0_1 (Host.reduceAdd (F := Ideal) (mulf (F := Ideal) ((after hostOps0_9 V (Proc.devRef .tc main_v103)) : FVec Ideal S1x1024x1024 .f32) ((after hostOps0_9 V (Proc.devRef .tc main_v103)) : FVec Ideal S1x1024x1024 .f32)) (constant (F := Ideal) S_ .f32 0x00000000#32) reducesTo_S1x1024x1024_S1x1024_d2 h_S_)) (broadcastInDim S1x1024x1 ![] bcast_S_S1x1024x1 (constant (F := Ideal) S_ .f32 0x44800000#32))) (broadcastInDim S1x1024x1 ![] bcast_S_S1x1024x1 (constant (F := Ideal) S_ .f32 0x3727C5AC#32)))))) (broadcastInDim S1x1024x1024 ![0, 1, 2] bcast_S1x1x1024_S1x1024x1024_0_1_2 (broadcastInDim S1x1x1024 ![2] bcast_S1024_S1x1x1024_2 (V (Proc.devRef .tc main_arg12) : FVec Ideal S1024 .f32)))) (broadcastInDim S1x1024x1024 ![0, 1, 2] bcast_S1x1x1024_S1x1024x1024_0_1_2 (broadcastInDim S1x1x1024 ![2] bcast_S1024_S1x1x1024_2 (V (Proc.devRef .tc main_arg13) : FVec Ideal S1024 .f32)))) := by
    after_results
    all_goals rfl
  rw [hv]; clear hv
  pointwise
  simp only [h103, h110, h12, h13]
  rw [show Ideal.ofBits .f32 1149239296#32 = _ from ofBits_1024,
    show Ideal.ofBits .f32 925353388#32 = _ from ofBits_eps, rms_coe _ _ (by norm_num)]
  simp only [← EReal.coe_mul, ← EReal.coe_add]

/-! ## The projections and the scores -/

set_option maxHeartbeats 1000000 in
theorem rp_v123 (L : Fin 1024 → Fin 1024 → ℝ) (W : Fin 1024 → Fin 1024 → ℝ)
    (h121 : ∀ i j, after hostOps0_9 V (Proc.devRef .tc main_v121) (ix3 0 i j) = ((L i j : ℝ) : EReal))
    (hw : ∀ e k, V (Proc.devRef .tc main_arg14) (ix2 e k) = ((W e k : ℝ) : EReal)) (i : Fin 1024) (h : Fin 8) (d : Fin 128) :
    after hostOps0_9 V (Proc.devRef .tc main_v123) (ix4 0 i h d) = ((rowMul (L i) W (hcol h d) : ℝ) : EReal) := by
  have hv : @Eq (FVec Ideal S1x1024x8x128 .f32) (after hostOps0_9 V (Proc.devRef .tc main_v123)) (shapeCast S1x1024x8x128 (Host.dotGeneral (F := Ideal) (φ₁ := .f32) (φ₂ := .f32) dot_S1x1024x1024_S1024x1024_S1x1024x1024_2_0_01_1_n_n none ((after hostOps0_9 V (Proc.devRef .tc main_v121)) : FVec Ideal S1x1024x1024 .f32) (V (Proc.devRef .tc main_arg14) : FVec Ideal S1024x1024 .f32)) shapeCasts_S1x1024x1024_S1x1024x8x128) := by
    after_results
    all_goals rfl
  rw [hv]; clear hv
  pointwise
  simp only [h121, hw, ← EReal.coe_mul, ← coe_sum]
  have he : (⟨h.val * 128 + d.val, by omega⟩ : Fin 1024) = hcol h d := Fin.ext (by show h.val * 128 + d.val = (hcol h d).val; simp only [hcol]; omega)
  rw [he]
  rfl

set_option maxHeartbeats 1000000 in
theorem rp_v125 (L : Fin 2048 → Fin 1024 → ℝ) (W : Fin 1024 → Fin 1024 → ℝ)
    (h1 : ∀ i j, V (Proc.devRef .tc main_arg1) (ix3 0 i j) = ((L i j : ℝ) : EReal))
    (hw : ∀ e k, V (Proc.devRef .tc main_arg15) (ix2 e k) = ((W e k : ℝ) : EReal)) (i : Fin 2048) (h : Fin 8) (d : Fin 128) :
    after hostOps0_9 V (Proc.devRef .tc main_v125) (ix4 0 i h d) = ((rowMul (L i) W (hcol h d) : ℝ) : EReal) := by
  have hv : @Eq (FVec Ideal S1x2048x8x128 .f32) (after hostOps0_9 V (Proc.devRef .tc main_v125)) (shapeCast S1x2048x8x128 (Host.dotGeneral (F := Ideal) (φ₁ := .f32) (φ₂ := .f32) dot_S1x2048x1024_S1024x1024_S1x2048x1024_2_0_01_1_n_n none (V (Proc.devRef .tc main_arg1) : FVec Ideal S1x2048x1024 .f32) (V (Proc.devRef .tc main_arg15) : FVec Ideal S1024x1024 .f32)) shapeCasts_S1x2048x1024_S1x2048x8x128) := by
    after_results
    all_goals rfl
  rw [hv]; clear hv
  pointwise
  simp only [h1, hw, ← EReal.coe_mul, ← coe_sum]
  have he : (⟨h.val * 128 + d.val, by omega⟩ : Fin 1024) = hcol h d := Fin.ext (by show h.val * 128 + d.val = (hcol h d).val; simp only [hcol]; omega)
  rw [he]
  rfl

set_option maxHeartbeats 1000000 in
theorem rp_v127 (L : Fin 2048 → Fin 1024 → ℝ) (W : Fin 1024 → Fin 1024 → ℝ)
    (h1 : ∀ i j, V (Proc.devRef .tc main_arg1) (ix3 0 i j) = ((L i j : ℝ) : EReal))
    (hw : ∀ e k, V (Proc.devRef .tc main_arg16) (ix2 e k) = ((W e k : ℝ) : EReal)) (i : Fin 2048) (h : Fin 8) (d : Fin 128) :
    after hostOps0_9 V (Proc.devRef .tc main_v127) (ix4 0 i h d) = ((rowMul (L i) W (hcol h d) : ℝ) : EReal) := by
  have hv : @Eq (FVec Ideal S1x2048x8x128 .f32) (after hostOps0_9 V (Proc.devRef .tc main_v127)) (shapeCast S1x2048x8x128 (Host.dotGeneral (F := Ideal) (φ₁ := .f32) (φ₂ := .f32) dot_S1x2048x1024_S1024x1024_S1x2048x1024_2_0_01_1_n_n none (V (Proc.devRef .tc main_arg1) : FVec Ideal S1x2048x1024 .f32) (V (Proc.devRef .tc main_arg16) : FVec Ideal S1024x1024 .f32)) shapeCasts_S1x2048x1024_S1x2048x8x128) := by
    after_results
    all_goals rfl
  rw [hv]; clear hv
  pointwise
  simp only [h1, hw, ← EReal.coe_mul, ← coe_sum]
  have he : (⟨h.val * 128 + d.val, by omega⟩ : Fin 1024) = hcol h d := Fin.ext (by show h.val * 128 + d.val = (hcol h d).val; simp only [hcol]; omega)
  rw [he]
  rfl

set_option maxHeartbeats 1000000 in
theorem rp_v130 (Q : Fin 1024 → Fin 1024 → ℝ) (K : Fin 2048 → Fin 1024 → ℝ)
    (hq : ∀ i h d, after hostOps0_9 V (Proc.devRef .tc main_v123) (ix4 0 i h d) = ((Q i (hcol h d) : ℝ) : EReal))
    (hk : ∀ i h d, after hostOps0_9 V (Proc.devRef .tc main_v125) (ix4 0 i h d) = ((K i (hcol h d) : ℝ) : EReal))
    (h : Fin 8) (i : Fin 1024) (s : Fin 2048) :
    after hostOps0_9 V (Proc.devRef .tc main_v130) (ix4 0 h i s) = ((score (Q i) K h s : ℝ) : EReal) := by
  have hv : @Eq (FVec Ideal S1x8x1024x2048 .f32) (after hostOps0_9 V (Proc.devRef .tc main_v130)) (mulf (F := Ideal) (Host.dotGeneral (F := Ideal) (φ₁ := .f32) (φ₂ := .f32) dot_S1x1024x8x128_S1x2048x8x128_S1x8x1024x2048_3_3_1_1_02_02 none ((after hostOps0_9 V (Proc.devRef .tc main_v123)) : FVec Ideal S1x1024x8x128 .f32) ((after hostOps0_9 V (Proc.devRef .tc main_v125)) : FVec Ideal S1x2048x8x128 .f32)) (broadcastInDim S1x8x1024x2048 ![] bcast_S_S1x8x1024x2048 (constant (F := Ideal) S_ .f32 0x3DB504F3#32))) := by
    after_results
    all_goals rfl
  rw [hv]; clear hv
  pointwise
  rw [show Ideal.ofBits .f32 1035273459#32 = _ from ofBits_scale]
  simp only [hq, hk, ← EReal.coe_mul, ← coe_sum]
  unfold score
  rw [Finset.sum_mul]
  congr 1
  exact Finset.sum_congr rfl fun d _ => by ring

theorem rp_v131 (h2 : V (Proc.devRef .tc main_arg2) = fun _ => (0#1 : BitVec 1)) (s : Fin 2048) :
    after hostOps0_9 V (Proc.devRef .tc main_v131) (ix4 0 0 0 s) = (0#1 : BitVec 1) := by
  have hv : @Eq (IVec S1x1x1x2048 1) (after hostOps0_9 V (Proc.devRef .tc main_v131)) (broadcastInDim S1x1x1x2048 ![0, 3] bcast_S1x2048_S1x1x1x2048_0_3 (V (Proc.devRef .tc main_arg2) : IVec S1x2048 1)) := by
    after_results
    all_goals rfl
  rw [hv]; clear hv
  rw [h2]
  pointwise

theorem rp_v132 (S : Fin 8 → Fin 1024 → Fin 2048 → ℝ)
    (h131 : ∀ s, V (Proc.devRef .tc main_v131) (ix4 0 0 0 s) = (0#1 : BitVec 1))
    (h130 : ∀ h i s, V (Proc.devRef .tc main_v130) (ix4 0 h i s) = ((S h i s : ℝ) : EReal)) (h : Fin 8) (i : Fin 1024) (s : Fin 2048) :
    after hostOps0_10 V (Proc.devRef .tc main_v132) (ix4 0 h i s) = ((S h i s : ℝ) : EReal) := by
  have hv : @Eq (FVec Ideal S1x8x1024x2048 .f32) (after hostOps0_10 V (Proc.devRef .tc main_v132)) (select (broadcastInDim S1x8x1024x2048 ![0, 1, 2, 3] bcast_S1x1x1x2048_S1x8x1024x2048_0_1_2_3 (V (Proc.devRef .tc main_v131) : IVec S1x1x1x2048 1)) (broadcastInDim S1x8x1024x2048 ![] bcast_S_S1x8x1024x2048 (V (Proc.devRef .tc main_cst_15) : FVec Ideal S_ .f32)) (V (Proc.devRef .tc main_v130) : FVec Ideal S1x8x1024x2048 .f32)) := by
    after_results
    all_goals rfl
  rw [hv]; clear hv
  pointwise
  rw [h131, h130]
  rfl

/-! ## The attention -/

/-- The largest score of a row. -/
theorem rp_v133 (S : Fin 8 → Fin 1024 → Fin 2048 → ℝ)
    (h132 : ∀ h i s, V (Proc.devRef .tc main_v132) (ix4 0 h i s) = ((S h i s : ℝ) : EReal)) (h : Fin 8) (i : Fin 1024) :
    after hostOps0_11 V (Proc.devRef .tc main_v133) (ix3 0 h i)
      = ((Finset.univ.sup' Finset.univ_nonempty (S h i) : ℝ) : EReal) := by
  have hv : @Eq (FVec Ideal S1x8x1024 .f32) (after hostOps0_11 V (Proc.devRef .tc main_v133)) (Host.reduce (FloatOps.maximumf (F := Ideal) (φ := .f32)) (V (Proc.devRef .tc main_v132) : FVec Ideal S1x8x1024x2048 .f32) (constant (F := Ideal) S_ .f32 0xFF800000#32) reducesTo_S1x8x1024x2048_S1x8x1024_d3 h_S_) := by
    after_results
    all_goals rfl
  rw [hv]; clear hv
  generalize V (Proc.devRef .tc main_v132) = M at h132 ⊢
  pointwise
  rw [show Ideal.ofBits .f32 4286578688#32 = _ from ofBits_bot]
  refine (Shape.ReducesTo.fold_fiber_r4_a3 (n0 := 1) (n1 := 8) (n2 := 1024) (n3 := 2048)
    reducesTo_S1x8x1024x2048_S1x8x1024_d3 (ix3 0 h i) (α := EReal) max ⊥ M).trans ?_
  rw [← fold_max_coe]
  exact congrArg (fun f => Finset.univ.fold max (⊥ : EReal) f) (funext fun k => h132 h i k)

/-- A row less a value per row, exponentiated. -/
theorem exp_row (A : FVec Ideal S1x8x1024x2048 .f32) (M : FVec Ideal S1x8x1024 .f32) (h : Fin 8) (i : Fin 1024) (s : Fin 2048) :
    Host.exp (F := Ideal) (subf (F := Ideal) A
      (broadcastInDim S1x8x1024x2048 ![0, 1, 2, 3] bcast_S1x8x1024x1_S1x8x1024x2048_0_1_2_3
        (broadcastInDim S1x8x1024x1 ![0, 1, 2] bcast_S1x8x1024_S1x8x1024x1_0_1_2 M))) (ix4 0 h i s)
      = Ideal.exp (A (ix4 0 h i s) - M (ix3 0 h i)) := by
  pointwise

/-- The larger of −∞ and a value is the value. -/
theorem max_bot_row (M : FVec Ideal S1x8x1024 .f32) (h : Fin 8) (i : Fin 1024) :
    maximumf (F := Ideal) (broadcastInDim S1x8x1024 ![] bcast_S_S1x8x1024 (constant (F := Ideal) S_ .f32 0xFF800000#32)) M (ix3 0 h i)
      = M (ix3 0 h i) := by
  pointwise
  rw [show Ideal.ofBits .f32 4286578688#32 = _ from ofBits_bot]
  exact max_eq_right bot_le

theorem rp_v139 (S : Fin 8 → Fin 1024 → Fin 2048 → ℝ)
    (h132 : ∀ h i s, V (Proc.devRef .tc main_v132) (ix4 0 h i s) = ((S h i s : ℝ) : EReal))
    (h133 : ∀ h i, after hostOps0_11 V (Proc.devRef .tc main_v133) (ix3 0 h i)
      = ((Finset.univ.sup' Finset.univ_nonempty (S h i) : ℝ) : EReal)) (h : Fin 8) (i : Fin 1024) (s : Fin 2048) :
    after hostOps0_11 V (Proc.devRef .tc main_v139) (ix4 0 h i s) = ((sexp (S h i) s : ℝ) : EReal) := by
  have hv : @Eq (FVec Ideal S1x8x1024x2048 .f32) (after hostOps0_11 V (Proc.devRef .tc main_v139)) (Host.exp (F := Ideal) (subf (F := Ideal) (V (Proc.devRef .tc main_v132) : FVec Ideal S1x8x1024x2048 .f32) (broadcastInDim S1x8x1024x2048 ![0, 1, 2, 3] bcast_S1x8x1024x1_S1x8x1024x2048_0_1_2_3 (broadcastInDim S1x8x1024x1 ![0, 1, 2] bcast_S1x8x1024_S1x8x1024x1_0_1_2 (maximumf (F := Ideal) (broadcastInDim S1x8x1024 ![] bcast_S_S1x8x1024 (constant (F := Ideal) S_ .f32 0xFF800000#32)) ((after hostOps0_11 V (Proc.devRef .tc main_v133)) : FVec Ideal S1x8x1024 .f32)))))) := by
    after_results
    all_goals rfl
  rw [hv]; clear hv
  refine (exp_row _ _ h i s).trans ?_
  rw [max_bot_row, h132, h133, ← EReal.coe_sub, exp_coe]
  rfl

set_option maxHeartbeats 1000000 in
theorem rp_v143 (E : Fin 8 → Fin 1024 → Fin 2048 → ℝ) (hE : ∀ h i, 0 < ∑ s, E h i s)
    (h139 : ∀ h i s, after hostOps0_11 V (Proc.devRef .tc main_v139) (ix4 0 h i s) = ((E h i s : ℝ) : EReal))
    (h : Fin 8) (i : Fin 1024) (s : Fin 2048) :
    after hostOps0_11 V (Proc.devRef .tc main_v143) (ix4 0 h i s) = ((E h i s / ∑ s, E h i s : ℝ) : EReal) := by
  have hv : @Eq (FVec Ideal S1x8x1024x2048 .f32) (after hostOps0_11 V (Proc.devRef .tc main_v143)) (Host.divf (F := Ideal) ((after hostOps0_11 V (Proc.devRef .tc main_v139)) : FVec Ideal S1x8x1024x2048 .f32) (broadcastInDim S1x8x1024x2048 ![0, 1, 2, 3] bcast_S1x8x1024x1_S1x8x1024x2048_0_1_2_3 (broadcastInDim S1x8x1024x1 ![0, 1, 2] bcast_S1x8x1024_S1x8x1024x1_0_1_2 (Host.reduceAdd (F := Ideal) ((after hostOps0_11 V (Proc.devRef .tc main_v139)) : FVec Ideal S1x8x1024x2048 .f32) (constant (F := Ideal) S_ .f32 0x00000000#32) reducesTo_S1x8x1024x2048_S1x8x1024_d3 h_S_)))) := by
    after_results
    all_goals rfl
  rw [hv]; clear hv
  pointwise
  simp only [h139, ← coe_sum]
  exact div_coe _ _ (hE h i).ne'

set_option maxHeartbeats 1000000 in
theorem rp_v146 (P : Fin 8 → Fin 1024 → Fin 2048 → ℝ) (K : Fin 2048 → Fin 1024 → ℝ)
    (h143 : ∀ h i s, after hostOps0_11 V (Proc.devRef .tc main_v143) (ix4 0 h i s) = ((P h i s : ℝ) : EReal))
    (h127 : ∀ i h d, V (Proc.devRef .tc main_v127) (ix4 0 i h d) = ((K i (hcol h d) : ℝ) : EReal))
    (i : Fin 1024) (e : Fin 1024) :
    after hostOps0_11 V (Proc.devRef .tc main_v146) (ix3 0 i e)
      = ((∑ s, K s e * P ⟨e.val / 128, by omega⟩ i s : ℝ) : EReal) := by
  have hv : @Eq (FVec Ideal S1x1024x1024 .f32) (after hostOps0_11 V (Proc.devRef .tc main_v146)) (shapeCast S1x1024x1024 (transpose S1x1024x8x128 [0, 3, 1, 2] (Host.dotGeneral (F := Ideal) (φ₁ := .f32) (φ₂ := .f32) dot_S1x2048x8x128_S1x8x1024x2048_S1x8x128x1024_1_3_3_2_02_01 none (V (Proc.devRef .tc main_v127) : FVec Ideal S1x2048x8x128 .f32) ((after hostOps0_11 V (Proc.devRef .tc main_v143)) : FVec Ideal S1x8x1024x2048 .f32)) transposes_S1x8x128x1024_S1x1024x8x128_0_3_1_2) shapeCasts_S1x1024x8x128_S1x1024x1024) := by
    after_results
    all_goals rfl
  rw [hv]; clear hv
  pointwise
  simp only [h143, h127, ← EReal.coe_mul, ← coe_sum]
  have he : hcol ⟨e.val / 128, by omega⟩ ⟨e.val % 128, by omega⟩ = e := Fin.ext (by simp only [hcol]; omega)
  rw [he]

set_option maxHeartbeats 1000000 in
theorem rp_v148 (T H : Fin 1024 → Fin 1024 → ℝ) (W : Fin 1024 → Fin 1024 → ℝ)
    (h146 : ∀ i e, after hostOps0_11 V (Proc.devRef .tc main_v146) (ix3 0 i e) = ((T i e : ℝ) : EReal))
    (h97 : ∀ i j, V (Proc.devRef .tc main_v97) (ix3 0 i j) = ((H i j : ℝ) : EReal))
    (hw : ∀ e k, V (Proc.devRef .tc main_arg17) (ix2 e k) = ((W e k : ℝ) : EReal)) (i : Fin 1024) (j : Fin 1024) :
    after hostOps0_11 V (Proc.devRef .tc main_v148) (ix3 0 i j) = ((H i j + rowMul (T i) W j : ℝ) : EReal) := by
  have hv : @Eq (FVec Ideal S1x1024x1024 .f32) (after hostOps0_11 V (Proc.devRef .tc main_v148)) (addf (F := Ideal) (V (Proc.devRef .tc main_v97) : FVec Ideal S1x1024x1024 .f32) (Host.dotGeneral (F := Ideal) (φ₁ := .f32) (φ₂ := .f32) dot_S1x1024x1024_S1024x1024_S1x1024x1024_2_0_01_1_n_n none ((after hostOps0_11 V (Proc.devRef .tc main_v146)) : FVec Ideal S1x1024x1024 .f32) (V (Proc.devRef .tc main_arg17) : FVec Ideal S1024x1024 .f32))) := by
    after_results
    all_goals rfl
  rw [hv]; clear hv
  pointwise
  simp only [h146, h97, hw, ← EReal.coe_mul, ← coe_sum, ← EReal.coe_add]
  rfl

end Cert.Proof

end
-- ==== Proof.RefLoop.lean ====
/-
  The reference's loop, on real arguments: after `k` trips the state is the recurrence's value, and the first `k` rows of
  the output are the state read by `C`.
-/
module

public import proofs.«01_k».proof.Proof.Block
public import proofs.«01_k».proof.Proof.Gen.ReferenceIdeal.Run
public import Idealize.ShloMosaic.Lib.Pointwise
public import Idealize.ShloMosaic.Lib.DynamicIndex
public import Idealize.ShloMosaic.Lib.Pipeline.Value

@[expose] public section

set_option maxRecDepth 16384

noncomputable section

namespace Cert.Proof

open Idealize.ShloMosaic Cert.ReferenceIdeal Cert.ReferenceIdeal.Gen Cert.ReferenceIdeal.Value
open Idealize.ShloMosaic.TcCoe Idealize.ShloMosaic.StableHlo
open scoped BigOperators

theorem ds_a_sl (k : Fin 1024) : S1024x1x32.Slices ![k.val, 0, 0] S1x1x32 := by
  refine ⟨rfl, ?_⟩
  show ∀ a : Fin 3, _
  intro a
  have := k.isLt
  fin_cases a
  · show k.val + 1 ≤ 1024
    omega
  · show 0 + 1 ≤ 1
    omega
  · show 0 + 32 ≤ 32
    omega

theorem ds_a (x : FVec Ideal S1024x1x32 .f32) (k : Fin 1024) :
    Host.dynamicSlice S1x1x32 x (fun a => (((![fun _ => BitVec.ofNat 32 k.val, constantI S_ 32 0#32, constantI S_ 32 0#32] :
      Fin 3 → (⟨S_, .i32⟩ : BufTy).Contents (Elt Ideal))) a (Shape.Idx.first h_S_)).toInt) sliceFits_S1024x1x32_S1x1x32
      = extractStridedSlice S1x1x32 ![k.val, 0, 0] x (ds_a_sl k) := by
  refine Host.dynamicSlice_eq_extractStridedSlice _ _ _ _ _ _ ?_
  show ∀ a : Fin 3, _
  intro a
  have := k.isLt
  fin_cases a
  · exact toInt_ofNat_of_lt (by omega)
  · rfl
  · rfl

theorem ds_b_sl (k : Fin 1024) : S1024x1x32x64.Slices ![k.val, 0, 0, 0] S1x1x32x64 := by
  refine ⟨rfl, ?_⟩
  show ∀ a : Fin 4, _
  intro a
  have := k.isLt
  fin_cases a
  · show k.val + 1 ≤ 1024
    omega
  · show 0 + 1 ≤ 1
    omega
  · show 0 + 32 ≤ 32
    omega
  · show 0 + 64 ≤ 64
    omega

theorem ds_b (x : FVec Ideal S1024x1x32x64 .f32) (k : Fin 1024) :
    Host.dynamicSlice S1x1x32x64 x (fun a => (((![fun _ => BitVec.ofNat 32 k.val, constantI S_ 32 0#32, constantI S_ 32 0#32, constantI S_ 32 0#32] :
      Fin 4 → (⟨S_, .i32⟩ : BufTy).Contents (Elt Ideal))) a (Shape.Idx.first h_S_)).toInt) sliceFits_S1024x1x32x64_S1x1x32x64
      = extractStridedSlice S1x1x32x64 ![k.val, 0, 0, 0] x (ds_b_sl k) := by
  refine Host.dynamicSlice_eq_extractStridedSlice _ _ _ _ _ _ ?_
  show ∀ a : Fin 4, _
  intro a
  have := k.isLt
  fin_cases a
  · exact toInt_ofNat_of_lt (by omega)
  · rfl
  · rfl
  · rfl

theorem ds_c_sl (k : Fin 1024) : S1024x1x128.Slices ![k.val, 0, 0] S1x1x128 := by
  refine ⟨rfl, ?_⟩
  show ∀ a : Fin 3, _
  intro a
  have := k.isLt
  fin_cases a
  · show k.val + 1 ≤ 1024
    omega
  · show 0 + 1 ≤ 1
    omega
  · show 0 + 128 ≤ 128
    omega

theorem ds_c (x : FVec Ideal S1024x1x128 .f32) (k : Fin 1024) :
    Host.dynamicSlice S1x1x128 x (fun a => (((![fun _ => BitVec.ofNat 32 k.val, constantI S_ 32 0#32, constantI S_ 32 0#32] :
      Fin 3 → (⟨S_, .i32⟩ : BufTy).Contents (Elt Ideal))) a (Shape.Idx.first h_S_)).toInt) sliceFits_S1024x1x128_S1x1x128
      = extractStridedSlice S1x1x128 ![k.val, 0, 0] x (ds_c_sl k) := by
  refine Host.dynamicSlice_eq_extractStridedSlice _ _ _ _ _ _ ?_
  show ∀ a : Fin 3, _
  intro a
  have := k.isLt
  fin_cases a
  · exact toInt_ofNat_of_lt (by omega)
  · rfl
  · rfl

theorem us_d (x : FVec Ideal S1024x1x32x64 .f32) (y : FVec Ideal S1x1x32x64 .f32) (k : Fin 1024) :
    Host.dynamicUpdateSlice x y (fun a => (((![fun _ => BitVec.ofNat 32 k.val, constantI S_ 32 0#32, constantI S_ 32 0#32, constantI S_ 32 0#32] :
      Fin 4 → (⟨S_, .i32⟩ : BufTy).Contents (Elt Ideal))) a (Shape.Idx.first h_S_)).toInt) updateFits_S1024x1x32x64_S1x1x32x64
      = updateSlice x y ![k.val, 0, 0, 0] (ds_b_sl k) := by
  refine Host.dynamicUpdateSlice_eq_updateSlice _ _ _ _ _ ?_ _
  show ∀ a : Fin 4, _
  intro a
  have := k.isLt
  fin_cases a
  · show (min (max ((BitVec.ofNat 32 k.val).toInt) 0) ((1024 - 1 : ℕ) : ℤ)).toNat = k.val
    rw [toInt_ofNat_of_lt (by omega)]
    omega
  · rfl
  · rfl
  · rfl

variable (V : Valuation τ sig (Elt Ideal))

set_option maxHeartbeats 1000000 in
theorem rl_state (k : Fin 1024) (h4 : V (Proc.devRef .tc main_v74_4) = fun _ => BitVec.ofNat 32 k.val)
    (h : Fin 32) (p : Fin 64) (n : Fin 128) (s d u b : ℝ)
    (h5 : V (Proc.devRef .tc main_v74_5) (ix4 0 h p n) = ((s : ℝ) : EReal))
    (h0 : V (Proc.devRef .tc main_v74_0) (ix3 k 0 h) = ((d : ℝ) : EReal))
    (h1 : V (Proc.devRef .tc main_v74_1) (ix4 k 0 h p) = ((u : ℝ) : EReal))
    (h2 : V (Proc.devRef .tc main_v74_2) (ix3 k 0 n) = ((b : ℝ) : EReal)) :
    step_main_v74_5 V (ix4 0 h p n) = ((s * d + u * b : ℝ) : EReal) := by
  have e : @Eq (FVec Ideal S1x32x64x128 .f32) (step_main_v74_5 V) (addf (F := Ideal) (mulf (F := Ideal) ((V (Proc.devRef .tc main_v74_5) : FVec Ideal S1x32x64x128 .f32)) (broadcastInDim S1x32x64x128 ![0, 1, 2, 3] bcast_S1x32x1x1_S1x32x64x128_0_1_2_3 (broadcastInDim S1x32x1x1 ![0, 1] bcast_S1x32_S1x32x1x1_0_1 (shapeCast S1x32 (Host.dynamicSlice (s := S1024x1x32) (α := Ideal .f32) S1x1x32 (V (Proc.devRef .tc main_v74_0)) (fun k_1 => (((![fun _ => BitVec.ofNat 32 k.val, constantI S_ 32 0#32, constantI S_ 32 0#32] : Fin 3 → (⟨S_, .i32⟩ : BufTy).Contents (Elt Ideal))) k_1 (Shape.Idx.first h_S_)).toInt) sliceFits_S1024x1x32_S1x1x32) shapeCasts_S1x1x32_S1x32)))) (mulf (F := Ideal) (broadcastInDim S1x32x64x128 ![0, 1, 2, 3] bcast_S1x32x64x1_S1x32x64x128_0_1_2_3 (broadcastInDim S1x32x64x1 ![0, 1, 2] bcast_S1x32x64_S1x32x64x1_0_1_2 (shapeCast S1x32x64 (Host.dynamicSlice (s := S1024x1x32x64) (α := Ideal .f32) S1x1x32x64 (V (Proc.devRef .tc main_v74_1)) (fun k_1 => (((![fun _ => BitVec.ofNat 32 k.val, constantI S_ 32 0#32, constantI S_ 32 0#32, constantI S_ 32 0#32] : Fin 4 → (⟨S_, .i32⟩ : BufTy).Contents (Elt Ideal))) k_1 (Shape.Idx.first h_S_)).toInt) sliceFits_S1024x1x32x64_S1x1x32x64) shapeCasts_S1x1x32x64_S1x32x64))) (broadcastInDim S1x32x64x128 ![0, 1, 2, 3] bcast_S1x1x1x128_S1x32x64x128_0_1_2_3 (broadcastInDim S1x1x1x128 ![0, 3] bcast_S1x128_S1x1x1x128_0_3 (shapeCast S1x128 (Host.dynamicSlice (s := S1024x1x128) (α := Ideal .f32) S1x1x128 (V (Proc.devRef .tc main_v74_2)) (fun k_1 => (((![fun _ => BitVec.ofNat 32 k.val, constantI S_ 32 0#32, constantI S_ 32 0#32] : Fin 3 → (⟨S_, .i32⟩ : BufTy).Contents (Elt Ideal))) k_1 (Shape.Idx.first h_S_)).toInt) sliceFits_S1024x1x128_S1x1x128) shapeCasts_S1x1x128_S1x128))))) := by
    unfold step_main_v74_5 res_main_while0b_v161
    rw [h4]
    rfl
  rw [e, ds_a, ds_b, ds_c]
  pointwise
  rw [h5, h0, h1, h2, ← EReal.coe_mul, ← EReal.coe_mul, ← EReal.coe_add]

set_option maxHeartbeats 1000000 in
theorem rl_out (k : Fin 1024) (h4 : V (Proc.devRef .tc main_v74_4) = fun _ => BitVec.ofNat 32 k.val)
    (t : Fin 1024) (h : Fin 32) (p : Fin 64) (S C : Fin 128 → ℝ) (y : ℝ)
    (h5 : ∀ n, step_main_v74_5 V (ix4 0 h p n) = ((S n : ℝ) : EReal))
    (h3 : ∀ n, V (Proc.devRef .tc main_v74_3) (ix3 k 0 n) = ((C n : ℝ) : EReal))
    (h6 : t ≠ k → V (Proc.devRef .tc main_v74_6) (ix4 t 0 h p) = ((y : ℝ) : EReal)) :
    step_main_v74_6 V (ix4 t 0 h p) = ((if t = k then ∑ n, S n * C n else y : ℝ) : EReal) := by
  unfold step_main_v74_5 at h5
  dsimp only [id_eq] at h5
  have e : @Eq (FVec Ideal S1024x1x32x64 .f32) (step_main_v74_6 V) ((Host.dynamicUpdateSlice ((V (Proc.devRef .tc main_v74_6) : FVec Ideal S1024x1x32x64 .f32)) (broadcastInDim S1x1x32x64 ![1, 2, 3] bcast_S1x32x64_S1x1x32x64_1_2_3 (Host.dotGeneral (F := Ideal) (φ₁ := .f32) (φ₂ := .f32) dot_S1x32x64x128_S1x128_S1x32x64_3_1_12_n_0_0 none (res_main_while0b_v161 V : FVec Ideal S1x32x64x128 .f32) (shapeCast S1x128 (Host.dynamicSlice (s := S1024x1x128) (α := Ideal .f32) S1x1x128 (V (Proc.devRef .tc main_v74_3)) (fun k_1 => (((![fun _ => BitVec.ofNat 32 k.val, constantI S_ 32 0#32, constantI S_ 32 0#32] : Fin 3 → (⟨S_, .i32⟩ : BufTy).Contents (Elt Ideal))) k_1 (Shape.Idx.first h_S_)).toInt) sliceFits_S1024x1x128_S1x1x128) shapeCasts_S1x1x128_S1x128))) (fun k_1 => (((![fun _ => BitVec.ofNat 32 k.val, constantI S_ 32 0#32, constantI S_ 32 0#32, constantI S_ 32 0#32] : Fin 4 → (⟨S_, .i32⟩ : BufTy).Contents (Elt Ideal))) k_1 (Shape.Idx.first h_S_)).toInt) updateFits_S1024x1x32x64_S1x1x32x64)) := by
    unfold step_main_v74_6
    rw [h4]
    rfl
  rw [e, us_d, ds_c]
  pointwise
  by_cases htk : t = k
  · subst htk
    rw [dif_pos ⟨le_rfl, by omega⟩, if_pos rfl]
    simp only [h5, h3, ← EReal.coe_mul, ← coe_sum]
  · rw [dif_neg (fun hh => htk (Fin.ext (by omega))), if_neg htk, h6 htk]

/-- What the carried buffers hold after `k` trips. -/
structure LoopAt (A : Fin 1024 → Fin 32 → ℝ) (U : Fin 1024 → Fin 32 → Fin 64 → ℝ) (B C : Fin 1024 → Fin 128 → ℝ) (k : ℕ)
    (V : Valuation τ sig (Elt Ideal)) : Prop where
  e0 : ∀ t h, V (Proc.devRef .tc main_v74_0) (ix3 t 0 h) = ((Real.exp (A t h) : ℝ) : EReal)
  e1 : ∀ t h p, V (Proc.devRef .tc main_v74_1) (ix4 t 0 h p) = ((U t h p : ℝ) : EReal)
  e2 : ∀ t n, V (Proc.devRef .tc main_v74_2) (ix3 t 0 n) = ((B t n : ℝ) : EReal)
  e3 : ∀ t n, V (Proc.devRef .tc main_v74_3) (ix3 t 0 n) = ((C t n : ℝ) : EReal)
  e4 : V (Proc.devRef .tc main_v74_4) = fun _ => BitVec.ofNat 32 k
  e5 : ∀ h p n, V (Proc.devRef .tc main_v74_5) (ix4 0 h p n)
    = ((rst (fun t => A (tm t) h) (fun t => U (tm t) h p * B (tm t) n) k : ℝ) : EReal)
  e6 : ∀ (t : Fin 1024) h p, t.val < k → V (Proc.devRef .tc main_v74_6) (ix4 t 0 h p)
    = ((∑ n, rst (fun t => A (tm t) h) (fun t => U (tm t) h p * B (tm t) n) (t.val + 1) * C t n : ℝ) : EReal)

variable (A : Fin 1024 → Fin 32 → ℝ) (U : Fin 1024 → Fin 32 → Fin 64 → ℝ) (B C : Fin 1024 → Fin 128 → ℝ)

theorem loop_step (k : ℕ) (hk : k < 1024) (H : LoopAt A U B C k V) : LoopAt A U B C (k + 1) (STEP V) := by
  have hs : ∀ h p n, step_main_v74_5 V (ix4 0 h p n)
      = ((rst (fun t => A (tm t) h) (fun t => U (tm t) h p * B (tm t) n) (k + 1) : ℝ) : EReal) := by
    intro h p n
    have htm : tm k = ⟨k, hk⟩ := tm_val ⟨k, hk⟩
    rw [rl_state V ⟨k, hk⟩ H.e4 h p n _ _ _ _ (H.e5 h p n) (H.e0 _ h) (H.e1 _ h p) (H.e2 _ n)]
    simp only [rst, htm]
  refine ⟨?_, ?_, ?_, ?_, ?_, ?_, ?_⟩
  · rw [STEP_main_v74_0]; exact H.e0
  · rw [STEP_main_v74_1]; exact H.e1
  · rw [STEP_main_v74_2]; exact H.e2
  · rw [STEP_main_v74_3]; exact H.e3
  · rw [STEP_main_v74_4]
    unfold step_main_v74_4
    rw [H.e4]
    funext _
    show BitVec.ofNat 32 k + 1#32 = BitVec.ofNat 32 (k + 1)
    exact BitVec.ofNat_add_ofNat k 1
  · rw [STEP_main_v74_5]; exact hs
  · intro t h p ht
    rw [STEP_main_v74_6, rl_out V ⟨k, hk⟩ H.e4 t h p _ _
      (∑ n, rst (fun t => A (tm t) h) (fun t => U (tm t) h p * B (tm t) n) (t.val + 1) * C t n)
      (fun n => hs h p n) (fun n => H.e3 _ n)
      (fun hne => H.e6 t h p (by have : t.val ≠ k := fun e => hne (Fin.ext e); omega))]
    by_cases e : t = ⟨k, hk⟩
    · subst e
      rw [if_pos rfl]
    · rw [if_neg e]

/-- The carried buffers after `k` trips. -/
theorem loop_iter (H : LoopAt A U B C 0 V) : ∀ k, k ≤ 1024 → LoopAt A U B C k (STEP^[k] V)
  | 0, _ => H
  | k + 1, hk => by
    rw [Function.iterate_succ_apply']
    exact loop_step _ A U B C k (by omega) (loop_iter H k (by omega))

end Cert.Proof

end
-- ==== Proof.RefKeep.lean ====
/-
  Which buffers the stretches of the reference leave alone.
-/
module

public import proofs.«01_k».proof.Proof.Block
public import proofs.«01_k».proof.Proof.Gen.ReferenceIdeal.Run

@[expose] public section

set_option maxRecDepth 16384

noncomputable section

namespace Cert.Proof

open Idealize.ShloMosaic Cert.ReferenceIdeal Cert.ReferenceIdeal.Gen Cert.ReferenceIdeal.Value
open Idealize.ShloMosaic.TcCoe Idealize.ShloMosaic.StableHlo

/-- What stretch 7 writes. -/
abbrev post7 : List (Ref sig .tc) :=
  [main_v75, main_v76, main_v77, main_v78, main_v79, main_v80]

/-- What stretch 8 writes. -/
abbrev post8 : List (Ref sig .tc) :=
  [main_call8_v0, main_call8_v1, main_call8_cst, main_call8_v2, main_call8_v3, main_call8_cst_0, main_call8_v4, main_call8_v5,
    main_v81]

/-- What stretch 9 writes. -/
abbrev post9 : List (Ref sig .tc) :=
  [main_v82, main_v83, main_cst_6, main_v84, main_v85, main_cst_7, main_v86, main_v87,
    main_cst_8, main_v88, main_v89, main_v90, main_v91, main_v92, main_v93, main_v94,
    main_v95, main_v96, main_v97, main_cst_9, main_v98, main_v99, main_cst_10, main_v100,
    main_v101, main_v102, main_v103, main_v104, main_cst_11, main_v105, main_v106, main_cst_12,
    main_v107, main_v108, main_v109, main_v110, main_cst_13, main_v111, main_v112, main_v113,
    main_v114, main_v115, main_v116, main_v117, main_v118, main_v119, main_v120, main_v121,
    main_v122, main_v123, main_v124, main_v125, main_v126, main_v127, main_v128, main_cst_14,
    main_v129, main_v130, main_v131, main_cst_15]

/-- What stretch 10 writes. -/
abbrev post10 : List (Ref sig .tc) :=
  [main_call9_v0, main_call9_v1, main_v132]

/-- What stretch 11 writes. -/
abbrev post11 : List (Ref sig .tc) :=
  [main_cst_16, main_v133, main_cst_17, main_v134, main_v135, main_v136, main_v137, main_v138,
    main_v139, main_cst_18, main_v140, main_v141, main_v142, main_v143, main_v144, main_v145,
    main_v146, main_v147, main_v148]

variable (V : Valuation τ sig (Elt Ideal)) (r : Ref sig .tc)

theorem keep0 (h : r ∉ hostOps0_W) : after (hostOps0 (F := Ideal)) V (Proc.devRef .tc r) = V (Proc.devRef .tc r) :=
  after_of_writes_sub _ V (hostOps0_writes (F := Ideal)) h

theorem keep1 (h : r ∉ hostOps0_1_W) : after (hostOps0_1 (F := Ideal)) V (Proc.devRef .tc r) = V (Proc.devRef .tc r) :=
  after_of_writes_sub _ V (hostOps0_1_writes (F := Ideal)) h

theorem keep2 (h : r ∉ hostOps0_2_W) : after (hostOps0_2 (F := Ideal)) V (Proc.devRef .tc r) = V (Proc.devRef .tc r) :=
  after_of_writes_sub _ V (hostOps0_2_writes (F := Ideal)) h

theorem keep3 (h : r ∉ hostOps0_3_W) : after (hostOps0_3 (F := Ideal)) V (Proc.devRef .tc r) = V (Proc.devRef .tc r) :=
  after_of_writes_sub _ V (hostOps0_3_writes (F := Ideal)) h

theorem keep4 (h : r ∉ hostOps0_4_W) : after (hostOps0_4 (F := Ideal)) V (Proc.devRef .tc r) = V (Proc.devRef .tc r) :=
  after_of_writes_sub _ V (hostOps0_4_writes (F := Ideal)) h

theorem keep5 (h : r ∉ hostOps0_5_W) : after (hostOps0_5 (F := Ideal)) V (Proc.devRef .tc r) = V (Proc.devRef .tc r) :=
  after_of_writes_sub _ V (hostOps0_5_writes (F := Ideal)) h

theorem keep6 (h : r ∉ hostOps0_6_W) : after (hostOps0_6 (F := Ideal)) V (Proc.devRef .tc r) = V (Proc.devRef .tc r) :=
  after_of_writes_sub _ V (hostOps0_6_writes (F := Ideal)) h

theorem keep7 (h : r ∉ post7) : after (hostOps0_7 (F := Ideal)) V (Proc.devRef .tc r) = V (Proc.devRef .tc r) :=
  after_of_writes_sub _ V (StableHlo.forall_writes_sub_of_map rfl) h

theorem keep8 (h : r ∉ post8) : after (hostOps0_8 (F := Ideal)) V (Proc.devRef .tc r) = V (Proc.devRef .tc r) :=
  after_of_writes_sub _ V (StableHlo.forall_writes_sub_of_map rfl) h

theorem keep9 (h : r ∉ post9) : after (hostOps0_9 (F := Ideal)) V (Proc.devRef .tc r) = V (Proc.devRef .tc r) :=
  after_of_writes_sub _ V (StableHlo.forall_writes_sub_of_map rfl) h

theorem keep10 (h : r ∉ post10) : after (hostOps0_10 (F := Ideal)) V (Proc.devRef .tc r) = V (Proc.devRef .tc r) :=
  after_of_writes_sub _ V (StableHlo.forall_writes_sub_of_map rfl) h

theorem keep11 (h : r ∉ post11) : after (hostOps0_11 (F := Ideal)) V (Proc.devRef .tc r) = V (Proc.devRef .tc r) :=
  after_of_writes_sub _ V (StableHlo.forall_writes_sub_of_map rfl) h

/-- What a trip of the loop writes, the test included. -/
abbrev tripW : List (Ref sig .tc) :=
  condOps_W ++ (while0Ops0_W ++ (while0Ops0_1_W ++ (while0Ops0_2_W ++ (while0Ops0_3_W ++ (while0Ops0_4_W ++ (while0Ops0_5_W ++ (while0Ops0_6_W)))))))

/-- One trip leaves the other buffers alone. -/
theorem keep_trip (h : r ∉ tripW) :
    afterL (bodyI (F := Ideal)) (after (condOps (F := Ideal)) V) (Proc.devRef .tc r) = V (Proc.devRef .tc r) := by
  simp only [tripW, List.mem_append, not_or] at h
  obtain ⟨hc, h0, h1, h2, h3, h4, h5, h6⟩ := h
  show after while0Ops0_6 (after while0Ops0_5 (after while0Ops0_4 (after while0Ops0_3 (after while0Ops0_2 (after while0Ops0_1 (after while0Ops0 (after condOps V))))))) (Proc.devRef .tc r) = _
  rw [after_of_writes_sub _ _ while0Ops0_6_writes h6, after_of_writes_sub _ _ while0Ops0_5_writes h5, after_of_writes_sub _ _ while0Ops0_4_writes h4, after_of_writes_sub _ _ while0Ops0_3_writes h3, after_of_writes_sub _ _ while0Ops0_2_writes h2, after_of_writes_sub _ _ while0Ops0_1_writes h1, after_of_writes_sub _ _ while0Ops0_writes h0,
    after_of_writes_sub _ _ condOps_writes hc]

/-- The test leaves the other buffers alone. -/
theorem keep_cond (h : r ∉ tripW) : after (condOps (F := Ideal)) V (Proc.devRef .tc r) = V (Proc.devRef .tc r) := by
  simp only [tripW, List.mem_append, not_or] at h
  exact after_of_writes_sub _ _ condOps_writes h.1

variable (m : (ℓ : Loc nD τ sig) → Buf (Elt Ideal) ℓ) (c : Dev nD)

/-- All the trips leave the other buffers alone. -/
theorem keep_loop (h : r ∉ tripW) : ∀ k, atK m k c (Proc.devRef .tc r) = entryContents preI m c (Proc.devRef .tc r)
  | 0 => rfl
  | k + 1 => (keep_trip (atK m k c) r h).trans (keep_loop h k)

end Cert.Proof

end
-- ==== Proof.RefRun.lean ====
/-
  The reference's run, over ℝ: its stretches in order, the scan's loop between them, and what its result holds.
-/
module

public import proofs.«01_k».proof.Proof.RefPost
public import proofs.«01_k».proof.Proof.RefLoop
public import proofs.«01_k».proof.Proof.RefKeep

@[expose] public section

set_option maxRecDepth 16384

noncomputable section

namespace Cert.Proof

open Idealize.ShloMosaic Cert.ReferenceIdeal Cert.ReferenceIdeal.Gen Cert.ReferenceIdeal.Value
open Idealize.ShloMosaic.TcCoe Idealize.ShloMosaic.StableHlo
open scoped BigOperators

/-! ## The convolution: the padded rows are the rows some steps back -/

/-- The rows with three rows of zeros before them. -/
def padded (P : Fin 1024 → Fin 2304 → ℝ) (i : Fin 1027) (e : Fin 2304) : ℝ :=
  if h : i.val < 3 then 0 else P ⟨i.val - 3, by omega⟩ e

theorem padded_back (P : Fin 1024 → Fin 2304 → ℝ) (i : Fin 1024) (s j : ℕ) (hj : j + s = 3) (e : Fin 2304) :
    padded P ⟨i.val + j, by omega⟩ e = back P s i e := by
  unfold padded back
  by_cases h : i.val < s
  · rw [dif_pos h, dif_pos (show i.val + j < 3 by omega)]
  · rw [dif_neg h, dif_neg (show ¬ i.val + j < 3 by omega)]
    congr 1
    exact Fin.ext (show i.val + j - 3 = i.val - s by omega)

theorem back_zero {n : ℕ} (P : Fin 1024 → Fin n → ℝ) (i : Fin 1024) (e : Fin n) : back P 0 i e = P i e := by
  unfold back
  rw [dif_neg (Nat.not_lt_zero _)]
  rfl

/-- The reference's sum of four shifted products is the convolution. -/
theorem padded_conv (P : Fin 1024 → Fin 2304 → ℝ) (W : Fin 2304 → Fin 4 → ℝ) (B : Fin 2304 → ℝ) (i : Fin 1024) (e : Fin 2304) :
    B e + (padded P ⟨i.val, by omega⟩ e * W e 0 + padded P ⟨i.val + 1, by omega⟩ e * W e 1 + padded P ⟨i.val + 2, by omega⟩ e * W e 2
        + padded P ⟨i.val + 3, by omega⟩ e * W e 3) = conv P (fun j e => W e j) B i e := by
  rw [show padded P ⟨i.val, by omega⟩ e = back P 3 i e from padded_back P i 3 0 rfl e, padded_back P i 2 1 rfl e, padded_back P i 1 2 rfl e,
    padded_back P i 0 3 rfl e, back_zero]
  unfold conv
  ring

namespace Inp
variable (I : Inp)

/-- All the columns that are convolved. -/
def cp (i : Fin 1024) (e : Fin 2304) : ℝ := I.proj i ⟨2048 + e.val, by omega⟩

/-- All the convolved columns. -/
def cc (i : Fin 1024) (e : Fin 2304) : ℝ := silu (conv I.cp (fun j e => I.cw e j) I.cb i e)

theorem cc_xc (i : Fin 1024) (e : Fin 2048) : I.cc i ⟨e.val, by omega⟩ = I.xc i e := rfl

theorem cp_bp (i : Fin 1024) (e : Fin 256) : I.cp i ⟨2048 + e.val, by omega⟩ = I.bp i e := by
  unfold cp bp
  congr 1
  exact Fin.ext (show 2048 + (2048 + e.val) = 4096 + e.val by omega)

theorem back_bp (s : ℕ) (i : Fin 1024) (e : Fin 256) : back I.cp s i ⟨2048 + e.val, by omega⟩ = back I.bp s i e := by
  unfold back
  split_ifs
  · rfl
  · exact I.cp_bp _ e

theorem cc_bc (i : Fin 1024) (e : Fin 256) : I.cc i ⟨2048 + e.val, by omega⟩ = I.bc i e := by
  unfold cc bc bcM conv
  rw [I.back_bp, I.back_bp, I.back_bp, I.cp_bp]

end Inp

variable (I : Inp) (V : Valuation τ sig (Elt Ideal))

/-! ## Up to the loop -/

/-- The buffers as the loop is entered. -/
def atLoop : Valuation τ sig (Elt Ideal) :=
  after hostOps0_6 (after hostOps0_5 (after hostOps0_4 (after hostOps0_3 (after hostOps0_2 (after hostOps0_1 (after hostOps0 V))))))

/-- What the loop is entered with. -/
structure AtLoop (V : Valuation τ sig (Elt Ideal)) : Prop where
  z : ∀ i e, V (Proc.devRef .tc main_v14) (ix3 0 i e) = ((I.z i e : ℝ) : EReal)
  x : ∀ i (h : Fin 32) (p : Fin 64), V (Proc.devRef .tc main_v56) (ix4 0 i h p) = ((I.xc i ⟨64 * h.val + p.val, by omega⟩ : ℝ) : EReal)

section pre
variable (H : IsReal I (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)))
include H

theorem at_v13 (i : Fin 1024) (e : Fin 4384) :
    after hostOps0 V (Proc.devRef .tc main_v13) (ix3 0 i e) = ((I.proj i e : ℝ) : EReal) :=
  rf_v13 V I.x I.nw I.wi H.x H.nw H.wi i e

theorem at_v20 (i : Fin 1024) (h : Fin 32) :
    after hostOps0_1 (after hostOps0 V) (Proc.devRef .tc main_v20) (ix3 0 i h) = ((I.dt i h : ℝ) : EReal) :=
  rf_v20 (after hostOps0 V) (fun i h => I.dp i h + I.db h) (fun i h => rf_v19 V I.proj I.db (at_v13 I V H) H.db i h) i h

theorem at_v54 (i : Fin 1024) (e : Fin 2304) :
    after hostOps0_5 (after hostOps0_4 (after hostOps0_3 (after hostOps0_2 (after hostOps0_1 (after hostOps0 V)))))
      (Proc.devRef .tc main_v54) (ix3 0 i e) = ((I.cc i e : ℝ) : EReal) := by
  refine rf_v54 _ (fun i e => conv I.cp (fun j e => I.cw e j) I.cb i e) (fun i e => ?_) i e
  rw [← padded_conv]
  refine rf_v53 _ (padded I.cp) I.cw I.cb (fun i e => ?_) (fun e j => ?_) (fun e => ?_) i e
  · refine rf_v21 _ I.cp ?_ (fun i e => ?_) i e
    · after_results
      all_goals rfl
    · rw [keep2 _ main_v15 (by decide), keep1 _ main_v15 (by decide)]
      exact rf_v15 V I.proj (at_v13 I V H) i e
  · rw [keep3 _ main_arg5 (by decide), keep2 _ main_arg5 (by decide), keep1 _ main_arg5 (by decide), keep0 _ main_arg5 (by decide)]
    exact H.cw e j
  · rw [keep3 _ main_arg6 (by decide), keep2 _ main_arg6 (by decide), keep1 _ main_arg6 (by decide), keep0 _ main_arg6 (by decide)]
    exact H.cb e

theorem at_v20' (i : Fin 1024) (h : Fin 32) :
    after hostOps0_5 (after hostOps0_4 (after hostOps0_3 (after hostOps0_2 (after hostOps0_1 (after hostOps0 V)))))
      (Proc.devRef .tc main_v20) (ix3 0 i h) = ((I.dt i h : ℝ) : EReal) := by
  rw [keep5 _ main_v20 (by decide), keep4 _ main_v20 (by decide), keep3 _ main_v20 (by decide), keep2 _ main_v20 (by decide)]
  exact at_v20 I V H i h

theorem at_loop : AtLoop I (atLoop V) where
  z i e := by
    unfold atLoop
    rw [keep6 _ main_v14 (by decide), keep5 _ main_v14 (by decide), keep4 _ main_v14 (by decide), keep3 _ main_v14 (by decide),
      keep2 _ main_v14 (by decide), keep1 _ main_v14 (by decide)]
    exact rf_v14 V I.proj (at_v13 I V H) i e
  x i h p := rf_v56 _ I.cc (at_v54 I V H) i h p

/-- The loop's arrays as it is entered: the decays, the inputs times their steps, `B` and `C`. -/
theorem at_loop_carried (h4 : atLoop V (Proc.devRef .tc main_v74_4) = fun _ => (0#32 : BitVec 32)) :
    LoopAt I.da (fun t h p => I.dt t h * I.xc t ⟨64 * h.val + p.val, by omega⟩) (fun t n => I.bc t ⟨n.val, by omega⟩)
      (fun t n => I.bc t ⟨128 + n.val, by omega⟩) 0 (atLoop V) where
  e0 t h := by
    refine rf_e0 _ I.al I.dt (fun k => ?_) (at_v20' I V H) t h
    rw [keep5 _ main_arg8 (by decide), keep4 _ main_arg8 (by decide), keep3 _ main_arg8 (by decide), keep2 _ main_arg8 (by decide),
      keep1 _ main_arg8 (by decide), keep0 _ main_arg8 (by decide)]
    exact H.al k
  e1 t h p := rf_e1 _ (fun t h p => I.xc t ⟨64 * h.val + p.val, by omega⟩) I.dt (fun i h p => (at_loop I V H).x i h p) (at_v20' I V H) t h p
  e2 t n := by
    have e := rf_e2 _ I.cc (at_v54 I V H) t n
    rw [show I.cc t ⟨2048 + n.val, by omega⟩ = I.bc t ⟨n.val, by omega⟩ from I.cc_bc t ⟨n.val, by omega⟩] at e
    exact e
  e3 t n := by
    have e := rf_e3 _ I.cc (at_v54 I V H) t n
    rw [show I.cc t ⟨2176 + n.val, by omega⟩ = I.bc t ⟨128 + n.val, by omega⟩ from
      (congrArg (I.cc t) (Fin.ext (show 2176 + n.val = 2048 + (128 + n.val) by omega))).trans (I.cc_bc t ⟨128 + n.val, by omega⟩)] at e
    exact e
  e4 := h4
  e5 h p n := rf_e5 _ h p n
  e6 t h p hk := absurd hk (Nat.not_lt_zero _)

end pre

/-! ## From the loop to the result -/

/-- The buffers at the end, from what the loop leaves. -/
def atEnd : Valuation τ sig (Elt Ideal) :=
  after hostOps0_11 (after hostOps0_10 (after hostOps0_9 (after hostOps0_8 (after hostOps0_7 V))))

/-- The scan's sum, before the skip. -/
def Inp.ys (t : Fin 1024) (e : Fin 2048) : ℝ :=
  ∑ n, state I.xc I.bc I.dt I.da n e (t.val + 1) * I.bc t ⟨128 + n.val, by omega⟩

/-- The queries. -/
def Inp.q (i : Fin 1024) : Fin 1024 → ℝ := rowMul (lnorm (I.h i) I.lw I.lb) I.wq

theorem Inp.att_eq (i : Fin 1024) (e : Fin 1024) :
    (∑ s, I.v s e * (sexp (score (I.q i) I.k ⟨e.val / 128, by omega⟩) s / ∑ s, sexp (score (I.q i) I.k ⟨e.val / 128, by omega⟩) s))
      = att (I.q i) I.k I.v e := by
  unfold att attH
  have he : hcol ⟨e.val / 128, by omega⟩ ⟨e.val % 128, Nat.mod_lt _ (by norm_num)⟩ = e := Fin.ext (by simp only [hcol]; omega)
  rw [he, Finset.sum_div]
  exact Finset.sum_congr rfl fun s _ => by ring

section post
variable (H : IsReal I (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17))) (A : AtLoop I V)
  (h2 : V (Proc.devRef .tc main_arg2) = fun _ => (0#1 : BitVec 1))
  (h74 : ∀ t (h : Fin 32) (p : Fin 64), V (Proc.devRef .tc main_v74_6) (ix4 t 0 h p) = ((I.ys t ⟨64 * h.val + p.val, by omega⟩ : ℝ) : EReal))
include H A h74

theorem at_v80 (i : Fin 1024) (e : Fin 2048) :
    after hostOps0_7 V (Proc.devRef .tc main_v80) (ix3 0 i e) = ((I.y i e : ℝ) : EReal) :=
  rp_v80 V I.ys I.xc I.dd h74 A.x H.dd i e

theorem at_v82 (i : Fin 1024) (e : Fin 2048) :
    after hostOps0_9 (after hostOps0_8 (after hostOps0_7 V)) (Proc.devRef .tc main_v82) (ix3 0 i e)
      = ((gated (I.y i) (I.z i) e : ℝ) : EReal) := by
  refine rp_v82 _ I.y (fun i e => silu (I.z i e)) (fun i e => ?_) (fun i e => ?_) i e
  · rw [keep8 _ main_v80 (by decide)]
    exact at_v80 I V H A h74 i e
  · refine rp_v81 _ I.z (fun i e => ?_) i e
    rw [keep7 _ main_v14 (by decide)]
    exact A.z i e

theorem at_v97 (i : Fin 1024) (j : Fin 1024) :
    after hostOps0_9 (after hostOps0_8 (after hostOps0_7 V)) (Proc.devRef .tc main_v97) (ix3 0 i j) = ((I.h i j : ℝ) : EReal) := by
  refine rp_v97 _ (fun i => gated (I.y i) (I.z i)) I.x I.gw I.ow (at_v82 I V H A h74) (fun i k => ?_) (fun k => ?_) (fun e k => ?_) i j
  · rw [keep8 _ main_arg0 (by decide), keep7 _ main_arg0 (by decide)]
    exact H.x i k
  · rw [keep8 _ main_arg10 (by decide), keep7 _ main_arg10 (by decide)]
    exact H.gw k
  · rw [keep8 _ main_arg11 (by decide), keep7 _ main_arg11 (by decide)]
    exact H.ow e k

theorem at_v123 (i : Fin 1024) (h : Fin 8) (d : Fin 128) :
    after hostOps0_9 (after hostOps0_8 (after hostOps0_7 V)) (Proc.devRef .tc main_v123) (ix4 0 i h d)
      = ((I.q i (hcol h d) : ℝ) : EReal) := by
  refine rp_v123 _ (fun i => lnorm (I.h i) I.lw I.lb) I.wq (fun i j => ?_) (fun e k => ?_) i h d
  · refine rp_v121 _ (fun i => centred (I.h i)) I.lw I.lb (rp_v103 _ I.h (at_v97 I V H A h74)) (rp_v110 _ I.h (at_v97 I V H A h74))
      (fun k => ?_) (fun k => ?_) i j
    · rw [keep8 _ main_arg12 (by decide), keep7 _ main_arg12 (by decide)]
      exact H.lw k
    · rw [keep8 _ main_arg13 (by decide), keep7 _ main_arg13 (by decide)]
      exact H.lb k
  · rw [keep8 _ main_arg14 (by decide), keep7 _ main_arg14 (by decide)]
    exact H.wq e k

omit A h74 in
theorem at_v125 (s : Fin 2048) (h : Fin 8) (d : Fin 128) :
    after hostOps0_9 (after hostOps0_8 (after hostOps0_7 V)) (Proc.devRef .tc main_v125) (ix4 0 s h d)
      = ((I.k s (hcol h d) : ℝ) : EReal) := by
  refine rp_v125 _ I.enc I.wk (fun i k => ?_) (fun e k => ?_) s h d
  · rw [keep8 _ main_arg1 (by decide), keep7 _ main_arg1 (by decide)]
    exact H.enc i k
  · rw [keep8 _ main_arg15 (by decide), keep7 _ main_arg15 (by decide)]
    exact H.wk e k

omit A h74 in
theorem at_v127 (s : Fin 2048) (h : Fin 8) (d : Fin 128) :
    after hostOps0_9 (after hostOps0_8 (after hostOps0_7 V)) (Proc.devRef .tc main_v127) (ix4 0 s h d)
      = ((I.v s (hcol h d) : ℝ) : EReal) := by
  refine rp_v127 _ I.enc I.wv (fun i k => ?_) (fun e k => ?_) s h d
  · rw [keep8 _ main_arg1 (by decide), keep7 _ main_arg1 (by decide)]
    exact H.enc i k
  · rw [keep8 _ main_arg16 (by decide), keep7 _ main_arg16 (by decide)]
    exact H.wv e k

include h2

theorem at_v132 (h : Fin 8) (i : Fin 1024) (s : Fin 2048) :
    after hostOps0_10 (after hostOps0_9 (after hostOps0_8 (after hostOps0_7 V))) (Proc.devRef .tc main_v132) (ix4 0 h i s)
      = ((score (I.q i) I.k h s : ℝ) : EReal) := by
  refine rp_v132 _ (fun h i s => score (I.q i) I.k h s) (fun s => ?_) (fun h i s => ?_) h i s
  · refine rp_v131 _ ?_ s
    rw [keep8 _ main_arg2 (by decide), keep7 _ main_arg2 (by decide)]
    exact h2
  · exact rp_v130 _ I.q I.k (at_v123 I V H A h74) (at_v125 I V H) h i s

/-- What the result holds. -/
theorem at_end (i : Fin 1024) (j : Fin 1024) : atEnd V (Proc.devRef .tc main_v148) (ix3 0 i j) = ((I.out i j : ℝ) : EReal) := by
  unfold atEnd
  refine rp_v148 _ (fun i => att (I.q i) I.k I.v) I.h I.wo (fun i e => ?_) (fun i j => ?_) (fun e k => ?_) i j
  · rw [← I.att_eq]
    refine rp_v146 _ (fun h i s => sexp (score (I.q i) I.k h) s / ∑ s, sexp (score (I.q i) I.k h) s) I.v (fun h i s => ?_) (fun s h d => ?_) i e
    · refine rp_v143 _ (fun h i s => sexp (score (I.q i) I.k h) s) (fun h i => sum_sexp_pos _) (fun h i s => ?_) h i s
      exact rp_v139 _ (fun h i => score (I.q i) I.k h) (at_v132 I V H A h2 h74)
        (rp_v133 _ (fun h i => score (I.q i) I.k h) (at_v132 I V H A h2 h74)) h i s
    · rw [keep10 _ main_v127 (by decide)]
      exact at_v127 I V H s h d
  · rw [keep10 _ main_v97 (by decide)]
    exact at_v97 I V H A h74 i j
  · rw [keep10 _ main_arg17 (by decide), keep9 _ main_arg17 (by decide), keep8 _ main_arg17 (by decide), keep7 _ main_arg17 (by decide)]
    exact H.wo e k

end post

/-! ## The whole run -/

/-- The arguments, which nothing writes. -/
theorem keep_pre (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) : atLoop V (Proc.devRef .tc r) = V (Proc.devRef .tc r) := by
  unfold atLoop
  rw [keep6 _ r h6, keep5 _ r h5, keep4 _ r h4, keep3 _ r h3, keep2 _ r h2, keep1 _ r h1, keep0 _ r h0]

theorem keep_post (r : Ref sig .tc) (h7 : r ∉ post7) (h8 : r ∉ post8) (h9 : r ∉ post9) (h10 : r ∉ post10) (h11 : r ∉ post11) :
    atEnd V (Proc.devRef .tc r) = V (Proc.devRef .tc r) := by
  unfold atEnd
  rw [keep11 _ r h11, keep10 _ r h10, keep9 _ r h9, keep8 _ r h8, keep7 _ r h7]

variable (m : (ℓ : Loc nD τ sig) → Buf (Elt Ideal) ℓ) (c : Dev nD)

/-- The buffers the loop leaves. -/
def leave : Valuation τ sig (Elt Ideal) := after condOps (atK m 1024 c)

theorem keep_all (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (ht : r ∉ tripW) :
    leave m c (Proc.devRef .tc r) = m ((c.tc : Thread nD τ).loc r) :=
  ((keep_cond _ r ht).trans (keep_loop r m c ht 1024)).trans (keep_pre (launchContents m c) r h0 h1 h2 h3 h4 h5 h6)

theorem leave_arg0 : leave m c (Proc.devRef .tc main_arg0) = m ((c.tc : Thread nD τ).loc main_arg0) :=
  keep_all m c main_arg0 (by decide) (by decide) (by decide) (by decide) (by decide) (by decide) (by decide) (by decide)
theorem leave_arg1 : leave m c (Proc.devRef .tc main_arg1) = m ((c.tc : Thread nD τ).loc main_arg1) :=
  keep_all m c main_arg1 (by decide) (by decide) (by decide) (by decide) (by decide) (by decide) (by decide) (by decide)
theorem leave_arg2 : leave m c (Proc.devRef .tc main_arg2) = m ((c.tc : Thread nD τ).loc main_arg2) :=
  keep_all m c main_arg2 (by decide) (by decide) (by decide) (by decide) (by decide) (by decide) (by decide) (by decide)
theorem leave_arg3 : leave m c (Proc.devRef .tc main_arg3) = m ((c.tc : Thread nD τ).loc main_arg3) :=
  keep_all m c main_arg3 (by decide) (by decide) (by decide) (by decide) (by decide) (by decide) (by decide) (by decide)
theorem leave_arg4 : leave m c (Proc.devRef .tc main_arg4) = m ((c.tc : Thread nD τ).loc main_arg4) :=
  keep_all m c main_arg4 (by decide) (by decide) (by decide) (by decide) (by decide) (by decide) (by decide) (by decide)
theorem leave_arg5 : leave m c (Proc.devRef .tc main_arg5) = m ((c.tc : Thread nD τ).loc main_arg5) :=
  keep_all m c main_arg5 (by decide) (by decide) (by decide) (by decide) (by decide) (by decide) (by decide) (by decide)
theorem leave_arg6 : leave m c (Proc.devRef .tc main_arg6) = m ((c.tc : Thread nD τ).loc main_arg6) :=
  keep_all m c main_arg6 (by decide) (by decide) (by decide) (by decide) (by decide) (by decide) (by decide) (by decide)
theorem leave_arg7 : leave m c (Proc.devRef .tc main_arg7) = m ((c.tc : Thread nD τ).loc main_arg7) :=
  keep_all m c main_arg7 (by decide) (by decide) (by decide) (by decide) (by decide) (by decide) (by decide) (by decide)
theorem leave_arg8 : leave m c (Proc.devRef .tc main_arg8) = m ((c.tc : Thread nD τ).loc main_arg8) :=
  keep_all m c main_arg8 (by decide) (by decide) (by decide) (by decide) (by decide) (by decide) (by decide) (by decide)
theorem leave_arg9 : leave m c (Proc.devRef .tc main_arg9) = m ((c.tc : Thread nD τ).loc main_arg9) :=
  keep_all m c main_arg9 (by decide) (by decide) (by decide) (by decide) (by decide) (by decide) (by decide) (by decide)
theorem leave_arg10 : leave m c (Proc.devRef .tc main_arg10) = m ((c.tc : Thread nD τ).loc main_arg10) :=
  keep_all m c main_arg10 (by decide) (by decide) (by decide) (by decide) (by decide) (by decide) (by decide) (by decide)
theorem leave_arg11 : leave m c (Proc.devRef .tc main_arg11) = m ((c.tc : Thread nD τ).loc main_arg11) :=
  keep_all m c main_arg11 (by decide) (by decide) (by decide) (by decide) (by decide) (by decide) (by decide) (by decide)
theorem leave_arg12 : leave m c (Proc.devRef .tc main_arg12) = m ((c.tc : Thread nD τ).loc main_arg12) :=
  keep_all m c main_arg12 (by decide) (by decide) (by decide) (by decide) (by decide) (by decide) (by decide) (by decide)
theorem leave_arg13 : leave m c (Proc.devRef .tc main_arg13) = m ((c.tc : Thread nD τ).loc main_arg13) :=
  keep_all m c main_arg13 (by decide) (by decide) (by decide) (by decide) (by decide) (by decide) (by decide) (by decide)
theorem leave_arg14 : leave m c (Proc.devRef .tc main_arg14) = m ((c.tc : Thread nD τ).loc main_arg14) :=
  keep_all m c main_arg14 (by decide) (by decide) (by decide) (by decide) (by decide) (by decide) (by decide) (by decide)
theorem leave_arg15 : leave m c (Proc.devRef .tc main_arg15) = m ((c.tc : Thread nD τ).loc main_arg15) :=
  keep_all m c main_arg15 (by decide) (by decide) (by decide) (by decide) (by decide) (by decide) (by decide) (by decide)
theorem leave_arg16 : leave m c (Proc.devRef .tc main_arg16) = m ((c.tc : Thread nD τ).loc main_arg16) :=
  keep_all m c main_arg16 (by decide) (by decide) (by decide) (by decide) (by decide) (by decide) (by decide) (by decide)
theorem leave_arg17 : leave m c (Proc.devRef .tc main_arg17) = m ((c.tc : Thread nD τ).loc main_arg17) :=
  keep_all m c main_arg17 (by decide) (by decide) (by decide) (by decide) (by decide) (by decide) (by decide) (by decide)

/-- What the reference's result holds, from real arguments and no key masked. -/
theorem reference_value (H : IsReal I (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
    (h2 : m ((c.tc : Thread nD τ).loc main_arg2) = fun _ => (0#1 : BitVec 1)) (i : Fin 1024) (j : Fin 1024) :
    finalContents condOps preI bodyI postI 1024 m c (Proc.devRef .tc main_v148) (ix3 0 i j) = ((I.out i j : ℝ) : EReal) := by
  have A := at_loop I (launchContents m c) H
  have L := loop_iter (atLoop (launchContents m c)) _ _ _ _ (at_loop_carried I (launchContents m c) H (ctr_entry m c)) 1024 le_rfl
  refine at_end I (leave m c) ?_ ⟨fun i e => ?_, fun i h p => ?_⟩ ?_ (fun t h p => ?_) i j
  · rw [leave_arg0, leave_arg1, leave_arg3, leave_arg4, leave_arg5, leave_arg6, leave_arg7, leave_arg8, leave_arg9, leave_arg10, leave_arg11, leave_arg12, leave_arg13, leave_arg14, leave_arg15, leave_arg16, leave_arg17]
    exact H
  · rw [show leave m c (Proc.devRef .tc main_v14) = atLoop (launchContents m c) (Proc.devRef .tc main_v14) from
      (keep_cond _ main_v14 (by decide)).trans (keep_loop main_v14 m c (by decide) 1024)]
    exact A.z i e
  · rw [show leave m c (Proc.devRef .tc main_v56) = atLoop (launchContents m c) (Proc.devRef .tc main_v56) from
      (keep_cond _ main_v56 (by decide)).trans (keep_loop main_v56 m c (by decide) 1024)]
    exact A.x i h p
  · rw [leave_arg2]
    exact h2
  · rw [show leave m c (Proc.devRef .tc main_v74_6) = (STEP^[1024] (atLoop (launchContents m c))) (Proc.devRef .tc main_v74_6) from
      (cond_keeps (atK m 1024 c) main_v74_6 (by decide)).trans (atK_agree m c 1024 main_v74_6 (by decide))]
    rw [L.e6 t h p t.isLt]
    have hh : hd ⟨64 * h.val + p.val, by omega⟩ = h := Fin.ext (show (64 * h.val + p.val) / 64 = h.val by omega)
    unfold Inp.ys state
    rw [hh]

theorem final_arg0 : finalContents condOps preI bodyI postI 1024 m c (Proc.devRef .tc main_arg0) = m ((c.tc : Thread nD τ).loc main_arg0) :=
  (keep_post (leave m c) main_arg0 (by decide) (by decide) (by decide) (by decide) (by decide)).trans (leave_arg0 m c)
theorem final_arg1 : finalContents condOps preI bodyI postI 1024 m c (Proc.devRef .tc main_arg1) = m ((c.tc : Thread nD τ).loc main_arg1) :=
  (keep_post (leave m c) main_arg1 (by decide) (by decide) (by decide) (by decide) (by decide)).trans (leave_arg1 m c)
theorem final_arg2 : finalContents condOps preI bodyI postI 1024 m c (Proc.devRef .tc main_arg2) = m ((c.tc : Thread nD τ).loc main_arg2) :=
  (keep_post (leave m c) main_arg2 (by decide) (by decide) (by decide) (by decide) (by decide)).trans (leave_arg2 m c)
theorem final_arg3 : finalContents condOps preI bodyI postI 1024 m c (Proc.devRef .tc main_arg3) = m ((c.tc : Thread nD τ).loc main_arg3) :=
  (keep_post (leave m c) main_arg3 (by decide) (by decide) (by decide) (by decide) (by decide)).trans (leave_arg3 m c)
theorem final_arg4 : finalContents condOps preI bodyI postI 1024 m c (Proc.devRef .tc main_arg4) = m ((c.tc : Thread nD τ).loc main_arg4) :=
  (keep_post (leave m c) main_arg4 (by decide) (by decide) (by decide) (by decide) (by decide)).trans (leave_arg4 m c)
theorem final_arg5 : finalContents condOps preI bodyI postI 1024 m c (Proc.devRef .tc main_arg5) = m ((c.tc : Thread nD τ).loc main_arg5) :=
  (keep_post (leave m c) main_arg5 (by decide) (by decide) (by decide) (by decide) (by decide)).trans (leave_arg5 m c)
theorem final_arg6 : finalContents condOps preI bodyI postI 1024 m c (Proc.devRef .tc main_arg6) = m ((c.tc : Thread nD τ).loc main_arg6) :=
  (keep_post (leave m c) main_arg6 (by decide) (by decide) (by decide) (by decide) (by decide)).trans (leave_arg6 m c)
theorem final_arg7 : finalContents condOps preI bodyI postI 1024 m c (Proc.devRef .tc main_arg7) = m ((c.tc : Thread nD τ).loc main_arg7) :=
  (keep_post (leave m c) main_arg7 (by decide) (by decide) (by decide) (by decide) (by decide)).trans (leave_arg7 m c)
theorem final_arg8 : finalContents condOps preI bodyI postI 1024 m c (Proc.devRef .tc main_arg8) = m ((c.tc : Thread nD τ).loc main_arg8) :=
  (keep_post (leave m c) main_arg8 (by decide) (by decide) (by decide) (by decide) (by decide)).trans (leave_arg8 m c)
theorem final_arg9 : finalContents condOps preI bodyI postI 1024 m c (Proc.devRef .tc main_arg9) = m ((c.tc : Thread nD τ).loc main_arg9) :=
  (keep_post (leave m c) main_arg9 (by decide) (by decide) (by decide) (by decide) (by decide)).trans (leave_arg9 m c)
theorem final_arg10 : finalContents condOps preI bodyI postI 1024 m c (Proc.devRef .tc main_arg10) = m ((c.tc : Thread nD τ).loc main_arg10) :=
  (keep_post (leave m c) main_arg10 (by decide) (by decide) (by decide) (by decide) (by decide)).trans (leave_arg10 m c)
theorem final_arg11 : finalContents condOps preI bodyI postI 1024 m c (Proc.devRef .tc main_arg11) = m ((c.tc : Thread nD τ).loc main_arg11) :=
  (keep_post (leave m c) main_arg11 (by decide) (by decide) (by decide) (by decide) (by decide)).trans (leave_arg11 m c)
theorem final_arg12 : finalContents condOps preI bodyI postI 1024 m c (Proc.devRef .tc main_arg12) = m ((c.tc : Thread nD τ).loc main_arg12) :=
  (keep_post (leave m c) main_arg12 (by decide) (by decide) (by decide) (by decide) (by decide)).trans (leave_arg12 m c)
theorem final_arg13 : finalContents condOps preI bodyI postI 1024 m c (Proc.devRef .tc main_arg13) = m ((c.tc : Thread nD τ).loc main_arg13) :=
  (keep_post (leave m c) main_arg13 (by decide) (by decide) (by decide) (by decide) (by decide)).trans (leave_arg13 m c)
theorem final_arg14 : finalContents condOps preI bodyI postI 1024 m c (Proc.devRef .tc main_arg14) = m ((c.tc : Thread nD τ).loc main_arg14) :=
  (keep_post (leave m c) main_arg14 (by decide) (by decide) (by decide) (by decide) (by decide)).trans (leave_arg14 m c)
theorem final_arg15 : finalContents condOps preI bodyI postI 1024 m c (Proc.devRef .tc main_arg15) = m ((c.tc : Thread nD τ).loc main_arg15) :=
  (keep_post (leave m c) main_arg15 (by decide) (by decide) (by decide) (by decide) (by decide)).trans (leave_arg15 m c)
theorem final_arg16 : finalContents condOps preI bodyI postI 1024 m c (Proc.devRef .tc main_arg16) = m ((c.tc : Thread nD τ).loc main_arg16) :=
  (keep_post (leave m c) main_arg16 (by decide) (by decide) (by decide) (by decide) (by decide)).trans (leave_arg16 m c)
theorem final_arg17 : finalContents condOps preI bodyI postI 1024 m c (Proc.devRef .tc main_arg17) = m ((c.tc : Thread nD τ).loc main_arg17) :=
  (keep_post (leave m c) main_arg17 (by decide) (by decide) (by decide) (by decide) (by decide)).trans (leave_arg17 m c)

end Cert.Proof

end
-- ==== Proof.PreRead.lean ====
/-
  The precondition, read: every float argument holds reals, and no key is masked.
-/
module

public import proofs.«01_k».proof.Pre_finite_unmasked
public import proofs.«01_k».proof.Proof.Block
public import Idealize.ShloMosaic.Lib.ReduceAll
public import Idealize.ShloMosaic.Lib.Pointwise

@[expose] public section

set_option maxRecDepth 16384

noncomputable section

namespace Cert.Proof

open Idealize.ShloMosaic Cert.Pre_finite_unmasked

/-- The side conditions the precondition's operations state. -/
theorem pre_facts : Cert.Pre_finite_unmasked.Facts := by
  constructor <;> decide

/-- One bit `and` is 1 of ones only. -/
theorem andi_split {s : Shape} (x y : IVec s 1) (j : s.Idx) (h : andi x y j = 1#1) : x j = 1#1 ∧ y j = 1#1 := by
  have e : ∀ p q : BitVec 1, p &&& q = 1#1 → p = 1#1 ∧ q = 1#1 := by decide
  exact e _ _ h

theorem ori_split : ∀ p q : BitVec 1, IntOp.ori p q = 0#1 → p = 0#1 ∧ q = 0#1 := by decide

/-- A fold by `or` that is 0 met zeros only. -/
theorem foldl_ori_zero {α : Type} (x : α → BitVec 1) : ∀ (l : List α) (b : BitVec 1),
    l.foldl (fun r n => IntOp.ori r (x n)) b = 0#1 → b = 0#1 ∧ ∀ n ∈ l, x n = 0#1
  | [], b, h => ⟨h, fun _ hn => nomatch hn⟩
  | a :: l, b, h => by
    obtain ⟨h1, h2⟩ := foldl_ori_zero x l _ h
    obtain ⟨h3, h4⟩ := ori_split _ _ h1
    refine ⟨h3, fun n hn => ?_⟩
    rcases List.mem_cons.1 hn with rfl | hn
    · exact h4
    · exact h2 n hn

instance : Subsingleton S_.Idx := ⟨fun i j => funext fun k => k.elim0⟩

/-- A mask whose negated `or` is 1 is 0 everywhere. -/
theorem mask_zero (a : IVec S1x2048 1) (hr : S1x2048.ReducesTo [0, 1] S_) (hu : 0 < S_.numel)
    (e : noti (Host.reduce IntOp.ori a (constantI S_ 1 0#1) hr hu) ix0 = 1#1) : a = fun _ => (0#1 : BitVec 1) := by
  have hn : ∀ p : BitVec 1, ~~~p = 1#1 → p = 0#1 := by decide
  have h0 : Host.reduce IntOp.ori a (constantI S_ 1 0#1) hr hu ix0 = 0#1 := hn _ e
  rw [Host.reduce_eq_foldl] at h0
  funext i
  refine (foldl_ori_zero a _ _ h0).2 i ?_
  rw [List.mem_filter]
  exact ⟨List.mem_map.2 ⟨S1x2048.rowMajor i, List.mem_finRange _, Equiv.symm_apply_apply _ _⟩, by simp [Subsingleton.elim (hr.drop i) ix0]⟩

/-- An array all of whose absolute values are below infinity holds reals. -/
theorem real_of_finite {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf (F := Ideal) .olt (Host.absf (F := Ideal) a)
      (broadcastInDim s ![] hb (constant (F := Ideal) S_ .f32 0x7F800000#32))) (constantI S_ 1 1#1) hr hu ix0 = 1#1) (i : s.Idx) :
    a i = (((a i : EReal).toReal : ℝ) : EReal) := by
  have h := Host.reduce_andi_all _ _ hr hu ix0 e i
  have h1 : FloatOps.cmpf (F := Ideal) (φ := .f32) .olt (max (a i : EReal) (-(a i : EReal))) (Ideal.ofBits .f32 0x7F800000#32) = 1#1 := h
  rw [show Ideal.ofBits .f32 0x7F800000#32 = (⊤ : EReal) from ofBits_top] at h1
  have h2 : BitVec.ofBool (decide (max (a i : EReal) (-(a i : EReal)) < ⊤)) = 1#1 := h1
  have h3 : max (a i : EReal) (-(a i : EReal)) < ⊤ := by
    by_contra hc
    rw [decide_eq_false hc] at h2
    exact absurd h2 (by decide)
  rw [max_lt_iff] at h3
  refine (EReal.coe_toReal h3.1.ne ?_).symm
  intro hb'
  rw [hb', EReal.neg_bot] at h3
  exact lt_irrefl _ h3.2

/-- The reals an argument list holds. -/
def inp (a0 : FVec Ideal S1x1024x1024 .f32) (a1 : FVec Ideal S1x2048x1024 .f32) (a3 : FVec Ideal S1024 .f32) (a4 : FVec Ideal S1024x4384 .f32) (a5 : FVec Ideal S2304x4 .f32) (a6 : FVec Ideal S2304 .f32) (a7 : FVec Ideal S32 .f32) (a8 : FVec Ideal S32 .f32) (a9 : FVec Ideal S32 .f32) (a10 : FVec Ideal S2048 .f32) (a11 : FVec Ideal S2048x1024 .f32) (a12 : FVec Ideal S1024 .f32) (a13 : FVec Ideal S1024 .f32) (a14 : FVec Ideal S1024x1024 .f32) (a15 : FVec Ideal S1024x1024 .f32) (a16 : FVec Ideal S1024x1024 .f32) (a17 : FVec Ideal S1024x1024 .f32) : Inp where
  x i k := (a0 (ix3 0 i k) : EReal).toReal
  enc i k := (a1 (ix3 0 i k) : EReal).toReal
  nw k := (a3 (ix1 k) : EReal).toReal
  wi i k := (a4 (ix2 i k) : EReal).toReal
  cw i k := (a5 (ix2 i k) : EReal).toReal
  cb k := (a6 (ix1 k) : EReal).toReal
  db k := (a7 (ix1 k) : EReal).toReal
  al k := (a8 (ix1 k) : EReal).toReal
  dd k := (a9 (ix1 k) : EReal).toReal
  gw k := (a10 (ix1 k) : EReal).toReal
  ow i k := (a11 (ix2 i k) : EReal).toReal
  lw k := (a12 (ix1 k) : EReal).toReal
  lb k := (a13 (ix1 k) : EReal).toReal
  wq i k := (a14 (ix2 i k) : EReal).toReal
  wk i k := (a15 (ix2 i k) : EReal).toReal
  wv i k := (a16 (ix2 i k) : EReal).toReal
  wo i k := (a17 (ix2 i k) : EReal).toReal

/-- The precondition: real arguments, and no key masked. -/
theorem of_pre [Cert.Pre_finite_unmasked.Facts] (a0 : FVec Ideal S1x1024x1024 .f32) (a1 : FVec Ideal S1x2048x1024 .f32) (a2 : IVec S1x2048 1) (a3 : FVec Ideal S1024 .f32) (a4 : FVec Ideal S1024x4384 .f32) (a5 : FVec Ideal S2304x4 .f32) (a6 : FVec Ideal S2304 .f32) (a7 : FVec Ideal S32 .f32) (a8 : FVec Ideal S32 .f32) (a9 : FVec Ideal S32 .f32) (a10 : FVec Ideal S2048 .f32) (a11 : FVec Ideal S2048x1024 .f32) (a12 : FVec Ideal S1024 .f32) (a13 : FVec Ideal S1024 .f32) (a14 : FVec Ideal S1024x1024 .f32) (a15 : FVec Ideal S1024x1024 .f32) (a16 : FVec Ideal S1024x1024 .f32) (a17 : FVec Ideal S1024x1024 .f32)
    (h : Cert.Pre_finite_unmasked.fn (F := Ideal) a0 a1 a2 a3 a4 a5 a6 a7 a8 a9 a10 a11 a12 a13 a14 a15 a16 a17 ix0 = 1#1) :
    IsReal (inp a0 a1 a3 a4 a5 a6 a7 a8 a9 a10 a11 a12 a13 a14 a15 a16 a17) a0 a1 a3 a4 a5 a6 a7 a8 a9 a10 a11 a12 a13 a14 a15 a16 a17 ∧ a2 = fun _ => (0#1 : BitVec 1) := by
  unfold fn fn_part1 fn_part2 fn_part3 fn_part4 fn_part5 at h
  dsimp only at h
  obtain ⟨h, h17⟩ := andi_split _ _ _ h
  obtain ⟨h, h16⟩ := andi_split _ _ _ h
  obtain ⟨h, h15⟩ := andi_split _ _ _ h
  obtain ⟨h, h14⟩ := andi_split _ _ _ h
  obtain ⟨h, h13⟩ := andi_split _ _ _ h
  obtain ⟨h, h12⟩ := andi_split _ _ _ h
  obtain ⟨h, h11⟩ := andi_split _ _ _ h
  obtain ⟨h, h10⟩ := andi_split _ _ _ h
  obtain ⟨h, h9⟩ := andi_split _ _ _ h
  obtain ⟨h, h8⟩ := andi_split _ _ _ h
  obtain ⟨h, h7⟩ := andi_split _ _ _ h
  obtain ⟨h, h6⟩ := andi_split _ _ _ h
  obtain ⟨h, h5⟩ := andi_split _ _ _ h
  obtain ⟨h, h4⟩ := andi_split _ _ _ h
  obtain ⟨h, h3⟩ := andi_split _ _ _ h
  obtain ⟨h, h1⟩ := andi_split _ _ _ h
  obtain ⟨h, h0⟩ := andi_split _ _ _ h
  refine ⟨⟨fun i k => real_of_finite a0 _ _ _ h0 _, fun i k => real_of_finite a1 _ _ _ h1 _, fun k => real_of_finite a3 _ _ _ h3 _, fun i k => real_of_finite a4 _ _ _ h4 _, fun i k => real_of_finite a5 _ _ _ h5 _, fun k => real_of_finite a6 _ _ _ h6 _, fun k => real_of_finite a7 _ _ _ h7 _, fun k => real_of_finite a8 _ _ _ h8 _, fun k => real_of_finite a9 _ _ _ h9 _, fun k => real_of_finite a10 _ _ _ h10 _, fun i k => real_of_finite a11 _ _ _ h11 _, fun k => real_of_finite a12 _ _ _ h12 _, fun k => real_of_finite a13 _ _ _ h13 _, fun i k => real_of_finite a14 _ _ _ h14 _, fun i k => real_of_finite a15 _ _ _ h15 _, fun i k => real_of_finite a16 _ _ _ h16 _, fun i k => real_of_finite a17 _ _ _ h17 _⟩, mask_zero a2 _ _ h⟩

end Cert.Proof

end
-- ==== Proof.lean ====
/-
  The certificate's claims. The frames of the kernel and of its ideal program are the generated modules'; the
  reference's frame is its run with every argument kept; the value claim meets the two runs at one function of the
  real inputs (`Inp.out`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.KRun
public import proofs.«01_k».proof.Proof.KChain
public import proofs.«01_k».proof.Proof.RefRun
public import proofs.«01_k».proof.Proof.PreRead
public import Idealize.ShloMosaic.Adequacy
public import Idealize.ShloMosaic.Init

@[expose] public section

set_option maxRecDepth 16384

noncomputable section

namespace Cert.Proof

open Idealize.ShloMosaic Idealize.SL.Sem

/-- The reference ends with its arguments as they were, and every counter at zero. -/
theorem frame_r : Cert.quiescent_ReferenceIdeal (hReferenceIdeal := Cert.ReferenceIdeal.Gen.facts) := by
  intro m ρ _
  exact (θ_run Cert.ReferenceIdeal.defs _ _).mono (fun r h => ⟨fun c =>
    ⟨(h c Cert.ReferenceIdeal.main_arg0 rfl).trans (final_arg0 m c),
     (h c Cert.ReferenceIdeal.main_arg1 rfl).trans (final_arg1 m c),
     (h c Cert.ReferenceIdeal.main_arg2 rfl).trans (final_arg2 m c),
     (h c Cert.ReferenceIdeal.main_arg3 rfl).trans (final_arg3 m c),
     (h c Cert.ReferenceIdeal.main_arg4 rfl).trans (final_arg4 m c),
     (h c Cert.ReferenceIdeal.main_arg5 rfl).trans (final_arg5 m c),
     (h c Cert.ReferenceIdeal.main_arg6 rfl).trans (final_arg6 m c),
     (h c Cert.ReferenceIdeal.main_arg7 rfl).trans (final_arg7 m c),
     (h c Cert.ReferenceIdeal.main_arg8 rfl).trans (final_arg8 m c),
     (h c Cert.ReferenceIdeal.main_arg9 rfl).trans (final_arg9 m c),
     (h c Cert.ReferenceIdeal.main_arg10 rfl).trans (final_arg10 m c),
     (h c Cert.ReferenceIdeal.main_arg11 rfl).trans (final_arg11 m c),
     (h c Cert.ReferenceIdeal.main_arg12 rfl).trans (final_arg12 m c),
     (h c Cert.ReferenceIdeal.main_arg13 rfl).trans (final_arg13 m c),
     (h c Cert.ReferenceIdeal.main_arg14 rfl).trans (final_arg14 m c),
     (h c Cert.ReferenceIdeal.main_arg15 rfl).trans (final_arg15 m c),
     (h c Cert.ReferenceIdeal.main_arg16 rfl).trans (final_arg16 m c),
     (h c Cert.ReferenceIdeal.main_arg17 rfl).trans (final_arg17 m c)⟩,
    sem_eq_zero_of_no_sems (by decide) r.2⟩) (Cert.ReferenceIdeal.Value.run_fold (F := Ideal) m ρ)

/-- Two blocks of one batch entry that agree at every row and column are one. -/
theorem same_block {f g : (⟨3, ![1, 1024, 1024]⟩ : Shape).Idx → EReal} (h : ∀ i j : Fin 1024, f (ix3 0 i j) = g (ix3 0 i j)) : f = g := by
  funext idx
  rw [eq_ix3 idx, show idx 0 = (0 : Fin 1) from Subsingleton.elim (α := Fin 1) _ _]
  exact h _ _

/-- From arguments that agree and meet the precondition, the two programs leave one result. -/
theorem results_agree [Cert.Pre_finite_unmasked.Facts]
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) = (fun _ => 1#1))
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    :
    StableHlo.finalContents Cert.ReferenceIdeal.Value.condOps Cert.ReferenceIdeal.Value.preI Cert.ReferenceIdeal.Value.bodyI Cert.ReferenceIdeal.Value.postI 1024 m' c
        (Proc.devRef .tc Cert.ReferenceIdeal.main_v148)
      = Cert.KernelIdeal.Gen.W8 m g c (Proc.devRef .tc Cert.KernelIdeal.main_v0) := by
  obtain ⟨H, h2⟩ := of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (congrFun hpre ix0)
  generalize inp _ _ _ _ _ _ _ _ _ _ _ _ _ _ _ _ _ = I at H
  have H' := H
  rw [← e0, ← e1, ← e3, ← e4, ← e5, ← e6, ← e7, ← e8, ← e9, ← e10, ← e11, ← e12, ← e13, ← e14, ← e15, ← e16, ← e17] at H'
  exact same_block fun i j => (reference_value I m' c H' (e2.trans h2) i j).trans (kernel_value m g c I H i j).symm

theorem algebraic : Cert.algebraic_KernelIdeal_ReferenceIdeal_pre_finite_unmasked (hKernelIdeal := Cert.KernelIdeal.Gen.facts)
    (hReferenceIdeal := Cert.ReferenceIdeal.Gen.facts) (hPre_finite_unmasked := pre_facts) := by
  intro m g m' g' hpre hag
  refine ⟨fun c => Cert.KernelIdeal.Gen.W8 m g c (Proc.devRef .tc Cert.KernelIdeal.main_v0), ?_, ?_⟩
  · exact (θ_run Cert.KernelIdeal.defs _ _).mono (fun r h c =>
      ⟨h c _ (Cert.KernelIdeal.Gen.mem_uc Cert.KernelIdeal.main_v0 (by decide)),
       (h c _ (Cert.KernelIdeal.Gen.mem_uc Cert.KernelIdeal.main_arg0 (by decide))).trans (Cert.KernelIdeal.Gen.W8_main_arg0 m g c),
       (h c _ (Cert.KernelIdeal.Gen.mem_uc Cert.KernelIdeal.main_arg1 (by decide))).trans (Cert.KernelIdeal.Gen.W8_main_arg1 m g c),
       (h c _ (Cert.KernelIdeal.Gen.mem_uc Cert.KernelIdeal.main_arg2 (by decide))).trans (Cert.KernelIdeal.Gen.W8_main_arg2 m g c),
       (h c _ (Cert.KernelIdeal.Gen.mem_uc Cert.KernelIdeal.main_arg3 (by decide))).trans (Cert.KernelIdeal.Gen.W8_main_arg3 m g c),
       (h c _ (Cert.KernelIdeal.Gen.mem_uc Cert.KernelIdeal.main_arg4 (by decide))).trans (Cert.KernelIdeal.Gen.W8_main_arg4 m g c),
       (h c _ (Cert.KernelIdeal.Gen.mem_uc Cert.KernelIdeal.main_arg5 (by decide))).trans (Cert.KernelIdeal.Gen.W8_main_arg5 m g c),
       (h c _ (Cert.KernelIdeal.Gen.mem_uc Cert.KernelIdeal.main_arg6 (by decide))).trans (Cert.KernelIdeal.Gen.W8_main_arg6 m g c),
       (h c _ (Cert.KernelIdeal.Gen.mem_uc Cert.KernelIdeal.main_arg7 (by decide))).trans (Cert.KernelIdeal.Gen.W8_main_arg7 m g c),
       (h c _ (Cert.KernelIdeal.Gen.mem_uc Cert.KernelIdeal.main_arg8 (by decide))).trans (Cert.KernelIdeal.Gen.W8_main_arg8 m g c),
       (h c _ (Cert.KernelIdeal.Gen.mem_uc Cert.KernelIdeal.main_arg9 (by decide))).trans (Cert.KernelIdeal.Gen.W8_main_arg9 m g c),
       (h c _ (Cert.KernelIdeal.Gen.mem_uc Cert.KernelIdeal.main_arg10 (by decide))).trans (Cert.KernelIdeal.Gen.W8_main_arg10 m g c),
       (h c _ (Cert.KernelIdeal.Gen.mem_uc Cert.KernelIdeal.main_arg11 (by decide))).trans (Cert.KernelIdeal.Gen.W8_main_arg11 m g c),
       (h c _ (Cert.KernelIdeal.Gen.mem_uc Cert.KernelIdeal.main_arg12 (by decide))).trans (Cert.KernelIdeal.Gen.W8_main_arg12 m g c),
       (h c _ (Cert.KernelIdeal.Gen.mem_uc Cert.KernelIdeal.main_arg13 (by decide))).trans (Cert.KernelIdeal.Gen.W8_main_arg13 m g c),
       (h c _ (Cert.KernelIdeal.Gen.mem_uc Cert.KernelIdeal.main_arg14 (by decide))).trans (Cert.KernelIdeal.Gen.W8_main_arg14 m g c),
       (h c _ (Cert.KernelIdeal.Gen.mem_uc Cert.KernelIdeal.main_arg15 (by decide))).trans (Cert.KernelIdeal.Gen.W8_main_arg15 m g c),
       (h c _ (Cert.KernelIdeal.Gen.mem_uc Cert.KernelIdeal.main_arg16 (by decide))).trans (Cert.KernelIdeal.Gen.W8_main_arg16 m g c),
       (h c _ (Cert.KernelIdeal.Gen.mem_uc Cert.KernelIdeal.main_arg17 (by decide))).trans (Cert.KernelIdeal.Gen.W8_main_arg17 m g c)⟩) (kernel_run (F := Ideal) m g)
  · refine (θ_run Cert.ReferenceIdeal.defs _ _).mono (fun r h c => ?_) (Cert.ReferenceIdeal.Value.run_fold (F := Ideal) m' g')
    obtain ⟨e0, e1, e2, e3, e4, e5, e6, e7, e8, e9, e10, e11, e12, e13, e14, e15, e16, e17⟩ := hag c
    haveI := pre_facts
    exact ⟨(h c Cert.ReferenceIdeal.main_v148 rfl).trans (results_agree m g m' c (hpre c) e0 e1 e2 e3 e4 e5 e6 e7 e8 e9 e10 e11 e12 e13 e14 e15 e16 e17),
       (h c Cert.ReferenceIdeal.main_arg0 rfl).trans (final_arg0 m' c),
       (h c Cert.ReferenceIdeal.main_arg1 rfl).trans (final_arg1 m' c),
       (h c Cert.ReferenceIdeal.main_arg2 rfl).trans (final_arg2 m' c),
       (h c Cert.ReferenceIdeal.main_arg3 rfl).trans (final_arg3 m' c),
       (h c Cert.ReferenceIdeal.main_arg4 rfl).trans (final_arg4 m' c),
       (h c Cert.ReferenceIdeal.main_arg5 rfl).trans (final_arg5 m' c),
       (h c Cert.ReferenceIdeal.main_arg6 rfl).trans (final_arg6 m' c),
       (h c Cert.ReferenceIdeal.main_arg7 rfl).trans (final_arg7 m' c),
       (h c Cert.ReferenceIdeal.main_arg8 rfl).trans (final_arg8 m' c),
       (h c Cert.ReferenceIdeal.main_arg9 rfl).trans (final_arg9 m' c),
       (h c Cert.ReferenceIdeal.main_arg10 rfl).trans (final_arg10 m' c),
       (h c Cert.ReferenceIdeal.main_arg11 rfl).trans (final_arg11 m' c),
       (h c Cert.ReferenceIdeal.main_arg12 rfl).trans (final_arg12 m' c),
       (h c Cert.ReferenceIdeal.main_arg13 rfl).trans (final_arg13 m' c),
       (h c Cert.ReferenceIdeal.main_arg14 rfl).trans (final_arg14 m' c),
       (h c Cert.ReferenceIdeal.main_arg15 rfl).trans (final_arg15 m' c),
       (h c Cert.ReferenceIdeal.main_arg16 rfl).trans (final_arg16 m' c),
       (h c Cert.ReferenceIdeal.main_arg17 rfl).trans (final_arg17 m' c)⟩

theorem claim : Cert.Claim :=
  ⟨Cert.Kernel.Gen.facts, Cert.KernelIdeal.Gen.facts, Cert.ReferenceIdeal.Gen.facts, pre_facts,
   fun m ρ _ => Cert.Kernel.Gen.frame m ρ, fun m ρ _ => Cert.KernelIdeal.Gen.frame m ρ, fun m ρ _ => Cert.KernelIdeal.Gen.frame m ρ,
   frame_r, fun m ρ _ => frame_r m ρ trivial, trivial, algebraic⟩

end Cert.Proof

end
